-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0))) = (fun _ => 1#1)

def Pre_Moe [hPre_experts_in_range : Cert.Pre_experts_in_range.Facts] (m : (ℓ : Loc Cert.Moe.nD Cert.Moe.τ Cert.Moe.sig) → Buf (Elt Bits) ℓ) : Prop :=
  ∀ c : Dev Cert.Moe.nD,
    (Cert.Pre_experts_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_experts_in_range : Cert.Pre_experts_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_experts_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_experts_in_range [hPre_experts_in_range : Cert.Pre_experts_in_range.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_experts_in_range.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4)) (m ((c.tc : Thread Cert.MoeReferenceIdeal.nD Cert.MoeReferenceIdeal.τ).loc Cert.MoeReferenceIdeal.main_arg5)) (m ((c.tc : Thread Cert.MoeReferenceIdeal.nD Cert.MoeReferenceIdeal.τ).loc Cert.MoeReferenceIdeal.main_arg6)) (m ((c.tc : Thread Cert.MoeReferenceIdeal.nD Cert.MoeReferenceIdeal.τ).loc Cert.MoeReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Gmlp (m : (ℓ : Loc Cert.Gmlp.nD Cert.Gmlp.τ Cert.Gmlp.sig) → Buf (Elt Bits) ℓ) : Prop :=
  True

def Pre_GmlpIdeal (m : (ℓ : Loc Cert.GmlpIdeal.nD Cert.GmlpIdeal.τ Cert.GmlpIdeal.sig) → Buf (Elt Ideal) ℓ) : Prop :=
  True

def Pre_GmlpReferenceIdeal (m : (ℓ : Loc Cert.GmlpReferenceIdeal.nD Cert.GmlpReferenceIdeal.τ Cert.GmlpReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_projection [hPre_finite_projection : Cert.Pre_finite_projection.Facts] (m : (ℓ : Loc Cert.QkvIdeal.nD Cert.QkvIdeal.τ Cert.QkvIdeal.sig) → Buf (Elt Ideal) ℓ) : Prop :=
  ∀ c : Dev Cert.QkvIdeal.nD,
    (Cert.Pre_finite_projection.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7))) = (fun _ => 1#1)

def Pre_QkvReferenceIdeal (m : (ℓ : Loc Cert.QkvReferenceIdeal.nD Cert.QkvReferenceIdeal.τ Cert.QkvReferenceIdeal.sig) → Buf (Elt Ideal) ℓ) : Prop :=
  True

def Pre_QkvReferenceIdeal_finite_projection [hPre_finite_projection : Cert.Pre_finite_projection.Facts] (m : (ℓ : Loc Cert.QkvReferenceIdeal.nD Cert.QkvReferenceIdeal.τ Cert.QkvReferenceIdeal.sig) → Buf (Elt Ideal) ℓ) : Prop :=
  ∀ c : Dev Cert.QkvReferenceIdeal.nD,
    (Cert.Pre_finite_projection.fn (F := Ideal) (m ((c.tc : Thread Cert.QkvReferenceIdeal.nD Cert.QkvReferenceIdeal.τ).loc Cert.QkvReferenceIdeal.main_arg0)) (m ((c.tc : Thread Cert.QkvReferenceIdeal.nD Cert.QkvReferenceIdeal.τ).loc Cert.QkvReferenceIdeal.main_arg1)) (m ((c.tc : Thread Cert.QkvReferenceIdeal.nD Cert.QkvReferenceIdeal.τ).loc Cert.QkvReferenceIdeal.main_arg2)) (m ((c.tc : Thread Cert.QkvReferenceIdeal.nD Cert.QkvReferenceIdeal.τ).loc Cert.QkvReferenceIdeal.main_arg3)) (m ((c.tc : Thread Cert.QkvReferenceIdeal.nD Cert.QkvReferenceIdeal.τ).loc Cert.QkvReferenceIdeal.main_arg4)) (m ((c.tc : Thread Cert.QkvReferenceIdeal.nD Cert.QkvReferenceIdeal.τ).loc Cert.QkvReferenceIdeal.main_arg5)) (m ((c.tc : Thread Cert.QkvReferenceIdeal.nD Cert.QkvReferenceIdeal.τ).loc Cert.QkvReferenceIdeal.main_arg6)) (m ((c.tc : Thread Cert.QkvReferenceIdeal.nD Cert.QkvReferenceIdeal.τ).loc Cert.QkvReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Moe [hMoe : Cert.Moe.Facts] [hPre_experts_in_range : Cert.Pre_experts_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7))
      ∧ r.2.sem = fun _ => 0)

def quiescent_MoeReferenceIdeal_pre_experts_in_range [hMoeReferenceIdeal : Cert.MoeReferenceIdeal.Facts] [hPre_experts_in_range : Cert.Pre_experts_in_range.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_experts_in_range m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4)
      ∧ r.2.mem ((c.tc : Thread Cert.MoeReferenceIdeal.nD Cert.MoeReferenceIdeal.τ).loc Cert.MoeReferenceIdeal.main_arg5) = m ((c.tc : Thread Cert.MoeReferenceIdeal.nD Cert.MoeReferenceIdeal.τ).loc Cert.MoeReferenceIdeal.main_arg5)
      ∧ r.2.mem ((c.tc : Thread Cert.MoeReferenceIdeal.nD Cert.MoeReferenceIdeal.τ).loc Cert.MoeReferenceIdeal.main_arg6) = m ((c.tc : Thread Cert.MoeReferenceIdeal.nD Cert.MoeReferenceIdeal.τ).loc Cert.MoeReferenceIdeal.main_arg6)
      ∧ r.2.mem ((c.tc : Thread Cert.MoeReferenceIdeal.nD Cert.MoeReferenceIdeal.τ).loc Cert.MoeReferenceIdeal.main_arg7) = m ((c.tc : Thread Cert.MoeReferenceIdeal.nD Cert.MoeReferenceIdeal.τ).loc Cert.MoeReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Gmlp [hGmlp : Cert.Gmlp.Facts] : Prop :=
  ∀ (m : (ℓ : Loc Cert.Gmlp.nD Cert.Gmlp.τ Cert.Gmlp.sig) → Buf (Elt Bits) ℓ) (g : Dev Cert.Gmlp.nD → PrngReg), Pre_Gmlp m →
    θ_run (Cert.Gmlp.defs (F := Bits)) (onTc (τ := Cert.Gmlp.τ) (Cert.Gmlp.main (F := Bits))) ⟨m, fun _ => 0, g⟩ (fun r => (∀ c : Dev Cert.Gmlp.nD,
      r.2.mem ((c.tc : Thread Cert.Gmlp.nD Cert.Gmlp.τ).loc Cert.Gmlp.main_arg0) = m ((c.tc : Thread Cert.Gmlp.nD Cert.Gmlp.τ).loc Cert.Gmlp.main_arg0)
      ∧ r.2.mem ((c.tc : Thread Cert.Gmlp.nD Cert.Gmlp.τ).loc Cert.Gmlp.main_arg1) = m ((c.tc : Thread Cert.Gmlp.nD Cert.Gmlp.τ).loc Cert.Gmlp.main_arg1)
      ∧ r.2.mem ((c.tc : Thread Cert.Gmlp.nD Cert.Gmlp.τ).loc Cert.Gmlp.main_arg2) = m ((c.tc : Thread Cert.Gmlp.nD Cert.Gmlp.τ).loc Cert.Gmlp.main_arg2)
      ∧ r.2.mem ((c.tc : Thread Cert.Gmlp.nD Cert.Gmlp.τ).loc Cert.Gmlp.main_arg3) = m ((c.tc : Thread Cert.Gmlp.nD Cert.Gmlp.τ).loc Cert.Gmlp.main_arg3)
      ∧ r.2.mem ((c.tc : Thread Cert.Gmlp.nD Cert.Gmlp.τ).loc Cert.Gmlp.main_arg4) = m ((c.tc : Thread Cert.Gmlp.nD Cert.Gmlp.τ).loc Cert.Gmlp.main_arg4)
      ∧ r.2.mem ((c.tc : Thread Cert.Gmlp.nD Cert.Gmlp.τ).loc Cert.Gmlp.main_arg5) = m ((c.tc : Thread Cert.Gmlp.nD Cert.Gmlp.τ).loc Cert.Gmlp.main_arg5)
      ∧ r.2.mem ((c.tc : Thread Cert.Gmlp.nD Cert.Gmlp.τ).loc Cert.Gmlp.main_arg6) = m ((c.tc : Thread Cert.Gmlp.nD Cert.Gmlp.τ).loc Cert.Gmlp.main_arg6)
      ∧ r.2.mem ((c.tc : Thread Cert.Gmlp.nD Cert.Gmlp.τ).loc Cert.Gmlp.main_arg7) = m ((c.tc : Thread Cert.Gmlp.nD Cert.Gmlp.τ).loc Cert.Gmlp.main_arg7)
      ∧ r.2.mem ((c.tc : Thread Cert.Gmlp.nD Cert.Gmlp.τ).loc Cert.Gmlp.main_arg8) = m ((c.tc : Thread Cert.Gmlp.nD Cert.Gmlp.τ).loc Cert.Gmlp.main_arg8))
      ∧ r.2.sem = fun _ => 0)

def quiescent_GmlpIdeal [hGmlpIdeal : Cert.GmlpIdeal.Facts] : Prop :=
  ∀ (m : (ℓ : Loc Cert.GmlpIdeal.nD Cert.GmlpIdeal.τ Cert.GmlpIdeal.sig) → Buf (Elt Ideal) ℓ) (g : Dev Cert.GmlpIdeal.nD → PrngReg), Pre_GmlpIdeal m →
    θ_run (Cert.GmlpIdeal.defs (F := Ideal)) (onTc (τ := Cert.GmlpIdeal.τ) (Cert.GmlpIdeal.main (F := Ideal))) ⟨m, fun _ => 0, g⟩ (fun r => (∀ c : Dev Cert.GmlpIdeal.nD,
      r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
      ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
      ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
      ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
      ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
      ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
      ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
      ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7)
      ∧ r.2.mem ((c.tc : Thread Cert.GmlpIdeal.nD Cert.GmlpIdeal.τ).loc Cert.GmlpIdeal.main_arg8) = m ((c.tc : Thread Cert.GmlpIdeal.nD Cert.GmlpIdeal.τ).loc Cert.GmlpIdeal.main_arg8))
      ∧ r.2.sem = fun _ => 0)

def quiescent_GmlpReferenceIdeal [hGmlpReferenceIdeal : Cert.GmlpReferenceIdeal.Facts] : Prop :=
  ∀ (m : (ℓ : Loc Cert.GmlpReferenceIdeal.nD Cert.GmlpReferenceIdeal.τ Cert.GmlpReferenceIdeal.sig) → Buf (Elt Ideal) ℓ) (g : Dev Cert.GmlpReferenceIdeal.nD → PrngReg), Pre_GmlpReferenceIdeal m →
    θ_run (Cert.GmlpReferenceIdeal.defs (F := Ideal)) (onTc (τ := Cert.GmlpReferenceIdeal.τ) (Cert.GmlpReferenceIdeal.main (F := Ideal))) ⟨m, fun _ => 0, g⟩ (fun r => (∀ c : Dev Cert.GmlpReferenceIdeal.nD,
      r.2.mem ((c.tc : Thread Cert.GmlpReferenceIdeal.nD Cert.GmlpReferenceIdeal.τ).loc Cert.GmlpReferenceIdeal.main_arg0) = m ((c.tc : Thread Cert.GmlpReferenceIdeal.nD Cert.GmlpReferenceIdeal.τ).loc Cert.GmlpReferenceIdeal.main_arg0)
      ∧ r.2.mem ((c.tc : Thread Cert.GmlpReferenceIdeal.nD Cert.GmlpReferenceIdeal.τ).loc Cert.GmlpReferenceIdeal.main_arg1) = m ((c.tc : Thread Cert.GmlpReferenceIdeal.nD Cert.GmlpReferenceIdeal.τ).loc Cert.GmlpReferenceIdeal.main_arg1)
      ∧ r.2.mem ((c.tc : Thread Cert.GmlpReferenceIdeal.nD Cert.GmlpReferenceIdeal.τ).loc Cert.GmlpReferenceIdeal.main_arg2) = m ((c.tc : Thread Cert.GmlpReferenceIdeal.nD Cert.GmlpReferenceIdeal.τ).loc Cert.GmlpReferenceIdeal.main_arg2)
      ∧ r.2.mem ((c.tc : Thread Cert.GmlpReferenceIdeal.nD Cert.GmlpReferenceIdeal.τ).loc Cert.GmlpReferenceIdeal.main_arg3) = m ((c.tc : Thread Cert.GmlpReferenceIdeal.nD Cert.GmlpReferenceIdeal.τ).loc Cert.GmlpReferenceIdeal.main_arg3)
      ∧ r.2.mem ((c.tc : Thread Cert.GmlpReferenceIdeal.nD Cert.GmlpReferenceIdeal.τ).loc Cert.GmlpReferenceIdeal.main_arg4) = m ((c.tc : Thread Cert.GmlpReferenceIdeal.nD Cert.GmlpReferenceIdeal.τ).loc Cert.GmlpReferenceIdeal.main_arg4)
      ∧ r.2.mem ((c.tc : Thread Cert.GmlpReferenceIdeal.nD Cert.GmlpReferenceIdeal.τ).loc Cert.GmlpReferenceIdeal.main_arg5) = m ((c.tc : Thread Cert.GmlpReferenceIdeal.nD Cert.GmlpReferenceIdeal.τ).loc Cert.GmlpReferenceIdeal.main_arg5)
      ∧ r.2.mem ((c.tc : Thread Cert.GmlpReferenceIdeal.nD Cert.GmlpReferenceIdeal.τ).loc Cert.GmlpReferenceIdeal.main_arg6) = m ((c.tc : Thread Cert.GmlpReferenceIdeal.nD Cert.GmlpReferenceIdeal.τ).loc Cert.GmlpReferenceIdeal.main_arg6)
      ∧ r.2.mem ((c.tc : Thread Cert.GmlpReferenceIdeal.nD Cert.GmlpReferenceIdeal.τ).loc Cert.GmlpReferenceIdeal.main_arg7) = m ((c.tc : Thread Cert.GmlpReferenceIdeal.nD Cert.GmlpReferenceIdeal.τ).loc Cert.GmlpReferenceIdeal.main_arg7)
      ∧ r.2.mem ((c.tc : Thread Cert.GmlpReferenceIdeal.nD Cert.GmlpReferenceIdeal.τ).loc Cert.GmlpReferenceIdeal.main_arg8) = m ((c.tc : Thread Cert.GmlpReferenceIdeal.nD Cert.GmlpReferenceIdeal.τ).loc Cert.GmlpReferenceIdeal.main_arg8))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvIdeal_pre_finite_projection [hQkvIdeal : Cert.QkvIdeal.Facts] [hPre_finite_projection : Cert.Pre_finite_projection.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_projection m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7))
      ∧ r.2.sem = fun _ => 0)

def quiescent_QkvReferenceIdeal_pre_finite_projection [hQkvReferenceIdeal : Cert.QkvReferenceIdeal.Facts] [hPre_finite_projection : Cert.Pre_finite_projection.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal_finite_projection m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2)
      ∧ r.2.mem ((c.tc : Thread Cert.QkvReferenceIdeal.nD Cert.QkvReferenceIdeal.τ).loc Cert.QkvReferenceIdeal.main_arg3) = m ((c.tc : Thread Cert.QkvReferenceIdeal.nD Cert.QkvReferenceIdeal.τ).loc Cert.QkvReferenceIdeal.main_arg3)
      ∧ r.2.mem ((c.tc : Thread Cert.QkvReferenceIdeal.nD Cert.QkvReferenceIdeal.τ).loc Cert.QkvReferenceIdeal.main_arg4) = m ((c.tc : Thread Cert.QkvReferenceIdeal.nD Cert.QkvReferenceIdeal.τ).loc Cert.QkvReferenceIdeal.main_arg4)
      ∧ r.2.mem ((c.tc : Thread Cert.QkvReferenceIdeal.nD Cert.QkvReferenceIdeal.τ).loc Cert.QkvReferenceIdeal.main_arg5) = m ((c.tc : Thread Cert.QkvReferenceIdeal.nD Cert.QkvReferenceIdeal.τ).loc Cert.QkvReferenceIdeal.main_arg5)
      ∧ r.2.mem ((c.tc : Thread Cert.QkvReferenceIdeal.nD Cert.QkvReferenceIdeal.τ).loc Cert.QkvReferenceIdeal.main_arg6) = m ((c.tc : Thread Cert.QkvReferenceIdeal.nD Cert.QkvReferenceIdeal.τ).loc Cert.QkvReferenceIdeal.main_arg6)
      ∧ r.2.mem ((c.tc : Thread Cert.QkvReferenceIdeal.nD Cert.QkvReferenceIdeal.τ).loc Cert.QkvReferenceIdeal.main_arg7) = m ((c.tc : Thread Cert.QkvReferenceIdeal.nD Cert.QkvReferenceIdeal.τ).loc Cert.QkvReferenceIdeal.main_arg7))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Moe_MoeIdeal : Prop :=
  True

def algebraic_MoeIdeal_MoeReferenceIdeal [hMoeIdeal : Cert.MoeIdeal.Facts] [hMoeReferenceIdeal : Cert.MoeReferenceIdeal.Facts] [hPre_experts_in_range : Cert.Pre_experts_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)
      ∧ m' ((c.tc : Thread Cert.MoeReferenceIdeal.nD Cert.MoeReferenceIdeal.τ).loc Cert.MoeReferenceIdeal.main_arg5) = m ((c.tc : Thread Cert.MoeIdeal.nD Cert.MoeIdeal.τ).loc Cert.MoeIdeal.main_arg5)
      ∧ m' ((c.tc : Thread Cert.MoeReferenceIdeal.nD Cert.MoeReferenceIdeal.τ).loc Cert.MoeReferenceIdeal.main_arg6) = m ((c.tc : Thread Cert.MoeIdeal.nD Cert.MoeIdeal.τ).loc Cert.MoeIdeal.main_arg6)
      ∧ m' ((c.tc : Thread Cert.MoeReferenceIdeal.nD Cert.MoeReferenceIdeal.τ).loc Cert.MoeReferenceIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v316) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4)
          ∧ r.2.mem ((c.tc : Thread Cert.MoeReferenceIdeal.nD Cert.MoeReferenceIdeal.τ).loc Cert.MoeReferenceIdeal.main_arg5) = m' ((c.tc : Thread Cert.MoeReferenceIdeal.nD Cert.MoeReferenceIdeal.τ).loc Cert.MoeReferenceIdeal.main_arg5)
          ∧ r.2.mem ((c.tc : Thread Cert.MoeReferenceIdeal.nD Cert.MoeReferenceIdeal.τ).loc Cert.MoeReferenceIdeal.main_arg6) = m' ((c.tc : Thread Cert.MoeReferenceIdeal.nD Cert.MoeReferenceIdeal.τ).loc Cert.MoeReferenceIdeal.main_arg6)
          ∧ r.2.mem ((c.tc : Thread Cert.MoeReferenceIdeal.nD Cert.MoeReferenceIdeal.τ).loc Cert.MoeReferenceIdeal.main_arg7) = m' ((c.tc : Thread Cert.MoeReferenceIdeal.nD Cert.MoeReferenceIdeal.τ).loc Cert.MoeReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v88) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Gmlp_GmlpIdeal : Prop :=
  IdealRules.named_const.Statement Cert.GmlpIdeal.κ "cubic" .f32 0xBDD2D3E8#32 ((((-2) * ((6693141 / 8388608) * (Real.log 2)⁻¹)) * (12003091 / 268435456) : ℝ) : EReal)
  ∧ IdealRules.named_const.Statement Cert.GmlpIdeal.κ "rate" .f32 0xC0135761#32 (((-2) * ((6693141 / 8388608) * (Real.log 2)⁻¹) : ℝ) : EReal)

def algebraic_GmlpIdeal_GmlpReferenceIdeal [hGmlpIdeal : Cert.GmlpIdeal.Facts] [hGmlpReferenceIdeal : Cert.GmlpReferenceIdeal.Facts] : Prop :=
  ∀ (m : (ℓ : Loc Cert.GmlpIdeal.nD Cert.GmlpIdeal.τ Cert.GmlpIdeal.sig) → Buf (Elt Ideal) ℓ) (g : Dev Cert.GmlpIdeal.nD → PrngReg)
    (m' : (ℓ : Loc Cert.GmlpReferenceIdeal.nD Cert.GmlpReferenceIdeal.τ Cert.GmlpReferenceIdeal.sig) → Buf (Elt Ideal) ℓ) (g' : Dev Cert.GmlpReferenceIdeal.nD → PrngReg), Pre_GmlpIdeal m →
    (∀ c : Dev Cert.GmlpIdeal.nD,
      m' ((c.tc : Thread Cert.GmlpReferenceIdeal.nD Cert.GmlpReferenceIdeal.τ).loc Cert.GmlpReferenceIdeal.main_arg0) = m ((c.tc : Thread Cert.GmlpIdeal.nD Cert.GmlpIdeal.τ).loc Cert.GmlpIdeal.main_arg0)
      ∧ m' ((c.tc : Thread Cert.GmlpReferenceIdeal.nD Cert.GmlpReferenceIdeal.τ).loc Cert.GmlpReferenceIdeal.main_arg1) = m ((c.tc : Thread Cert.GmlpIdeal.nD Cert.GmlpIdeal.τ).loc Cert.GmlpIdeal.main_arg1)
      ∧ m' ((c.tc : Thread Cert.GmlpReferenceIdeal.nD Cert.GmlpReferenceIdeal.τ).loc Cert.GmlpReferenceIdeal.main_arg2) = m ((c.tc : Thread Cert.GmlpIdeal.nD Cert.GmlpIdeal.τ).loc Cert.GmlpIdeal.main_arg2)
      ∧ m' ((c.tc : Thread Cert.GmlpReferenceIdeal.nD Cert.GmlpReferenceIdeal.τ).loc Cert.GmlpReferenceIdeal.main_arg3) = m ((c.tc : Thread Cert.GmlpIdeal.nD Cert.GmlpIdeal.τ).loc Cert.GmlpIdeal.main_arg3)
      ∧ m' ((c.tc : Thread Cert.GmlpReferenceIdeal.nD Cert.GmlpReferenceIdeal.τ).loc Cert.GmlpReferenceIdeal.main_arg4) = m ((c.tc : Thread Cert.GmlpIdeal.nD Cert.GmlpIdeal.τ).loc Cert.GmlpIdeal.main_arg4)
      ∧ m' ((c.tc : Thread Cert.GmlpReferenceIdeal.nD Cert.GmlpReferenceIdeal.τ).loc Cert.GmlpReferenceIdeal.main_arg5) = m ((c.tc : Thread Cert.GmlpIdeal.nD Cert.GmlpIdeal.τ).loc Cert.GmlpIdeal.main_arg5)
      ∧ m' ((c.tc : Thread Cert.GmlpReferenceIdeal.nD Cert.GmlpReferenceIdeal.τ).loc Cert.GmlpReferenceIdeal.main_arg6) = m ((c.tc : Thread Cert.GmlpIdeal.nD Cert.GmlpIdeal.τ).loc Cert.GmlpIdeal.main_arg6)
      ∧ m' ((c.tc : Thread Cert.GmlpReferenceIdeal.nD Cert.GmlpReferenceIdeal.τ).loc Cert.GmlpReferenceIdeal.main_arg7) = m ((c.tc : Thread Cert.GmlpIdeal.nD Cert.GmlpIdeal.τ).loc Cert.GmlpIdeal.main_arg7)
      ∧ m' ((c.tc : Thread Cert.GmlpReferenceIdeal.nD Cert.GmlpReferenceIdeal.τ).loc Cert.GmlpReferenceIdeal.main_arg8) = m ((c.tc : Thread Cert.GmlpIdeal.nD Cert.GmlpIdeal.τ).loc Cert.GmlpIdeal.main_arg8)) →
    ∃ (v0 : (c : Dev Cert.GmlpIdeal.nD) → Buf (Elt Ideal) ((c.tc : Thread Cert.GmlpIdeal.nD Cert.GmlpIdeal.τ).loc Cert.GmlpIdeal.main_v16)),
      θ_run (Cert.GmlpIdeal.defs (F := Ideal)) (onTc (τ := Cert.GmlpIdeal.τ) (Cert.GmlpIdeal.main (F := Ideal))) ⟨m, fun _ => 0, g⟩ (fun r => ∀ c : Dev Cert.GmlpIdeal.nD,
          r.2.mem ((c.tc : Thread Cert.GmlpIdeal.nD Cert.GmlpIdeal.τ).loc Cert.GmlpIdeal.main_v16) = v0 c
          ∧ r.2.mem ((c.tc : Thread Cert.GmlpIdeal.nD Cert.GmlpIdeal.τ).loc Cert.GmlpIdeal.main_arg0) = m ((c.tc : Thread Cert.GmlpIdeal.nD Cert.GmlpIdeal.τ).loc Cert.GmlpIdeal.main_arg0)
          ∧ r.2.mem ((c.tc : Thread Cert.GmlpIdeal.nD Cert.GmlpIdeal.τ).loc Cert.GmlpIdeal.main_arg1) = m ((c.tc : Thread Cert.GmlpIdeal.nD Cert.GmlpIdeal.τ).loc Cert.GmlpIdeal.main_arg1)
          ∧ r.2.mem ((c.tc : Thread Cert.GmlpIdeal.nD Cert.GmlpIdeal.τ).loc Cert.GmlpIdeal.main_arg2) = m ((c.tc : Thread Cert.GmlpIdeal.nD Cert.GmlpIdeal.τ).loc Cert.GmlpIdeal.main_arg2)
          ∧ r.2.mem ((c.tc : Thread Cert.GmlpIdeal.nD Cert.GmlpIdeal.τ).loc Cert.GmlpIdeal.main_arg3) = m ((c.tc : Thread Cert.GmlpIdeal.nD Cert.GmlpIdeal.τ).loc Cert.GmlpIdeal.main_arg3)
          ∧ r.2.mem ((c.tc : Thread Cert.GmlpIdeal.nD Cert.GmlpIdeal.τ).loc Cert.GmlpIdeal.main_arg4) = m ((c.tc : Thread Cert.GmlpIdeal.nD Cert.GmlpIdeal.τ).loc Cert.GmlpIdeal.main_arg4)
          ∧ r.2.mem ((c.tc : Thread Cert.GmlpIdeal.nD Cert.GmlpIdeal.τ).loc Cert.GmlpIdeal.main_arg5) = m ((c.tc : Thread Cert.GmlpIdeal.nD Cert.GmlpIdeal.τ).loc Cert.GmlpIdeal.main_arg5)
          ∧ r.2.mem ((c.tc : Thread Cert.GmlpIdeal.nD Cert.GmlpIdeal.τ).loc Cert.GmlpIdeal.main_arg6) = m ((c.tc : Thread Cert.GmlpIdeal.nD Cert.GmlpIdeal.τ).loc Cert.GmlpIdeal.main_arg6)
          ∧ r.2.mem ((c.tc : Thread Cert.GmlpIdeal.nD Cert.GmlpIdeal.τ).loc Cert.GmlpIdeal.main_arg7) = m ((c.tc : Thread Cert.GmlpIdeal.nD Cert.GmlpIdeal.τ).loc Cert.GmlpIdeal.main_arg7)
          ∧ r.2.mem ((c.tc : Thread Cert.GmlpIdeal.nD Cert.GmlpIdeal.τ).loc Cert.GmlpIdeal.main_arg8) = m ((c.tc : Thread Cert.GmlpIdeal.nD Cert.GmlpIdeal.τ).loc Cert.GmlpIdeal.main_arg8))
      ∧ θ_run (Cert.GmlpReferenceIdeal.defs (F := Ideal)) (onTc (τ := Cert.GmlpReferenceIdeal.τ) (Cert.GmlpReferenceIdeal.main (F := Ideal))) ⟨m', fun _ => 0, g'⟩ (fun r => ∀ c : Dev Cert.GmlpReferenceIdeal.nD,
          r.2.mem ((c.tc : Thread Cert.GmlpReferenceIdeal.nD Cert.GmlpReferenceIdeal.τ).loc Cert.GmlpReferenceIdeal.main_v164) = v0 c
          ∧ r.2.mem ((c.tc : Thread Cert.GmlpReferenceIdeal.nD Cert.GmlpReferenceIdeal.τ).loc Cert.GmlpReferenceIdeal.main_arg0) = m' ((c.tc : Thread Cert.GmlpReferenceIdeal.nD Cert.GmlpReferenceIdeal.τ).loc Cert.GmlpReferenceIdeal.main_arg0)
          ∧ r.2.mem ((c.tc : Thread Cert.GmlpReferenceIdeal.nD Cert.GmlpReferenceIdeal.τ).loc Cert.GmlpReferenceIdeal.main_arg1) = m' ((c.tc : Thread Cert.GmlpReferenceIdeal.nD Cert.GmlpReferenceIdeal.τ).loc Cert.GmlpReferenceIdeal.main_arg1)
          ∧ r.2.mem ((c.tc : Thread Cert.GmlpReferenceIdeal.nD Cert.GmlpReferenceIdeal.τ).loc Cert.GmlpReferenceIdeal.main_arg2) = m' ((c.tc : Thread Cert.GmlpReferenceIdeal.nD Cert.GmlpReferenceIdeal.τ).loc Cert.GmlpReferenceIdeal.main_arg2)
          ∧ r.2.mem ((c.tc : Thread Cert.GmlpReferenceIdeal.nD Cert.GmlpReferenceIdeal.τ).loc Cert.GmlpReferenceIdeal.main_arg3) = m' ((c.tc : Thread Cert.GmlpReferenceIdeal.nD Cert.GmlpReferenceIdeal.τ).loc Cert.GmlpReferenceIdeal.main_arg3)
          ∧ r.2.mem ((c.tc : Thread Cert.GmlpReferenceIdeal.nD Cert.GmlpReferenceIdeal.τ).loc Cert.GmlpReferenceIdeal.main_arg4) = m' ((c.tc : Thread Cert.GmlpReferenceIdeal.nD Cert.GmlpReferenceIdeal.τ).loc Cert.GmlpReferenceIdeal.main_arg4)
          ∧ r.2.mem ((c.tc : Thread Cert.GmlpReferenceIdeal.nD Cert.GmlpReferenceIdeal.τ).loc Cert.GmlpReferenceIdeal.main_arg5) = m' ((c.tc : Thread Cert.GmlpReferenceIdeal.nD Cert.GmlpReferenceIdeal.τ).loc Cert.GmlpReferenceIdeal.main_arg5)
          ∧ r.2.mem ((c.tc : Thread Cert.GmlpReferenceIdeal.nD Cert.GmlpReferenceIdeal.τ).loc Cert.GmlpReferenceIdeal.main_arg6) = m' ((c.tc : Thread Cert.GmlpReferenceIdeal.nD Cert.GmlpReferenceIdeal.τ).loc Cert.GmlpReferenceIdeal.main_arg6)
          ∧ r.2.mem ((c.tc : Thread Cert.GmlpReferenceIdeal.nD Cert.GmlpReferenceIdeal.τ).loc Cert.GmlpReferenceIdeal.main_arg7) = m' ((c.tc : Thread Cert.GmlpReferenceIdeal.nD Cert.GmlpReferenceIdeal.τ).loc Cert.GmlpReferenceIdeal.main_arg7)
          ∧ r.2.mem ((c.tc : Thread Cert.GmlpReferenceIdeal.nD Cert.GmlpReferenceIdeal.τ).loc Cert.GmlpReferenceIdeal.main_arg8) = m' ((c.tc : Thread Cert.GmlpReferenceIdeal.nD Cert.GmlpReferenceIdeal.τ).loc Cert.GmlpReferenceIdeal.main_arg8))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v3) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v12) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_Qkv_QkvIdeal : Prop :=
  IdealRules.named_const.Statement Cert.QkvIdeal.κ "query" .f32 0x3E38AA3B#32 (((1 / 8) * (Real.log 2)⁻¹ : ℝ) : EReal)

def algebraic_QkvIdeal_QkvReferenceIdeal_pre_finite_projection [hQkvIdeal : Cert.QkvIdeal.Facts] [hQkvReferenceIdeal : Cert.QkvReferenceIdeal.Facts] [hPre_finite_projection : Cert.Pre_finite_projection.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal_finite_projection m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)
      ∧ m' ((c.tc : Thread Cert.QkvReferenceIdeal.nD Cert.QkvReferenceIdeal.τ).loc Cert.QkvReferenceIdeal.main_arg2) = m ((c.tc : Thread Cert.QkvIdeal.nD Cert.QkvIdeal.τ).loc Cert.QkvIdeal.main_arg2)
      ∧ m' ((c.tc : Thread Cert.QkvReferenceIdeal.nD Cert.QkvReferenceIdeal.τ).loc Cert.QkvReferenceIdeal.main_arg3) = m ((c.tc : Thread Cert.QkvIdeal.nD Cert.QkvIdeal.τ).loc Cert.QkvIdeal.main_arg3)
      ∧ m' ((c.tc : Thread Cert.QkvReferenceIdeal.nD Cert.QkvReferenceIdeal.τ).loc Cert.QkvReferenceIdeal.main_arg4) = m ((c.tc : Thread Cert.QkvIdeal.nD Cert.QkvIdeal.τ).loc Cert.QkvIdeal.main_arg4)
      ∧ m' ((c.tc : Thread Cert.QkvReferenceIdeal.nD Cert.QkvReferenceIdeal.τ).loc Cert.QkvReferenceIdeal.main_arg5) = m ((c.tc : Thread Cert.QkvIdeal.nD Cert.QkvIdeal.τ).loc Cert.QkvIdeal.main_arg5)
      ∧ m' ((c.tc : Thread Cert.QkvReferenceIdeal.nD Cert.QkvReferenceIdeal.τ).loc Cert.QkvReferenceIdeal.main_arg6) = m ((c.tc : Thread Cert.QkvIdeal.nD Cert.QkvIdeal.τ).loc Cert.QkvIdeal.main_arg6)
      ∧ m' ((c.tc : Thread Cert.QkvReferenceIdeal.nD Cert.QkvReferenceIdeal.τ).loc Cert.QkvReferenceIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v45)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v45) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v217) = v0 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2)
          ∧ r.2.mem ((c.tc : Thread Cert.QkvReferenceIdeal.nD Cert.QkvReferenceIdeal.τ).loc Cert.QkvReferenceIdeal.main_arg3) = m' ((c.tc : Thread Cert.QkvReferenceIdeal.nD Cert.QkvReferenceIdeal.τ).loc Cert.QkvReferenceIdeal.main_arg3)
          ∧ r.2.mem ((c.tc : Thread Cert.QkvReferenceIdeal.nD Cert.QkvReferenceIdeal.τ).loc Cert.QkvReferenceIdeal.main_arg4) = m' ((c.tc : Thread Cert.QkvReferenceIdeal.nD Cert.QkvReferenceIdeal.τ).loc Cert.QkvReferenceIdeal.main_arg4)
          ∧ r.2.mem ((c.tc : Thread Cert.QkvReferenceIdeal.nD Cert.QkvReferenceIdeal.τ).loc Cert.QkvReferenceIdeal.main_arg5) = m' ((c.tc : Thread Cert.QkvReferenceIdeal.nD Cert.QkvReferenceIdeal.τ).loc Cert.QkvReferenceIdeal.main_arg5)
          ∧ r.2.mem ((c.tc : Thread Cert.QkvReferenceIdeal.nD Cert.QkvReferenceIdeal.τ).loc Cert.QkvReferenceIdeal.main_arg6) = m' ((c.tc : Thread Cert.QkvReferenceIdeal.nD Cert.QkvReferenceIdeal.τ).loc Cert.QkvReferenceIdeal.main_arg6)
          ∧ r.2.mem ((c.tc : Thread Cert.QkvReferenceIdeal.nD Cert.QkvReferenceIdeal.τ).loc Cert.QkvReferenceIdeal.main_arg7) = m' ((c.tc : Thread Cert.QkvReferenceIdeal.nD Cert.QkvReferenceIdeal.τ).loc Cert.QkvReferenceIdeal.main_arg7))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hFfn : Cert.Ffn.Facts) (hFfnIdeal : Cert.FfnIdeal.Facts) (hFfnReferenceIdeal : Cert.FfnReferenceIdeal.Facts) (hGmlp : Cert.Gmlp.Facts) (hGmlpIdeal : Cert.GmlpIdeal.Facts) (hGmlpReferenceIdeal : Cert.GmlpReferenceIdeal.Facts) (hProj : Cert.Proj.Facts) (hProjIdeal : Cert.ProjIdeal.Facts) (hProjReferenceIdeal : Cert.ProjReferenceIdeal.Facts) (hQkv : Cert.Qkv.Facts) (hQkvIdeal : Cert.QkvIdeal.Facts) (hQkvReferenceIdeal : Cert.QkvReferenceIdeal.Facts) (hPre_finite_queries_and_keys : Cert.Pre_finite_queries_and_keys.Facts) (hPre_experts_in_range : Cert.Pre_experts_in_range.Facts) (hPre_finite_projection : Cert.Pre_finite_projection.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Moe (hMoe := hMoe) (hPre_experts_in_range := hPre_experts_in_range)
    ∧ quiescent_MoeIdeal (hMoeIdeal := hMoeIdeal) (hPre_experts_in_range := hPre_experts_in_range)
    ∧ quiescent_MoeReferenceIdeal (hMoeReferenceIdeal := hMoeReferenceIdeal)
    ∧ quiescent_MoeReferenceIdeal_pre_experts_in_range (hMoeReferenceIdeal := hMoeReferenceIdeal) (hPre_experts_in_range := hPre_experts_in_range)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Gmlp (hGmlp := hGmlp)
    ∧ quiescent_GmlpIdeal (hGmlpIdeal := hGmlpIdeal)
    ∧ quiescent_GmlpReferenceIdeal (hGmlpReferenceIdeal := hGmlpReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Qkv (hQkv := hQkv)
    ∧ quiescent_QkvIdeal (hQkvIdeal := hQkvIdeal)
    ∧ quiescent_QkvIdeal_pre_finite_projection (hQkvIdeal := hQkvIdeal) (hPre_finite_projection := hPre_finite_projection)
    ∧ quiescent_QkvReferenceIdeal (hQkvReferenceIdeal := hQkvReferenceIdeal)
    ∧ quiescent_QkvReferenceIdeal_pre_finite_projection (hQkvReferenceIdeal := hQkvReferenceIdeal) (hPre_finite_projection := hPre_finite_projection)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Moe_MoeIdeal
    ∧ algebraic_MoeIdeal_MoeReferenceIdeal (hMoeIdeal := hMoeIdeal) (hMoeReferenceIdeal := hMoeReferenceIdeal) (hPre_experts_in_range := hPre_experts_in_range)
    ∧ preserves_Ffn_FfnIdeal
    ∧ algebraic_FfnIdeal_FfnReferenceIdeal (hFfnIdeal := hFfnIdeal) (hFfnReferenceIdeal := hFfnReferenceIdeal)
    ∧ preserves_Gmlp_GmlpIdeal
    ∧ algebraic_GmlpIdeal_GmlpReferenceIdeal (hGmlpIdeal := hGmlpIdeal) (hGmlpReferenceIdeal := hGmlpReferenceIdeal)
    ∧ preserves_Proj_ProjIdeal
    ∧ algebraic_ProjIdeal_ProjReferenceIdeal (hProjIdeal := hProjIdeal) (hProjReferenceIdeal := hProjReferenceIdeal)
    ∧ preserves_Qkv_QkvIdeal
    ∧ algebraic_QkvIdeal_QkvReferenceIdeal_pre_finite_projection (hQkvIdeal := hQkvIdeal) (hQkvReferenceIdeal := hQkvReferenceIdeal) (hPre_finite_projection := hPre_finite_projection)
-- ==== Pre_experts_in_range.lean ====
abbrev S72 : Shape := ⟨1, ![72]⟩
abbrev S1 : Shape := ⟨1, ![1]⟩
abbrev S12288x1024 : Shape := ⟨2, ![12288, 1024]⟩
abbrev S16x1024x3584 : Shape := ⟨3, ![16, 1024, 3584]⟩
abbrev S16x3584x1024 : Shape := ⟨3, ![16, 3584, 1024]⟩
abbrev S_ : Shape := ⟨0, ![]⟩

class Facts : Prop where
  bcast_S_S72 : S_.BroadcastsInDim S72 (![] : Fin 0 → Fin S72.rank)

variable [Facts]

def fn {F : FTy → Type} [FloatOps F] (main_arg0 : IVec S72 32) (main_arg1 : IVec S1 32) (main_arg2 : FVec F S12288x1024 .f32) (main_arg3 : FVec F S12288x1024 .f32) (main_arg4 : FVec F S12288x1024 .f32) (main_arg5 : FVec F S16x1024x3584 .bf16) (main_arg6 : FVec F S16x1024x3584 .bf16) (main_arg7 : FVec F S16x3584x1024 .bf16) : IVec S72 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 16#32
  let main_v2 : IVec S72 32 := broadcastInDim S72 ![] bcast_S_S72 main_c_0
  let main_v3 : IVec S72 1 := cmpi .slt main_arg0 main_v2
  let main_v4 : IVec S72 1 := andi main_v1 main_v3
  main_v4
-- ==== Pre_finite_projection.lean ====
abbrev S17408x1024 : Shape := ⟨2, ![17408, 1024]⟩
abbrev S6x8x1x1024 : Shape := ⟨4, ![6, 8, 1, 1024]⟩
abbrev S4x2x1024 : Shape := ⟨3, ![4, 2, 1024]⟩
abbrev S1x1024x1536 : Shape := ⟨3, ![1, 1024, 1536]⟩
abbrev S1x64 : Shape := ⟨2, ![1, 64]⟩
abbrev S4096x2x16 : Shape := ⟨3, ![4096, 2, 16]⟩
abbrev S2x5x1x1024 : Shape := ⟨4, ![2, 5, 1, 1024]⟩
abbrev S10240 : Shape := ⟨1, ![10240]⟩
abbrev S1572864 : Shape := ⟨1, ![1572864]⟩
abbrev S1x1x1024 : Shape := ⟨3, ![1, 1, 1024]⟩
abbrev S1024 : Shape := ⟨1, ![1024]⟩
abbrev S1584128 : Shape := ⟨1, ![1584128]⟩
abbrev S_ : Shape := ⟨0, ![]⟩

class Facts : Prop where
  slices_S6x8x1x1024_S2x5x1x1024_0_0_0_0 : S6x8x1x1024.Slices ![0, 0, 0, 0] S2x5x1x1024
  shapeCasts_S2x5x1x1024_S10240 : S2x5x1x1024.ShapeCasts S10240
  shapeCasts_S1x1024x1536_S1572864 : S1x1024x1536.ShapeCasts S1572864
  slices_S4x2x1024_S1x1x1024_1_0_0 : S4x2x1024.Slices ![1, 0, 0] S1x1x1024
  shapeCasts_S1x1x1024_S1024 : S1x1x1024.ShapeCasts S1024
  concatenates_S10240_S1024_S1572864_S1584128_d0 : Shape.Concatenates [S10240, S1024, S1572864] S1584128 0
  bcast_S_S1584128 : S_.BroadcastsInDim S1584128 (![] : Fin 0 → Fin S1584128.rank)

variable [Facts]

def fn {F : FTy → Type} [FloatOps F] (main_arg0 : FVec F S17408x1024 .f32) (main_arg1 : FVec F S6x8x1x1024 .f32) (main_arg2 : FVec F S4x2x1024 .f32) (main_arg3 : FVec F S1x1024x1536 .f32) (main_arg4 : FVec F S1x64 .f32) (main_arg5 : FVec F S1x64 .f32) (main_arg6 : FVec F S4096x2x16 .f32) (main_arg7 : FVec F S4096x2x16 .f32) : IVec S1584128 1 :=
  let main_v0 : FVec F S2x5x1x1024 .f32 := (extractStridedSlice S2x5x1x1024 ![0, 0, 0, 0] · slices_S6x8x1x1024_S2x5x1x1024_0_0_0_0) main_arg1
  let main_v1 : FVec F S10240 .f32 := shapeCast S10240 main_v0 shapeCasts_S2x5x1x1024_S10240
  let main_v2 : FVec F S1572864 .f32 := shapeCast S1572864 main_arg3 shapeCasts_S1x1024x1536_S1572864
  let main_v3 : FVec F S1x1x1024 .f32 := (extractStridedSlice S1x1x1024 ![1, 0, 0] · slices_S4x2x1024_S1x1x1024_1_0_0) main_arg2
  let main_v4 : FVec F S1024 .f32 := shapeCast S1024 main_v3 shapeCasts_S1x1x1024_S1024
  let main_v5 : FVec F S1584128 .f32 := concatenate S1584128 0 [⟨S10240, main_v1⟩, ⟨S1024, main_v4⟩, ⟨S1572864, main_v2⟩] concatenates_S10240_S1024_S1572864_S1584128_d0
  let main_v6 : FVec F S1584128 .f32 := Host.absf main_v5
  let main_cst : FVec F S_ .f32 := constant S_ .f32 0x7F800000#32
  let main_v7 : FVec F S1584128 .f32 := broadcastInDim S1584128 ![] bcast_S_S1584128 main_cst
  let main_v8 : IVec S1584128 1 := cmpf .olt main_v6 main_v7
  main_v8
-- ==== Pre_finite_queries_and_keys.lean ====
abbrev S17408x1536 : Shape := ⟨2, ![17408, 1536]⟩
abbrev S17408x1280 : Shape := ⟨2, ![17408, 1280]⟩
abbrev S_ : Shape := ⟨0, ![]⟩

class Facts : Prop where
  slices_S17408x1536_S17408x1280_0_0 : S17408x1536.Slices ![0, 0] S17408x1280
  bcast_S_S17408x1280 : S_.BroadcastsInDim S17408x1280 (![] : Fin 0 → Fin S17408x1280.rank)

variable [Facts]

def fn {F : FTy → Type} [FloatOps F] (main_arg0 : FVec F S17408x1536 .bf16) : IVec S17408x1280 1 :=
  let main_v0 : FVec F S17408x1280 .bf16 := (extractStridedSlice S17408x1280 ![0, 0] · slices_S17408x1536_S17408x1280_0_0) main_arg0
  let main_v1 : FVec F S17408x1280 .bf16 := Host.absf main_v0
  let main_cst : FVec F S_ .bf16 := constant S_ .bf16 0x7F80#16
  let main_v2 : FVec F S17408x1280 .bf16 := broadcastInDim S17408x1280 ![] bcast_S_S17408x1280 main_cst
  let main_v3 : IVec S17408x1280 1 := cmpf .olt main_v1 main_v2
  main_v3
-- ==== Kernel.lean ====
abbrev S17408x1536 : Shape := ⟨2, ![17408, 1536]⟩
abbrev S17408x256 : Shape := ⟨2, ![17408, 256]⟩
abbrev S1024x256 : Shape := ⟨2, ![1024, 256]⟩
abbrev S4x256x256 : Shape := ⟨3, ![4, 256, 256]⟩
abbrev S16384x256 : Shape := ⟨2, ![16384, 256]⟩
abbrev S4x4096x256 : Shape := ⟨3, ![4, 4096, 256]⟩
abbrev S4x4352x256 : Shape := ⟨3, ![4, 4352, 256]⟩
abbrev S4x4352x4x64 : Shape := ⟨4, ![4, 4352, 4, 64]⟩
abbrev S4x4x4352x64 : Shape := ⟨4, ![4, 4, 4352, 64]⟩
abbrev S4x4x4352x128 : Shape := ⟨4, ![4, 4, 4352, 128]⟩
abbrev S4x4x64x4352 : Shape := ⟨4, ![4, 4, 64, 4352]⟩
abbrev S_ : Shape := ⟨0, ![]⟩
abbrev S4x4x128x4352 : Shape := ⟨4, ![4, 4, 128, 4352]⟩
abbrev S16384x1024 : Shape := ⟨2, ![16384, 1024]⟩
abbrev S1024x16384 : Shape := ⟨2, ![1024, 16384]⟩
abbrev S512x512 : Shape := ⟨2, ![512, 512]⟩
abbrev S1x2x4352x128 : Shape := ⟨4, ![1, 2, 4352, 128]⟩
abbrev S1x2x128x4352 : Shape := ⟨4, ![1, 2, 128, 4352]⟩
abbrev S4352x512 : Shape := ⟨2, ![4352, 512]⟩
abbrev S128x512 : Shape := ⟨2, ![128, 512]⟩
abbrev S1x1x256x128 : Shape := ⟨4, ![1, 1, 256, 128]⟩
abbrev S256x128 : Shape := ⟨2, ![256, 128]⟩
abbrev S256x512 : Shape := ⟨2, ![256, 512]⟩
abbrev S32x8x512 : Shape := ⟨3, ![32, 8, 512]⟩
abbrev S8x512 : Shape := ⟨2, ![8, 512]⟩
abbrev S512 : Shape := ⟨1, ![512]⟩
abbrev S1x512 : Shape := ⟨2, ![1, 512]⟩
abbrev S1x1x128x256 : Shape := ⟨4, ![1, 1, 128, 256]⟩
abbrev S128x256 : Shape := ⟨2, ![128, 256]⟩
abbrev S64x512 : Shape := ⟨2, ![64, 512]⟩

abbrev nBuf : Space → Nat
  | .hbm => 24
  | .vmem => 11
  | .smem => 0
  | _ => 0

abbrev bufTy : (tb : Table) → Fin (tcTables nBuf tb) → BufTy
  | .hbm, ⟨0, _⟩ => ⟨S17408x1536, .bf16⟩
  | .hbm, ⟨1, _⟩ => ⟨S17408x256, .bf16⟩
  | .hbm, ⟨2, _⟩ => ⟨S1024x256, .bf16⟩
  | .hbm, ⟨3, _⟩ => ⟨S4x256x256, .bf16⟩
  | .hbm, ⟨4, _⟩ => ⟨S16384x256, .bf16⟩
  | .hbm, ⟨5, _⟩ => ⟨S4x4096x256, .bf16⟩
  | .hbm, ⟨6, _⟩ => ⟨S4x4352x256, .bf16⟩
  | .hbm, ⟨7, _⟩ => ⟨S4x4352x4x64, .bf16⟩
  | .hbm, ⟨8, _⟩ => ⟨S17408x256, .bf16⟩
  | .hbm, ⟨9, _⟩ => ⟨S1024x256, .bf16⟩
  | .hbm, ⟨10, _⟩ => ⟨S4x256x256, .bf16⟩
  | .hbm, ⟨11, _⟩ => ⟨S16384x256, .bf16⟩
  | .hbm, ⟨12, _⟩ => ⟨S4x4096x256, .bf16⟩
  | .hbm, ⟨13, _⟩ => ⟨S4x4352x256, .bf16⟩
  | .hbm, ⟨14, _⟩ => ⟨S4x4352x4x64, .bf16⟩
  | .hbm, ⟨15, _⟩ => ⟨S4x4x4352x64, .bf16⟩
  | .hbm, ⟨16, _⟩ => ⟨S4x4x4352x128, .bf16⟩
  | .hbm, ⟨17, _⟩ => ⟨S4x4x64x4352, .bf16⟩
  | .hbm, ⟨18, _⟩ => ⟨S_, .bf16⟩
  | .hbm, ⟨19, _⟩ => ⟨S4x4x64x4352, .bf16⟩
  | .hbm, ⟨20, _⟩ => ⟨S4x4x128x4352, .bf16⟩
  | .hbm, ⟨21, _⟩ => ⟨S16384x1024, .bf16⟩
  | .hbm, ⟨22, _⟩ => ⟨S1024x16384, .bf16⟩
  | .hbm, ⟨23, _⟩ => ⟨S1024x16384, .bf16⟩
  | .local _ .vmem, ⟨0, _⟩ => ⟨S512x512, .bf16⟩
  | .local _ .vmem, ⟨1, _⟩ => ⟨S512x512, .bf16⟩
  | .local _ .vmem, ⟨2, _⟩ => ⟨S1x2x4352x128, .bf16⟩
  | .local _ .vmem, ⟨3, _⟩ => ⟨S1x2x4352x128, .bf16⟩
  | .local _ .vmem, ⟨4, _⟩ => ⟨S1x2x128x4352, .bf16⟩
  | .local _ .vmem, ⟨5, _⟩ => ⟨S1x2x128x4352, .bf16⟩
  | .local _ .vmem, ⟨6, _⟩ => ⟨S512x512, .bf16⟩
  | .local _ .vmem, ⟨7, _⟩ => ⟨S512x512, .bf16⟩
  | .local _ .vmem, ⟨8, _⟩ => ⟨S4352x512, .f32⟩
  | .local _ .vmem, ⟨9, _⟩ => ⟨S4352x512, .f32⟩
  | .local _ .vmem, ⟨10, _⟩ => ⟨S4352x512, .f32⟩
  | _, _ => ⟨S17408x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_cst : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x128x4352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S17408x1536 : Shape := ⟨2, ![17408, 1536]⟩
abbrev S16384x1024 : Shape := ⟨2, ![16384, 1024]⟩
abbrev S4x4096x4x4x64 : Shape := ⟨5, ![4, 4096, 4, 4, 64]⟩
abbrev S16384x256 : Shape := ⟨2, ![16384, 256]⟩
abbrev S1024x256 : Shape := ⟨2, ![1024, 256]⟩
abbrev S4x256x4x64 : Shape := ⟨4, ![4, 256, 4, 64]⟩
abbrev S4x4096x4x64 : Shape := ⟨4, ![4, 4096, 4, 64]⟩
abbrev S4x4352x4x64 : Shape := ⟨4, ![4, 4352, 4, 64]⟩
abbrev S4x4x4352x4096x4 : Shape := ⟨5, ![4, 4, 4352, 4096, 4]⟩
abbrev S4x4x4x4096x4352 : Shape := ⟨5, ![4, 4, 4, 4096, 4352]⟩
abbrev S_ : Shape := ⟨0, ![]⟩
abbrev S4x4x4x4096 : Shape := ⟨4, ![4, 4, 4, 4096]⟩
abbrev S4x4x4x4096x1 : Shape := ⟨5, ![4, 4, 4, 4096, 1]⟩
abbrev S4x4x64x4x4096 : Shape := ⟨5, ![4, 4, 64, 4, 4096]⟩
abbrev S1024x16384 : Shape := ⟨2, ![1024, 16384]⟩

abbrev nBuf : Space → Nat
  | .hbm => 39
  | .vmem => 0
  | .smem => 0
  | _ => 0

abbrev bufTy : (tb : Table) → Fin (tcTables nBuf tb) → BufTy
  | .hbm, ⟨0, _⟩ => ⟨S17408x1536, .bf16⟩
  | .hbm, ⟨1, _⟩ => ⟨S17408x1536, .f32⟩
  | .hbm, ⟨2, _⟩ => ⟨S16384x1024, .f32⟩
  | .hbm, ⟨3, _⟩ => ⟨S4x4096x4x4x64, .f32⟩
  | .hbm, ⟨4, _⟩ => ⟨S16384x256, .f32⟩
  | .hbm, ⟨5, _⟩ => ⟨S1024x256, .f32⟩
  | .hbm, ⟨6, _⟩ => ⟨S16384x256, .f32⟩
  | .hbm, ⟨7, _⟩ => ⟨S1024x256, .f32⟩
  | .hbm, ⟨8, _⟩ => ⟨S4x256x4x64, .f32⟩
  | .hbm, ⟨9, _⟩ => ⟨S4x4096x4x64, .f32⟩
  | .hbm, ⟨10, _⟩ => ⟨S4x4352x4x64, .f32⟩
  | .hbm, ⟨11, _⟩ => ⟨S4x256x4x64, .f32⟩
  | .hbm, ⟨12, _⟩ => ⟨S4x4096x4x64, .f32⟩
  | .hbm, ⟨13, _⟩ => ⟨S4x4352x4x64, .f32⟩
  | .hbm, ⟨14, _⟩ => ⟨S4x4x4352x4096x4, .f32⟩
  | .hbm, ⟨15, _⟩ => ⟨S4x4x4x4096x4352, .f32⟩
  | .hbm, ⟨16, _⟩ => ⟨S_, .f32⟩
  | .hbm, ⟨17, _⟩ => ⟨S_, .f32⟩
  | .hbm, ⟨18, _⟩ => ⟨S4x4x4x4096x4352, .f32⟩
  | .hbm, ⟨19, _⟩ => ⟨S4x4x4x4096x4352, .f32⟩
  | .hbm, ⟨20, _⟩ => ⟨S_, .f32⟩
  | .hbm, ⟨21, _⟩ => ⟨S4x4x4x4096, .f32⟩
  | .hbm, ⟨22, _⟩ => ⟨S_, .f32⟩
  | .hbm, ⟨23, _⟩ => ⟨S4x4x4x4096, .f32⟩
  | .hbm, ⟨24, _⟩ => ⟨S4x4x4x4096, .f32⟩
  | .hbm, ⟨25, _⟩ => ⟨S4x4x4x4096x1, .f32⟩
  | .hbm, ⟨26, _⟩ => ⟨S4x4x4x4096x4352, .f32⟩
  | .hbm, ⟨27, _⟩ => ⟨S4x4x4x4096x4352, .f32⟩
  | .hbm, ⟨28, _⟩ => ⟨S4x4x4x4096x4352, .f32⟩
  | .hbm, ⟨29, _⟩ => ⟨S_, .f32⟩
  | .hbm, ⟨30, _⟩ => ⟨S4x4x4x4096, .f32⟩
  | .hbm, ⟨31, _⟩ => ⟨S4x4x4x4096x1, .f32⟩
  | .hbm, ⟨32, _⟩ => ⟨S4x4x4x4096x4352, .f32⟩
  | .hbm, ⟨33, _⟩ => ⟨S4x4x4x4096x4352, .f32⟩
  | .hbm, ⟨34, _⟩ => ⟨S4x4x64x4x4096, .f32⟩
  | .hbm, ⟨35, _⟩ => ⟨S4x4096x4x4x64, .f32⟩
  | .hbm, ⟨36, _⟩ => ⟨S16384x1024, .f32⟩
  | .hbm, ⟨37, _⟩ => ⟨S1024x16384, .f32⟩
  | .hbm, ⟨38, _⟩ => ⟨S1024x16384, .bf16⟩
  | _, _ => ⟨S17408x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_cst : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst_0 : Ref sig .tc := ⟨.hbm, 20, rfl⟩
abbrev main_v18 : Ref sig .tc := ⟨.hbm, 21, rfl⟩
abbrev main_cst_1 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_2 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Moe.lean ====
abbrev S72 : Shape := ⟨1, ![72]⟩
abbrev S1 : Shape := ⟨1, ![1]⟩
abbrev S12288x1024 : Shape := ⟨2, ![12288, 1024]⟩
abbrev S16x1024x3584 : Shape := ⟨3, ![16, 1024, 3584]⟩
abbrev S16x3584x1024 : Shape := ⟨3, ![16, 3584, 1024]⟩
abbrev S36864x1024 : Shape := ⟨2, ![36864, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 7
  | .vmem => 16
  | .smem => 2
  | _ => 0

abbrev bufTy : (tb : Table) → Fin (tcTables nBuf tb) → BufTy
  | .hbm, ⟨0, _⟩ => ⟨S12288x1024, .f32⟩
  | .hbm, ⟨1, _⟩ => ⟨S12288x1024, .f32⟩
  | .hbm, ⟨2, _⟩ => ⟨S12288x1024, .f32⟩
  | .hbm, ⟨3, _⟩ => ⟨S16x1024x3584, .bf16⟩
  | .hbm, ⟨4, _⟩ => ⟨S16x1024x3584, .bf16⟩
  | .hbm, ⟨5, _⟩ => ⟨S16x3584x1024, .bf16⟩
  | .hbm, ⟨6, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024x1792, .bf16⟩
  | .local _ .vmem, ⟨7, _⟩ => ⟨S1x1024x1792, .bf16⟩
  | .local _ .vmem, ⟨8, _⟩ => ⟨S1x1024x1792, .bf16⟩
  | .local _ .vmem, ⟨9, _⟩ => ⟨S1x1024x1792, .bf16⟩
  | .local _ .vmem, ⟨10, _⟩ => ⟨S1x1792x1024, .bf16⟩
  | .local _ .vmem, ⟨11, _⟩ => ⟨S1x1792x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .f32⟩
  | .local _ .smem, ⟨0, _⟩ => ⟨S72, .i32⟩
  | .local _ .smem, ⟨1, _⟩ => ⟨S1, .i32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v3 : Index := Scalar.indexCast arg0
  ![v3.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond6 (i : grid0.Coords) : BitVec 1 :=
  let arg1 : BitVec 32 := BitVec.ofNat 32 (i 1).val
  let c1_i32_20 : BitVec 32 := 1#32
  let v31 : BitVec 1 := Scalar.cmpi .eq arg1 c1_i32_20
  let v32 : BitVec 32 := Scalar.extui v31
  let c0_i32_21 : BitVec 32 := 0#32
  let v33 : BitVec 1 := Scalar.cmpi .ne v32 c0_i32_21
  v33

def k0_cond7 (i : grid0.Coords) (v0 : BitVec 32) : BitVec 1 :=
  let arg0 : BitVec 32 := BitVec.ofNat 32 (i 0).val
  let v1 : BitVec 1 := Scalar.cmpi .slt arg0 v0
  let v_true : BitVec 1 := 1#1
  let v4 : BitVec 1 := Scalar.xori v1 v_true
  let arg1 : BitVec 32 := BitVec.ofNat 32 (i 1).val
  let c1_i32 : BitVec 32 := 1#32
  let v5 : BitVec 1 := Scalar.cmpi .eq arg1 c1_i32
  let v6 : BitVec 1 := Scalar.andi v4 v5
  let v7 : BitVec 32 := Scalar.extui v6
  let c0_i32_0 : BitVec 32 := 0#32
  let v8 : BitVec 1 := Scalar.cmpi .ne v7 c0_i32_0
  v8

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c0_i32_0 : BitVec 32 := 0#32
  let v4 : BitVec 32 := Scalar.subi v3 c0_i32_0
  let c0_i32_1 : BitVec 32 := 0#32
  let c23_i32 : BitVec 32 := 23#32
  let v5 : BitVec 32 := Scalar.maxsi c0_i32_1 v4
  let v6 : BitVec 32 := Scalar.minsi c23_i32 v5
  let c0_i32_2 : BitVec 32 := 0#32
  let c0_i32_3 : BitVec 32 := 0#32
  ![v6.toNat, c0_i32_2.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c24_i32 : BitVec 32 := 24#32
  let v4 : BitVec 32 := Scalar.subi v3 c24_i32
  let c0_i32_0 : BitVec 32 := 0#32
  let c23_i32 : BitVec 32 := 23#32
  let v5 : BitVec 32 := Scalar.maxsi c0_i32_0 v4
  let v6 : BitVec 32 := Scalar.minsi c23_i32 v5
  let c0_i32_1 : BitVec 32 := 0#32
  let c0_i32_2 : BitVec 32 := 0#32
  ![v6.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let c0_i32 : BitVec 32 := 0#32
  let v2 : BitVec 32 := Scalar.maxsi v1 c0_i32
  let v3 : BitVec 32 := Scalar.minsi arg0 v2
  let c48_i32 : BitVec 32 := 48#32
  let v4 : BitVec 32 := Scalar.subi v3 c48_i32
  let c0_i32_0 : BitVec 32 := 0#32
  let c23_i32 : BitVec 32 := 23#32
  let v5 : BitVec 32 := Scalar.maxsi c0_i32_0 v4
  let v6 : BitVec 32 := Scalar.minsi c23_i32 v5
  let c0_i32_1 : BitVec 32 := 0#32
  let c0_i32_2 : BitVec 32 := 0#32
  ![v6.toNat, c0_i32_1.toNat]

def cc0_transform_3 (inb_S1_S1_0 : ∀ a, (![0] : Fin 1 → Nat) a + S1.size a ≤ S1.size a) (numel1_S1 : S1.numel = 1) (k0_off1_inb : ∀ i : grid0.Coords, ∀ a, (k0_off1 i) a + S1.size a ≤ S72.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c1_i32 : BitVec 32 := 1#32
  let v2 : BitVec 32 := Scalar.select v1 arg1 c1_i32
  let v3 : Index := Scalar.indexCast arg0
  let v4 : BitVec 32 := pf.at 0 (Rect.unit (s := S72) ![v3.toNat] S1.size (k0_off1_inb i)) numel1_S1
  let c0_i32 : BitVec 32 := 0#32
  let c0_i32_0 : BitVec 32 := 0#32
  ![v4.toNat, c0_i32.toNat, v2.toNat]

def cc0_transform_4 (inb_S1_S1_0 : ∀ a, (![0] : Fin 1 → Nat) a + S1.size a ≤ S1.size a) (numel1_S1 : S1.numel = 1) (k0_off1_inb : ∀ i : grid0.Coords, ∀ a, (k0_off1 i) a + S1.size a ≤ S72.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c1_i32 : BitVec 32 := 1#32
  let v2 : BitVec 32 := Scalar.select v1 arg1 c1_i32
  let v3 : Index := Scalar.indexCast arg0
  let v4 : BitVec 32 := pf.at 0 (Rect.unit (s := S72) ![v3.toNat] S1.size (k0_off1_inb i)) numel1_S1
  let c0_i32 : BitVec 32 := 0#32
  let c0_i32_0 : BitVec 32 := 0#32
  ![v4.toNat, c0_i32.toNat, v2.toNat]

def cc0_transform_5 (inb_S1_S1_0 : ∀ a, (![0] : Fin 1 → Nat) a + S1.size a ≤ S1.size a) (numel1_S1 : S1.numel = 1) (k0_off1_inb : ∀ i : grid0.Coords, ∀ a, (k0_off1 i) a + S1.size a ≤ S72.size a) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let v1 : BitVec 1 := Scalar.cmpi .slt arg0 v0
  let c1_i32 : BitVec 32 := 1#32
  let v2 : BitVec 32 := Scalar.select v1 arg1 c1_i32
  let v3 : Index := Scalar.indexCast arg0
  let v4 : BitVec 32 := pf.at 0 (Rect.unit (s := S72) ![v3.toNat] S1.size (k0_off1_inb i)) numel1_S1
  let c0_i32 : BitVec 32 := 0#32
  let c0_i32_0 : BitVec 32 := 0#32
  ![v4.toNat, v2.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1792x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== MoeReferenceIdeal.lean ====
abbrev S72 : Shape := ⟨1, ![72]⟩
abbrev S1 : Shape := ⟨1, ![1]⟩
abbrev S12288x1024 : Shape := ⟨2, ![12288, 1024]⟩
abbrev S16x1024x3584 : Shape := ⟨3, ![16, 1024, 3584]⟩
abbrev S16x3584x1024 : Shape := ⟨3, ![16, 3584, 1024]⟩
abbrev S36864x1024 : Shape := ⟨2, ![36864, 1024]⟩
abbrev S_ : Shape := ⟨0, ![]⟩
abbrev S72x512 : Shape := ⟨2, ![72, 512]⟩
abbrev S36864 : Shape := ⟨1, ![36864]⟩
abbrev S36864x1 : Shape := ⟨2, ![36864, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S36864x3584 : Shape := ⟨2, ![36864, 3584]⟩

abbrev nBuf : Space → Nat
  | .hbm => 470
  | .vmem => 0
  | .smem => 0
  | _ => 0

abbrev hbmTy0_0 (i : Nat) : BufTy := match i % 128 with
  | 0 => ⟨S72, .i32⟩
  | 1 => ⟨S1, .i32⟩
  | 2 => ⟨S12288x1024, .f32⟩
  | 3 => ⟨S12288x1024, .f32⟩
  | 4 => ⟨S12288x1024, .f32⟩
  | 5 => ⟨S16x1024x3584, .bf16⟩
  | 6 => ⟨S16x1024x3584, .bf16⟩
  | 7 => ⟨S16x3584x1024, .bf16⟩
  | 8 => ⟨S16x1024x3584, .f32⟩
  | 9 => ⟨S16x1024x3584, .f32⟩
  | 10 => ⟨S16x3584x1024, .f32⟩
  | 11 => ⟨S36864x1024, .f32⟩
  | 12 => ⟨S72, .i32⟩
  | 13 => ⟨S_, .i32⟩
  | 14 => ⟨S72, .i32⟩
  | 15 => ⟨S72, .i1⟩
  | 16 => ⟨S72x512, .i32⟩
  | 17 => ⟨S36864, .i32⟩
  | 18 => ⟨S72x512, .i1⟩
  | 19 => ⟨S36864, .i1⟩
  | 20 => ⟨S_, .f32⟩
  | 21 => ⟨S36864x1024, .f32⟩
  | 22 => ⟨S_, .i32⟩
  | 23 => ⟨S36864, .i32⟩
  | 24 => ⟨S36864, .i1⟩
  | 25 => ⟨S36864, .i1⟩
  | 26 => ⟨S36864, .f32⟩
  | 27 => ⟨S36864x1, .f32⟩
  | 28 => ⟨S1x1024x3584, .f32⟩
  | 29 => ⟨S1024x3584, .f32⟩
  | 30 => ⟨S1x1024x3584, .f32⟩
  | 31 => ⟨S1024x3584, .f32⟩
  | 32 => ⟨S1x3584x1024, .f32⟩
  | 33 => ⟨S3584x1024, .f32⟩
  | 34 => ⟨S36864x3584, .f32⟩
  | 35 => ⟨S36864x3584, .f32⟩
  | 36 => ⟨S36864x3584, .f32⟩
  | 37 => ⟨S_, .f32⟩
  | 38 => ⟨S36864x3584, .f32⟩
  | 39 => ⟨S36864x3584, .f32⟩
  | 40 => ⟨S_, .f32⟩
  | 41 => ⟨S36864x3584, .f32⟩
  | 42 => ⟨S36864x3584, .f32⟩
  | 43 => ⟨S36864x3584, .f32⟩
  | 44 => ⟨S36864x3584, .f32⟩
  | 45 => ⟨S36864x3584, .f32⟩
  | 46 => ⟨S36864x1024, .f32⟩
  | 47 => ⟨S36864x1024, .f32⟩
  | 48 => ⟨S36864x1024, .f32⟩
  | 49 => ⟨S36864x1024, .f32⟩
  | 50 => ⟨S_, .i32⟩
  | 51 => ⟨S36864, .i32⟩
  | 52 => ⟨S36864, .i1⟩
  | 53 => ⟨S36864, .i1⟩
  | 54 => ⟨S36864, .f32⟩
  | 55 => ⟨S36864x1, .f32⟩
  | 56 => ⟨S1x1024x3584, .f32⟩
  | 57 => ⟨S1024x3584, .f32⟩
  | 58 => ⟨S1x1024x3584, .f32⟩
  | 59 => ⟨S1024x3584, .f32⟩
  | 60 => ⟨S1x3584x1024, .f32⟩
  | 61 => ⟨S3584x1024, .f32⟩
  | 62 => ⟨S36864x3584, .f32⟩
  | 63 => ⟨S36864x3584, .f32⟩
  | 64 => ⟨S36864x3584, .f32⟩
  | 65 => ⟨S_, .f32⟩
  | 66 => ⟨S36864x3584, .f32⟩
  | 67 => ⟨S36864x3584, .f32⟩
  | 68 => ⟨S_, .f32⟩
  | 69 => ⟨S36864x3584, .f32⟩
  | 70 => ⟨S36864x3584, .f32⟩
  | 71 => ⟨S36864x3584, .f32⟩
  | 72 => ⟨S36864x3584, .f32⟩
  | 73 => ⟨S36864x3584, .f32⟩
  | 74 => ⟨S36864x1024, .f32⟩
  | 75 => ⟨S36864x1024, .f32⟩
  | 76 => ⟨S36864x1024, .f32⟩
  | 77 => ⟨S36864x1024, .f32⟩
  | 78 => ⟨S_, .i32⟩
  | 79 => ⟨S36864, .i32⟩
  | 80 => ⟨S36864, .i1⟩
  | 81 => ⟨S36864, .i1⟩
  | 82 => ⟨S36864, .f32⟩
  | 83 => ⟨S36864x1, .f32⟩
  | 84 => ⟨S1x1024x3584, .f32⟩
  | 85 => ⟨S1024x3584, .f32⟩
  | 86 => ⟨S1x1024x3584, .f32⟩
  | 87 => ⟨S1024x3584, .f32⟩
  | 88 => ⟨S1x3584x1024, .f32⟩
  | 89 => ⟨S3584x1024, .f32⟩
  | 90 => ⟨S36864x3584, .f32⟩
  | 91 => ⟨S36864x3584, .f32⟩
  | 92 => ⟨S36864x3584, .f32⟩
  | 93 => ⟨S_, .f32⟩
  | 94 => ⟨S36864x3584, .f32⟩
  | 95 => ⟨S36864x3584, .f32⟩
  | 96 => ⟨S_, .f32⟩
  | 97 => ⟨S36864x3584, .f32⟩
  | 98 => ⟨S36864x3584, .f32⟩
  | 99 => ⟨S36864x3584, .f32⟩
  | 100 => ⟨S36864x3584, .f32⟩
  | 101 => ⟨S36864x3584, .f32⟩
  | 102 => ⟨S36864x1024, .f32⟩
  | 103 => ⟨S36864x1024, .f32⟩
  | 104 => ⟨S36864x1024, .f32⟩
  | 105 => ⟨S36864x1024, .f32⟩
  | 106 => ⟨S_, .i32⟩
  | 107 => ⟨S36864, .i32⟩
  | 108 => ⟨S36864, .i1⟩
  | 109 => ⟨S36864, .i1⟩
  | 110 => ⟨S36864, .f32⟩
  | 111 => ⟨S36864x1, .f32⟩
  | 112 => ⟨S1x1024x3584, .f32⟩
  | 113 => ⟨S1024x3584, .f32⟩
  | 114 => ⟨S1x1024x3584, .f32⟩
  | 115 => ⟨S1024x3584, .f32⟩
  | 116 => ⟨S1x3584x1024, .f32⟩
  | 117 => ⟨S3584x1024, .f32⟩
  | 118 => ⟨S36864x3584, .f32⟩
  | 119 => ⟨S36864x3584, .f32⟩
  | 120 => ⟨S36864x3584, .f32⟩
  | 121 => ⟨S_, .f32⟩
  | 122 => ⟨S36864x3584, .f32⟩
  | 123 => ⟨S36864x3584, .f32⟩
  | 124 => ⟨S_, .f32⟩
  | 125 => ⟨S36864x3584, .f32⟩
  | 126 => ⟨S36864x3584, .f32⟩
  | 127 => ⟨S36864x3584, .f32⟩
  | _ => ⟨S72, .i32⟩

abbrev hbmTy0_1 (i : Nat) : BufTy := match i % 128 with
  | 0 => ⟨S36864x3584, .f32⟩
  | 1 => ⟨S36864x3584, .f32⟩
  | 2 => ⟨S36864x1024, .f32⟩
  | 3 => ⟨S36864x1024, .f32⟩
  | 4 => ⟨S36864x1024, .f32⟩
  | 5 => ⟨S36864x1024, .f32⟩
  | 6 => ⟨S_, .i32⟩
  | 7 => ⟨S36864, .i32⟩
  | 8 => ⟨S36864, .i1⟩
  | 9 => ⟨S36864, .i1⟩
  | 10 => ⟨S36864, .f32⟩
  | 11 => ⟨S36864x1, .f32⟩
  | 12 => ⟨S1x1024x3584, .f32⟩
  | 13 => ⟨S1024x3584, .f32⟩
  | 14 => ⟨S1x1024x3584, .f32⟩
  | 15 => ⟨S1024x3584, .f32⟩
  | 16 => ⟨S1x3584x1024, .f32⟩
  | 17 => ⟨S3584x1024, .f32⟩
  | 18 => ⟨S36864x3584, .f32⟩
  | 19 => ⟨S36864x3584, .f32⟩
  | 20 => ⟨S36864x3584, .f32⟩
  | 21 => ⟨S_, .f32⟩
  | 22 => ⟨S36864x3584, .f32⟩
  | 23 => ⟨S36864x3584, .f32⟩
  | 24 => ⟨S_, .f32⟩
  | 25 => ⟨S36864x3584, .f32⟩
  | 26 => ⟨S36864x3584, .f32⟩
  | 27 => ⟨S36864x3584, .f32⟩
  | 28 => ⟨S36864x3584, .f32⟩
  | 29 => ⟨S36864x3584, .f32⟩
  | 30 => ⟨S36864x1024, .f32⟩
  | 31 => ⟨S36864x1024, .f32⟩
  | 32 => ⟨S36864x1024, .f32⟩
  | 33 => ⟨S36864x1024, .f32⟩
  | 34 => ⟨S_, .i32⟩
  | 35 => ⟨S36864, .i32⟩
  | 36 => ⟨S36864, .i1⟩
  | 37 => ⟨S36864, .i1⟩
  | 38 => ⟨S36864, .f32⟩
  | 39 => ⟨S36864x1, .f32⟩
  | 40 => ⟨S1x1024x3584, .f32⟩
  | 41 => ⟨S1024x3584, .f32⟩
  | 42 => ⟨S1x1024x3584, .f32⟩
  | 43 => ⟨S1024x3584, .f32⟩
  | 44 => ⟨S1x3584x1024, .f32⟩
  | 45 => ⟨S3584x1024, .f32⟩
  | 46 => ⟨S36864x3584, .f32⟩
  | 47 => ⟨S36864x3584, .f32⟩
  | 48 => ⟨S36864x3584, .f32⟩
  | 49 => ⟨S_, .f32⟩
  | 50 => ⟨S36864x3584, .f32⟩
  | 51 => ⟨S36864x3584, .f32⟩
  | 52 => ⟨S_, .f32⟩
  | 53 => ⟨S36864x3584, .f32⟩
  | 54 => ⟨S36864x3584, .f32⟩
  | 55 => ⟨S36864x3584, .f32⟩
  | 56 => ⟨S36864x3584, .f32⟩
  | 57 => ⟨S36864x3584, .f32⟩
  | 58 => ⟨S36864x1024, .f32⟩
  | 59 => ⟨S36864x1024, .f32⟩
  | 60 => ⟨S36864x1024, .f32⟩
  | 61 => ⟨S36864x1024, .f32⟩
  | 62 => ⟨S_, .i32⟩
  | 63 => ⟨S36864, .i32⟩
  | 64 => ⟨S36864, .i1⟩
  | 65 => ⟨S36864, .i1⟩
  | 66 => ⟨S36864, .f32⟩
  | 67 => ⟨S36864x1, .f32⟩
  | 68 => ⟨S1x1024x3584, .f32⟩
  | 69 => ⟨S1024x3584, .f32⟩
  | 70 => ⟨S1x1024x3584, .f32⟩
  | 71 => ⟨S1024x3584, .f32⟩
  | 72 => ⟨S1x3584x1024, .f32⟩
  | 73 => ⟨S3584x1024, .f32⟩
  | 74 => ⟨S36864x3584, .f32⟩
  | 75 => ⟨S36864x3584, .f32⟩
  | 76 => ⟨S36864x3584, .f32⟩
  | 77 => ⟨S_, .f32⟩
  | 78 => ⟨S36864x3584, .f32⟩
  | 79 => ⟨S36864x3584, .f32⟩
  | 80 => ⟨S_, .f32⟩
  | 81 => ⟨S36864x3584, .f32⟩
  | 82 => ⟨S36864x3584, .f32⟩
  | 83 => ⟨S36864x3584, .f32⟩
  | 84 => ⟨S36864x3584, .f32⟩
  | 85 => ⟨S36864x3584, .f32⟩
  | 86 => ⟨S36864x1024, .f32⟩
  | 87 => ⟨S36864x1024, .f32⟩
  | 88 => ⟨S36864x1024, .f32⟩
  | 89 => ⟨S36864x1024, .f32⟩
  | 90 => ⟨S_, .i32⟩
  | 91 => ⟨S36864, .i32⟩
  | 92 => ⟨S36864, .i1⟩
  | 93 => ⟨S36864, .i1⟩
  | 94 => ⟨S36864, .f32⟩
  | 95 => ⟨S36864x1, .f32⟩
  | 96 => ⟨S1x1024x3584, .f32⟩
  | 97 => ⟨S1024x3584, .f32⟩
  | 98 => ⟨S1x1024x3584, .f32⟩
  | 99 => ⟨S1024x3584, .f32⟩
  | 100 => ⟨S1x3584x1024, .f32⟩
  | 101 => ⟨S3584x1024, .f32⟩
  | 102 => ⟨S36864x3584, .f32⟩
  | 103 => ⟨S36864x3584, .f32⟩
  | 104 => ⟨S36864x3584, .f32⟩
  | 105 => ⟨S_, .f32⟩
  | 106 => ⟨S36864x3584, .f32⟩
  | 107 => ⟨S36864x3584, .f32⟩
  | 108 => ⟨S_, .f32⟩
  | 109 => ⟨S36864x3584, .f32⟩
  | 110 => ⟨S36864x3584, .f32⟩
  | 111 => ⟨S36864x3584, .f32⟩
  | 112 => ⟨S36864x3584, .f32⟩
  | 113 => ⟨S36864x3584, .f32⟩
  | 114 => ⟨S36864x1024, .f32⟩
  | 115 => ⟨S36864x1024, .f32⟩
  | 116 => ⟨S36864x1024, .f32⟩
  | 117 => ⟨S36864x1024, .f32⟩
  | 118 => ⟨S_, .i32⟩
  | 119 => ⟨S36864, .i32⟩
  | 120 => ⟨S36864, .i1⟩
  | 121 => ⟨S36864, .i1⟩
  | 122 => ⟨S36864, .f32⟩
  | 123 => ⟨S36864x1, .f32⟩
  | 124 => ⟨S1x1024x3584, .f32⟩
  | 125 => ⟨S1024x3584, .f32⟩
  | 126 => ⟨S1x1024x3584, .f32⟩
  | 127 => ⟨S1024x3584, .f32⟩
  | _ => ⟨S72, .i32⟩

abbrev hbmTy0_2 (i : Nat) : BufTy := match i % 128 with
  | 0 => ⟨S1x3584x1024, .f32⟩
  | 1 => ⟨S3584x1024, .f32⟩
  | 2 => ⟨S36864x3584, .f32⟩
  | 3 => ⟨S36864x3584, .f32⟩
  | 4 => ⟨S36864x3584, .f32⟩
  | 5 => ⟨S_, .f32⟩
  | 6 => ⟨S36864x3584, .f32⟩
  | 7 => ⟨S36864x3584, .f32⟩
  | 8 => ⟨S_, .f32⟩
  | 9 => ⟨S36864x3584, .f32⟩
  | 10 => ⟨S36864x3584, .f32⟩
  | 11 => ⟨S36864x3584, .f32⟩
  | 12 => ⟨S36864x3584, .f32⟩
  | 13 => ⟨S36864x3584, .f32⟩
  | 14 => ⟨S36864x1024, .f32⟩
  | 15 => ⟨S36864x1024, .f32⟩
  | 16 => ⟨S36864x1024, .f32⟩
  | 17 => ⟨S36864x1024, .f32⟩
  | 18 => ⟨S_, .i32⟩
  | 19 => ⟨S36864, .i32⟩
  | 20 => ⟨S36864, .i1⟩
  | 21 => ⟨S36864, .i1⟩
  | 22 => ⟨S36864, .f32⟩
  | 23 => ⟨S36864x1, .f32⟩
  | 24 => ⟨S1x1024x3584, .f32⟩
  | 25 => ⟨S1024x3584, .f32⟩
  | 26 => ⟨S1x1024x3584, .f32⟩
  | 27 => ⟨S1024x3584, .f32⟩
  | 28 => ⟨S1x3584x1024, .f32⟩
  | 29 => ⟨S3584x1024, .f32⟩
  | 30 => ⟨S36864x3584, .f32⟩
  | 31 => ⟨S36864x3584, .f32⟩
  | 32 => ⟨S36864x3584, .f32⟩
  | 33 => ⟨S_, .f32⟩
  | 34 => ⟨S36864x3584, .f32⟩
  | 35 => ⟨S36864x3584, .f32⟩
  | 36 => ⟨S_, .f32⟩
  | 37 => ⟨S36864x3584, .f32⟩
  | 38 => ⟨S36864x3584, .f32⟩
  | 39 => ⟨S36864x3584, .f32⟩
  | 40 => ⟨S36864x3584, .f32⟩
  | 41 => ⟨S36864x3584, .f32⟩
  | 42 => ⟨S36864x1024, .f32⟩
  | 43 => ⟨S36864x1024, .f32⟩
  | 44 => ⟨S36864x1024, .f32⟩
  | 45 => ⟨S36864x1024, .f32⟩
  | 46 => ⟨S_, .i32⟩
  | 47 => ⟨S36864, .i32⟩
  | 48 => ⟨S36864, .i1⟩
  | 49 => ⟨S36864, .i1⟩
  | 50 => ⟨S36864, .f32⟩
  | 51 => ⟨S36864x1, .f32⟩
  | 52 => ⟨S1x1024x3584, .f32⟩
  | 53 => ⟨S1024x3584, .f32⟩
  | 54 => ⟨S1x1024x3584, .f32⟩
  | 55 => ⟨S1024x3584, .f32⟩
  | 56 => ⟨S1x3584x1024, .f32⟩
  | 57 => ⟨S3584x1024, .f32⟩
  | 58 => ⟨S36864x3584, .f32⟩
  | 59 => ⟨S36864x3584, .f32⟩
  | 60 => ⟨S36864x3584, .f32⟩
  | 61 => ⟨S_, .f32⟩
  | 62 => ⟨S36864x3584, .f32⟩
  | 63 => ⟨S36864x3584, .f32⟩
  | 64 => ⟨S_, .f32⟩
  | 65 => ⟨S36864x3584, .f32⟩
  | 66 => ⟨S36864x3584, .f32⟩
  | 67 => ⟨S36864x3584, .f32⟩
  | 68 => ⟨S36864x3584, .f32⟩
  | 69 => ⟨S36864x3584, .f32⟩
  | 70 => ⟨S36864x1024, .f32⟩
  | 71 => ⟨S36864x1024, .f32⟩
  | 72 => ⟨S36864x1024, .f32⟩
  | 73 => ⟨S36864x1024, .f32⟩
  | 74 => ⟨S_, .i32⟩
  | 75 => ⟨S36864, .i32⟩
  | 76 => ⟨S36864, .i1⟩
  | 77 => ⟨S36864, .i1⟩
  | 78 => ⟨S36864, .f32⟩
  | 79 => ⟨S36864x1, .f32⟩
  | 80 => ⟨S1x1024x3584, .f32⟩
  | 81 => ⟨S1024x3584, .f32⟩
  | 82 => ⟨S1x1024x3584, .f32⟩
  | 83 => ⟨S1024x3584, .f32⟩
  | 84 => ⟨S1x3584x1024, .f32⟩
  | 85 => ⟨S3584x1024, .f32⟩
  | 86 => ⟨S36864x3584, .f32⟩
  | 87 => ⟨S36864x3584, .f32⟩
  | 88 => ⟨S36864x3584, .f32⟩
  | 89 => ⟨S_, .f32⟩
  | 90 => ⟨S36864x3584, .f32⟩
  | 91 => ⟨S36864x3584, .f32⟩
  | 92 => ⟨S_, .f32⟩
  | 93 => ⟨S36864x3584, .f32⟩
  | 94 => ⟨S36864x3584, .f32⟩
  | 95 => ⟨S36864x3584, .f32⟩
  | 96 => ⟨S36864x3584, .f32⟩
  | 97 => ⟨S36864x3584, .f32⟩
  | 98 => ⟨S36864x1024, .f32⟩
  | 99 => ⟨S36864x1024, .f32⟩
  | 100 => ⟨S36864x1024, .f32⟩
  | 101 => ⟨S36864x1024, .f32⟩
  | 102 => ⟨S_, .i32⟩
  | 103 => ⟨S36864, .i32⟩
  | 104 => ⟨S36864, .i1⟩
  | 105 => ⟨S36864, .i1⟩
  | 106 => ⟨S36864, .f32⟩
  | 107 => ⟨S36864x1, .f32⟩
  | 108 => ⟨S1x1024x3584, .f32⟩
  | 109 => ⟨S1024x3584, .f32⟩
  | 110 => ⟨S1x1024x3584, .f32⟩
  | 111 => ⟨S1024x3584, .f32⟩
  | 112 => ⟨S1x3584x1024, .f32⟩
  | 113 => ⟨S3584x1024, .f32⟩
  | 114 => ⟨S36864x3584, .f32⟩
  | 115 => ⟨S36864x3584, .f32⟩
  | 116 => ⟨S36864x3584, .f32⟩
  | 117 => ⟨S_, .f32⟩
  | 118 => ⟨S36864x3584, .f32⟩
  | 119 => ⟨S36864x3584, .f32⟩
  | 120 => ⟨S_, .f32⟩
  | 121 => ⟨S36864x3584, .f32⟩
  | 122 => ⟨S36864x3584, .f32⟩
  | 123 => ⟨S36864x3584, .f32⟩
  | 124 => ⟨S36864x3584, .f32⟩
  | 125 => ⟨S36864x3584, .f32⟩
  | 126 => ⟨S36864x1024, .f32⟩
  | 127 => ⟨S36864x1024, .f32⟩
  | _ => ⟨S72, .i32⟩

abbrev hbmTy0_3 (i : Nat) : BufTy := match i % 128 with
  | 0 => ⟨S36864x1024, .f32⟩
  | 1 => ⟨S36864x1024, .f32⟩
  | 2 => ⟨S_, .i32⟩
  | 3 => ⟨S36864, .i32⟩
  | 4 => ⟨S36864, .i1⟩
  | 5 => ⟨S36864, .i1⟩
  | 6 => ⟨S36864, .f32⟩
  | 7 => ⟨S36864x1, .f32⟩
  | 8 => ⟨S1x1024x3584, .f32⟩
  | 9 => ⟨S1024x3584, .f32⟩
  | 10 => ⟨S1x1024x3584, .f32⟩
  | 11 => ⟨S1024x3584, .f32⟩
  | 12 => ⟨S1x3584x1024, .f32⟩
  | 13 => ⟨S3584x1024, .f32⟩
  | 14 => ⟨S36864x3584, .f32⟩
  | 15 => ⟨S36864x3584, .f32⟩
  | 16 => ⟨S36864x3584, .f32⟩
  | 17 => ⟨S_, .f32⟩
  | 18 => ⟨S36864x3584, .f32⟩
  | 19 => ⟨S36864x3584, .f32⟩
  | 20 => ⟨S_, .f32⟩
  | 21 => ⟨S36864x3584, .f32⟩
  | 22 => ⟨S36864x3584, .f32⟩
  | 23 => ⟨S36864x3584, .f32⟩
  | 24 => ⟨S36864x3584, .f32⟩
  | 25 => ⟨S36864x3584, .f32⟩
  | 26 => ⟨S36864x1024, .f32⟩
  | 27 => ⟨S36864x1024, .f32⟩
  | 28 => ⟨S36864x1024, .f32⟩
  | 29 => ⟨S36864x1024, .f32⟩
  | 30 => ⟨S_, .i32⟩
  | 31 => ⟨S36864, .i32⟩
  | 32 => ⟨S36864, .i1⟩
  | 33 => ⟨S36864, .i1⟩
  | 34 => ⟨S36864, .f32⟩
  | 35 => ⟨S36864x1, .f32⟩
  | 36 => ⟨S1x1024x3584, .f32⟩
  | 37 => ⟨S1024x3584, .f32⟩
  | 38 => ⟨S1x1024x3584, .f32⟩
  | 39 => ⟨S1024x3584, .f32⟩
  | 40 => ⟨S1x3584x1024, .f32⟩
  | 41 => ⟨S3584x1024, .f32⟩
  | 42 => ⟨S36864x3584, .f32⟩
  | 43 => ⟨S36864x3584, .f32⟩
  | 44 => ⟨S36864x3584, .f32⟩
  | 45 => ⟨S_, .f32⟩
  | 46 => ⟨S36864x3584, .f32⟩
  | 47 => ⟨S36864x3584, .f32⟩
  | 48 => ⟨S_, .f32⟩
  | 49 => ⟨S36864x3584, .f32⟩
  | 50 => ⟨S36864x3584, .f32⟩
  | 51 => ⟨S36864x3584, .f32⟩
  | 52 => ⟨S36864x3584, .f32⟩
  | 53 => ⟨S36864x3584, .f32⟩
  | 54 => ⟨S36864x1024, .f32⟩
  | 55 => ⟨S36864x1024, .f32⟩
  | 56 => ⟨S36864x1024, .f32⟩
  | 57 => ⟨S36864x1024, .f32⟩
  | 58 => ⟨S_, .i32⟩
  | 59 => ⟨S36864, .i32⟩
  | 60 => ⟨S36864, .i1⟩
  | 61 => ⟨S36864, .i1⟩
  | 62 => ⟨S36864, .f32⟩
  | 63 => ⟨S36864x1, .f32⟩
  | 64 => ⟨S1x1024x3584, .f32⟩
  | 65 => ⟨S1024x3584, .f32⟩
  | 66 => ⟨S1x1024x3584, .f32⟩
  | 67 => ⟨S1024x3584, .f32⟩
  | 68 => ⟨S1x3584x1024, .f32⟩
  | 69 => ⟨S3584x1024, .f32⟩
  | 70 => ⟨S36864x3584, .f32⟩
  | 71 => ⟨S36864x3584, .f32⟩
  | 72 => ⟨S36864x3584, .f32⟩
  | 73 => ⟨S_, .f32⟩
  | 74 => ⟨S36864x3584, .f32⟩
  | 75 => ⟨S36864x3584, .f32⟩
  | 76 => ⟨S_, .f32⟩
  | 77 => ⟨S36864x3584, .f32⟩
  | 78 => ⟨S36864x3584, .f32⟩
  | 79 => ⟨S36864x3584, .f32⟩
  | 80 => ⟨S36864x3584, .f32⟩
  | 81 => ⟨S36864x3584, .f32⟩
  | 82 => ⟨S36864x1024, .f32⟩
  | 83 => ⟨S36864x1024, .f32⟩
  | 84 => ⟨S36864x1024, .f32⟩
  | 85 => ⟨S36864x1024, .f32⟩
  | _ => ⟨S72, .i32⟩

abbrev hbmTy (i : Nat) : BufTy := match i / 128 with
  | 0 => hbmTy0_0 i
  | 1 => hbmTy0_1 i
  | 2 => hbmTy0_2 i
  | 3 => hbmTy0_3 i
  | _ => ⟨S72, .i32⟩

abbrev bufTy : (tb : Table) → Fin (tcTables nBuf tb) → BufTy
  | .hbm, ⟨i, _⟩ => hbmTy i
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_call1_v5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_1 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_call2_v0 : Ref sig .tc := ⟨.hbm, 91, rfl⟩
abbrev main_call2_v1 : Ref sig .tc := ⟨.hbm, 92, rfl⟩
abbrev main_call2_cst : Ref sig .tc := ⟨.hbm, 93, rfl⟩
abbrev main_call2_v2 : Ref sig .tc := ⟨.hbm, 94, rfl⟩
abbrev main_call2_v3 : Ref sig .tc := ⟨.hbm, 95, rfl⟩
abbrev main_call2_cst_0 : Ref sig .tc := ⟨.hbm, 96, rfl⟩
abbrev main_call2_v4 : Ref sig .tc := ⟨.hbm, 97, rfl⟩
abbrev main_call2_v5 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_c_2 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_call3_v5 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_3 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_call4_v0 : Ref sig .tc := ⟨.hbm, 147, rfl⟩
abbrev main_call4_v1 : Ref sig .tc := ⟨.hbm, 148, rfl⟩
abbrev main_call4_cst : Ref sig .tc := ⟨.hbm, 149, rfl⟩
abbrev main_call4_v2 : Ref sig .tc := ⟨.hbm, 150, rfl⟩
abbrev main_call4_v3 : Ref sig .tc := ⟨.hbm, 151, rfl⟩
abbrev main_call4_cst_0 : Ref sig .tc := ⟨.hbm, 152, rfl⟩
abbrev main_call4_v4 : Ref sig .tc := ⟨.hbm, 153, rfl⟩
abbrev main_call4_v5 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_c_4 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_call5_v0 : Ref sig .tc := ⟨.hbm, 175, rfl⟩
abbrev main_call5_v1 : Ref sig .tc := ⟨.hbm, 176, rfl⟩
abbrev main_call5_cst : Ref sig .tc := ⟨.hbm, 177, rfl⟩
abbrev main_call5_v2 : Ref sig .tc := ⟨.hbm, 178, rfl⟩
abbrev main_call5_v3 : Ref sig .tc := ⟨.hbm, 179, rfl⟩
abbrev main_call5_cst_0 : Ref sig .tc := ⟨.hbm, 180, rfl⟩
abbrev main_call5_v4 : Ref sig .tc := ⟨.hbm, 181, rfl⟩
abbrev main_call5_v5 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_c_5 : Ref sig .tc := ⟨.hbm, 190, rfl⟩
abbrev main_v127 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_call6_v0 : Ref sig .tc := ⟨.hbm, 203, rfl⟩
abbrev main_call6_v1 : Ref sig .tc := ⟨.hbm, 204, rfl⟩
abbrev main_call6_cst : Ref sig .tc := ⟨.hbm, 205, rfl⟩
abbrev main_call6_v2 : Ref sig .tc := ⟨.hbm, 206, rfl⟩
abbrev main_call6_v3 : Ref sig .tc := ⟨.hbm, 207, rfl⟩
abbrev main_call6_cst_0 : Ref sig .tc := ⟨.hbm, 208, rfl⟩
abbrev main_call6_v4 : Ref sig .tc := ⟨.hbm, 209, rfl⟩
abbrev main_call6_v5 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_c_6 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_v153 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_call7_v0 : Ref sig .tc := ⟨.hbm, 231, rfl⟩
abbrev main_call7_v1 : Ref sig .tc := ⟨.hbm, 232, rfl⟩
abbrev main_call7_cst : Ref sig .tc := ⟨.hbm, 233, rfl⟩
abbrev main_call7_v2 : Ref sig .tc := ⟨.hbm, 234, rfl⟩
abbrev main_call7_v3 : Ref sig .tc := ⟨.hbm, 235, rfl⟩
abbrev main_call7_cst_0 : Ref sig .tc := ⟨.hbm, 236, rfl⟩
abbrev main_call7_v4 : Ref sig .tc := ⟨.hbm, 237, rfl⟩
abbrev main_call7_v5 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_v161 : Ref sig .tc := ⟨.hbm, 242, rfl⟩
abbrev main_v162 : Ref sig .tc := ⟨.hbm, 243, rfl⟩
abbrev main_v163 : Ref sig .tc := ⟨.hbm, 244, rfl⟩
abbrev main_v164 : Ref sig .tc := ⟨.hbm, 245, rfl⟩
abbrev main_c_7 : Ref sig .tc := ⟨.hbm, 246, rfl⟩
abbrev main_v165 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_call8_v0 : Ref sig .tc := ⟨.hbm, 259, rfl⟩
abbrev main_call8_v1 : Ref sig .tc := ⟨.hbm, 260, rfl⟩
abbrev main_call8_cst : Ref sig .tc := ⟨.hbm, 261, rfl⟩
abbrev main_call8_v2 : Ref sig .tc := ⟨.hbm, 262, rfl⟩
abbrev main_call8_v3 : Ref sig .tc := ⟨.hbm, 263, rfl⟩
abbrev main_call8_cst_0 : Ref sig .tc := ⟨.hbm, 264, rfl⟩
abbrev main_call8_v4 : Ref sig .tc := ⟨.hbm, 265, rfl⟩
abbrev main_call8_v5 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_c_8 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_call9_v0 : Ref sig .tc := ⟨.hbm, 287, rfl⟩
abbrev main_call9_v1 : Ref sig .tc := ⟨.hbm, 288, rfl⟩
abbrev main_call9_cst : Ref sig .tc := ⟨.hbm, 289, rfl⟩
abbrev main_call9_v2 : Ref sig .tc := ⟨.hbm, 290, rfl⟩
abbrev main_call9_v3 : Ref sig .tc := ⟨.hbm, 291, rfl⟩
abbrev main_call9_cst_0 : Ref sig .tc := ⟨.hbm, 292, rfl⟩
abbrev main_call9_v4 : Ref sig .tc := ⟨.hbm, 293, rfl⟩
abbrev main_call9_v5 : Ref sig .tc := ⟨.hbm, 294, rfl⟩
abbrev main_v196 : Ref sig .tc := ⟨.hbm, 295, rfl⟩
abbrev main_v197 : Ref sig .tc := ⟨.hbm, 296, rfl⟩
abbrev main_v198 : Ref sig .tc := ⟨.hbm, 297, rfl⟩
abbrev main_v199 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_c_9 : Ref sig .tc := ⟨.hbm, 302, rfl⟩
abbrev main_v203 : Ref sig .tc := ⟨.hbm, 303, rfl⟩
abbrev main_v204 : Ref sig .tc := ⟨.hbm, 304, rfl⟩
abbrev main_v205 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_v210 : Ref sig .tc := ⟨.hbm, 310, rfl⟩
abbrev main_v211 : Ref sig .tc := ⟨.hbm, 311, rfl⟩
abbrev main_v212 : Ref sig .tc := ⟨.hbm, 312, rfl⟩
abbrev main_v213 : Ref sig .tc := ⟨.hbm, 313, rfl⟩
abbrev main_v214 : Ref sig .tc := ⟨.hbm, 314, rfl⟩
abbrev main_call10_v0 : Ref sig .tc := ⟨.hbm, 315, rfl⟩
abbrev main_call10_v1 : Ref sig .tc := ⟨.hbm, 316, rfl⟩
abbrev main_call10_cst : Ref sig .tc := ⟨.hbm, 317, rfl⟩
abbrev main_call10_v2 : Ref sig .tc := ⟨.hbm, 318, rfl⟩
abbrev main_call10_v3 : Ref sig .tc := ⟨.hbm, 319, rfl⟩
abbrev main_call10_cst_0 : Ref sig .tc := ⟨.hbm, 320, rfl⟩
abbrev main_call10_v4 : Ref sig .tc := ⟨.hbm, 321, rfl⟩
abbrev main_call10_v5 : Ref sig .tc := ⟨.hbm, 322, rfl⟩
abbrev main_v215 : Ref sig .tc := ⟨.hbm, 323, rfl⟩
abbrev main_v216 : Ref sig .tc := ⟨.hbm, 324, rfl⟩
abbrev main_v217 : Ref sig .tc := ⟨.hbm, 325, rfl⟩
abbrev main_v218 : Ref sig .tc := ⟨.hbm, 326, rfl⟩
abbrev main_v219 : Ref sig .tc := ⟨.hbm, 327, rfl⟩
abbrev main_v220 : Ref sig .tc := ⟨.hbm, 328, rfl⟩
abbrev main_v221 : Ref sig .tc := ⟨.hbm, 329, rfl⟩
abbrev main_c_10 : Ref sig .tc := ⟨.hbm, 330, rfl⟩
abbrev main_v222 : Ref sig .tc := ⟨.hbm, 331, rfl⟩
abbrev main_v223 : Ref sig .tc := ⟨.hbm, 332, rfl⟩
abbrev main_v224 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_v230 : Ref sig .tc := ⟨.hbm, 339, rfl⟩
abbrev main_v231 : Ref sig .tc := ⟨.hbm, 340, rfl⟩
abbrev main_v232 : Ref sig .tc := ⟨.hbm, 341, rfl⟩
abbrev main_v233 : Ref sig .tc := ⟨.hbm, 342, rfl⟩
abbrev main_call11_v0 : Ref sig .tc := ⟨.hbm, 343, rfl⟩
abbrev main_call11_v1 : Ref sig .tc := ⟨.hbm, 344, rfl⟩
abbrev main_call11_cst : Ref sig .tc := ⟨.hbm, 345, rfl⟩
abbrev main_call11_v2 : Ref sig .tc := ⟨.hbm, 346, rfl⟩
abbrev main_call11_v3 : Ref sig .tc := ⟨.hbm, 347, rfl⟩
abbrev main_call11_cst_0 : Ref sig .tc := ⟨.hbm, 348, rfl⟩
abbrev main_call11_v4 : Ref sig .tc := ⟨.hbm, 349, rfl⟩
abbrev main_call11_v5 : Ref sig .tc := ⟨.hbm, 350, rfl⟩
abbrev main_v234 : Ref sig .tc := ⟨.hbm, 351, rfl⟩
abbrev main_v235 : Ref sig .tc := ⟨.hbm, 352, rfl⟩
abbrev main_v236 : Ref sig .tc := ⟨.hbm, 353, rfl⟩
abbrev main_v237 : Ref sig .tc := ⟨.hbm, 354, rfl⟩
abbrev main_v238 : Ref sig .tc := ⟨.hbm, 355, rfl⟩
abbrev main_v239 : Ref sig .tc := ⟨.hbm, 356, rfl⟩
abbrev main_v240 : Ref sig .tc := ⟨.hbm, 357, rfl⟩
abbrev main_c_11 : Ref sig .tc := ⟨.hbm, 358, rfl⟩
abbrev main_v241 : Ref sig .tc := ⟨.hbm, 359, rfl⟩
abbrev main_v242 : Ref sig .tc := ⟨.hbm, 360, rfl⟩
abbrev main_v243 : Ref sig .tc := ⟨.hbm, 361, rfl⟩
abbrev main_v244 : Ref sig .tc := ⟨.hbm, 362, rfl⟩
abbrev main_v245 : Ref sig .tc := ⟨.hbm, 363, rfl⟩
abbrev main_v246 : Ref sig .tc := ⟨.hbm, 364, rfl⟩
abbrev main_v247 : Ref sig .tc := ⟨.hbm, 365, rfl⟩
abbrev main_v248 : Ref sig .tc := ⟨.hbm, 366, rfl⟩
abbrev main_v249 : Ref sig .tc := ⟨.hbm, 367, rfl⟩
abbrev main_v250 : Ref sig .tc := ⟨.hbm, 368, rfl⟩
abbrev main_v251 : Ref sig .tc := ⟨.hbm, 369, rfl⟩
abbrev main_v252 : Ref sig .tc := ⟨.hbm, 370, rfl⟩
abbrev main_call12_v0 : Ref sig .tc := ⟨.hbm, 371, rfl⟩
abbrev main_call12_v1 : Ref sig .tc := ⟨.hbm, 372, rfl⟩
abbrev main_call12_cst : Ref sig .tc := ⟨.hbm, 373, rfl⟩
abbrev main_call12_v2 : Ref sig .tc := ⟨.hbm, 374, rfl⟩
abbrev main_call12_v3 : Ref sig .tc := ⟨.hbm, 375, rfl⟩
abbrev main_call12_cst_0 : Ref sig .tc := ⟨.hbm, 376, rfl⟩
abbrev main_call12_v4 : Ref sig .tc := ⟨.hbm, 377, rfl⟩
abbrev main_call12_v5 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_v257 : Ref sig .tc := ⟨.hbm, 383, rfl⟩
abbrev main_v258 : Ref sig .tc := ⟨.hbm, 384, rfl⟩
abbrev main_v259 : Ref sig .tc := ⟨.hbm, 385, rfl⟩
abbrev main_c_12 : Ref sig .tc := ⟨.hbm, 386, rfl⟩
abbrev main_v260 : Ref sig .tc := ⟨.hbm, 387, rfl⟩
abbrev main_v261 : Ref sig .tc := ⟨.hbm, 388, rfl⟩
abbrev main_v262 : Ref sig .tc := ⟨.hbm, 389, rfl⟩
abbrev main_v263 : Ref sig .tc := ⟨.hbm, 390, rfl⟩
abbrev main_v264 : Ref sig .tc := ⟨.hbm, 391, rfl⟩
abbrev main_v265 : Ref sig .tc := ⟨.hbm, 392, rfl⟩
abbrev main_v266 : Ref sig .tc := ⟨.hbm, 393, rfl⟩
abbrev main_v267 : Ref sig .tc := ⟨.hbm, 394, rfl⟩
abbrev main_v268 : Ref sig .tc := ⟨.hbm, 395, rfl⟩
abbrev main_v269 : Ref sig .tc := ⟨.hbm, 396, rfl⟩
abbrev main_v270 : Ref sig .tc := ⟨.hbm, 397, rfl⟩
abbrev main_v271 : Ref sig .tc := ⟨.hbm, 398, rfl⟩
abbrev main_call13_v0 : Ref sig .tc := ⟨.hbm, 399, rfl⟩
abbrev main_call13_v1 : Ref sig .tc := ⟨.hbm, 400, rfl⟩
abbrev main_call13_cst : Ref sig .tc := ⟨.hbm, 401, rfl⟩
abbrev main_call13_v2 : Ref sig .tc := ⟨.hbm, 402, rfl⟩
abbrev main_call13_v3 : Ref sig .tc := ⟨.hbm, 403, rfl⟩
abbrev main_call13_cst_0 : Ref sig .tc := ⟨.hbm, 404, rfl⟩
abbrev main_call13_v4 : Ref sig .tc := ⟨.hbm, 405, rfl⟩
abbrev main_call13_v5 : Ref sig .tc := ⟨.hbm, 406, rfl⟩
abbrev main_v272 : Ref sig .tc := ⟨.hbm, 407, rfl⟩
abbrev main_v273 : Ref sig .tc := ⟨.hbm, 408, rfl⟩
abbrev main_v274 : Ref sig .tc := ⟨.hbm, 409, rfl⟩
abbrev main_v275 : Ref sig .tc := ⟨.hbm, 410, rfl⟩
abbrev main_v276 : Ref sig .tc := ⟨.hbm, 411, rfl⟩
abbrev main_v277 : Ref sig .tc := ⟨.hbm, 412, rfl⟩
abbrev main_v278 : Ref sig .tc := ⟨.hbm, 413, rfl⟩
abbrev main_c_13 : Ref sig .tc := ⟨.hbm, 414, rfl⟩
abbrev main_v279 : Ref sig .tc := ⟨.hbm, 415, rfl⟩
abbrev main_v280 : Ref sig .tc := ⟨.hbm, 416, rfl⟩
abbrev main_v281 : Ref sig .tc := ⟨.hbm, 417, rfl⟩
abbrev main_v282 : Ref sig .tc := ⟨.hbm, 418, rfl⟩
abbrev main_v283 : Ref sig .tc := ⟨.hbm, 419, rfl⟩
abbrev main_v284 : Ref sig .tc := ⟨.hbm, 420, rfl⟩
abbrev main_v285 : Ref sig .tc := ⟨.hbm, 421, rfl⟩
abbrev main_v286 : Ref sig .tc := ⟨.hbm, 422, rfl⟩
abbrev main_v287 : Ref sig .tc := ⟨.hbm, 423, rfl⟩
abbrev main_v288 : Ref sig .tc := ⟨.hbm, 424, rfl⟩
abbrev main_v289 : Ref sig .tc := ⟨.hbm, 425, rfl⟩
abbrev main_v290 : Ref sig .tc := ⟨.hbm, 426, rfl⟩
abbrev main_call14_v0 : Ref sig .tc := ⟨.hbm, 427, rfl⟩
abbrev main_call14_v1 : Ref sig .tc := ⟨.hbm, 428, rfl⟩
abbrev main_call14_cst : Ref sig .tc := ⟨.hbm, 429, rfl⟩
abbrev main_call14_v2 : Ref sig .tc := ⟨.hbm, 430, rfl⟩
abbrev main_call14_v3 : Ref sig .tc := ⟨.hbm, 431, rfl⟩
abbrev main_call14_cst_0 : Ref sig .tc := ⟨.hbm, 432, rfl⟩
abbrev main_call14_v4 : Ref sig .tc := ⟨.hbm, 433, rfl⟩
abbrev main_call14_v5 : Ref sig .tc := ⟨.hbm, 434, rfl⟩
abbrev main_v291 : Ref sig .tc := ⟨.hbm, 435, rfl⟩
abbrev main_v292 : Ref sig .tc := ⟨.hbm, 436, rfl⟩
abbrev main_v293 : Ref sig .tc := ⟨.hbm, 437, rfl⟩
abbrev main_v294 : Ref sig .tc := ⟨.hbm, 438, rfl⟩
abbrev main_v295 : Ref sig .tc := ⟨.hbm, 439, rfl⟩
abbrev main_v296 : Ref sig .tc := ⟨.hbm, 440, rfl⟩
abbrev main_v297 : Ref sig .tc := ⟨.hbm, 441, rfl⟩
abbrev main_c_14 : Ref sig .tc := ⟨.hbm, 442, rfl⟩
abbrev main_v298 : Ref sig .tc := ⟨.hbm, 443, rfl⟩
abbrev main_v299 : Ref sig .tc := ⟨.hbm, 444, rfl⟩
abbrev main_v300 : Ref sig .tc := ⟨.hbm, 445, rfl⟩
abbrev main_v301 : Ref sig .tc := ⟨.hbm, 446, rfl⟩
abbrev main_v302 : Ref sig .tc := ⟨.hbm, 447, rfl⟩
abbrev main_v303 : Ref sig .tc := ⟨.hbm, 448, rfl⟩
abbrev main_v304 : Ref sig .tc := ⟨.hbm, 449, rfl⟩
abbrev main_v305 : Ref sig .tc := ⟨.hbm, 450, rfl⟩
abbrev main_v306 : Ref sig .tc := ⟨.hbm, 451, rfl⟩
abbrev main_v307 : Ref sig .tc := ⟨.hbm, 452, rfl⟩
abbrev main_v308 : Ref sig .tc := ⟨.hbm, 453, rfl⟩
abbrev main_v309 : Ref sig .tc := ⟨.hbm, 454, rfl⟩
abbrev main_call15_v0 : Ref sig .tc := ⟨.hbm, 455, rfl⟩
abbrev main_call15_v1 : Ref sig .tc := ⟨.hbm, 456, rfl⟩
abbrev main_call15_cst : Ref sig .tc := ⟨.hbm, 457, rfl⟩
abbrev main_call15_v2 : Ref sig .tc := ⟨.hbm, 458, rfl⟩
abbrev main_call15_v3 : Ref sig .tc := ⟨.hbm, 459, rfl⟩
abbrev main_call15_cst_0 : Ref sig .tc := ⟨.hbm, 460, rfl⟩
abbrev main_call15_v4 : Ref sig .tc := ⟨.hbm, 461, rfl⟩
abbrev main_call15_v5 : Ref sig .tc := ⟨.hbm, 462, rfl⟩
abbrev main_v310 : Ref sig .tc := ⟨.hbm, 463, rfl⟩
abbrev main_v311 : Ref sig .tc := ⟨.hbm, 464, rfl⟩
abbrev main_v312 : Ref sig .tc := ⟨.hbm, 465, rfl⟩
abbrev main_v313 : Ref sig .tc := ⟨.hbm, 466, rfl⟩
abbrev main_v314 : Ref sig .tc := ⟨.hbm, 467, rfl⟩
abbrev main_v315 : Ref sig .tc := ⟨.hbm, 468, rfl⟩
abbrev main_v316 : Ref sig .tc := ⟨.hbm, 469, rfl⟩

abbrev nD : Nat := 1
abbrev τ : Topo := Topo.v7x

variable {F : FTy → Type} [FloatOps F]
-- ==== Ffn.lean ====
abbrev S17408x1024 : Shape := ⟨2, ![17408, 1024]⟩
abbrev S6x8x1x1024 : Shape := ⟨4, ![6, 8, 1, 1024]⟩
abbrev S4x2x1024 : Shape := ⟨3, ![4, 2, 1024]⟩
abbrev S2x1024x2816 : Shape := ⟨3, ![2, 1024, 2816]⟩
abbrev S2x2816x1024 : Shape := ⟨3, ![2, 2816, 1024]⟩
abbrev S1x1x1024 : Shape := ⟨3, ![1, 1, 1024]⟩
abbrev S1024 : Shape := ⟨1, ![1024]⟩
abbrev S1x1024 : Shape := ⟨2, ![1, 1024]⟩
abbrev S512x1024 : Shape := ⟨2, ![512, 1024]⟩
abbrev S1x1x1x1024 : Shape := ⟨4, ![1, 1, 1, 1024]⟩
abbrev S1x1024x2816 : Shape := ⟨3, ![1, 1024, 2816]⟩
abbrev S1x2816x1024 : Shape := ⟨3, ![1, 2816, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 13
  | .vmem => 14
  | .smem => 0
  | _ => 0

abbrev bufTy : (tb : Table) → Fin (tcTables nBuf tb) → BufTy
  | .hbm, ⟨0, _⟩ => ⟨S17408x1024, .f32⟩
  | .hbm, ⟨1, _⟩ => ⟨S6x8x1x1024, .f32⟩
  | .hbm, ⟨2, _⟩ => ⟨S4x2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S2x1024x2816, .bf16⟩
  | .hbm, ⟨7, _⟩ => ⟨S2x1024x2816, .bf16⟩
  | .hbm, ⟨8, _⟩ => ⟨S2x2816x1024, .bf16⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1024, .f32⟩
  | .local _ .vmem, ⟨9, _⟩ => ⟨S1x1024x2816, .bf16⟩
  | .local _ .vmem, ⟨10, _⟩ => ⟨S1x1024x2816, .bf16⟩
  | .local _ .vmem, ⟨11, _⟩ => ⟨S1x2816x1024, .bf16⟩
  | .local _ .vmem, ⟨12, _⟩ => ⟨S512x1024, .f32⟩
  | .local _ .vmem, ⟨13, _⟩ => ⟨S512x1024, .f32⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c3_i32 : BitVec 32 := 3#32
  let c0_i32_4 : BitVec 32 := 0#32
  let c0_i32_5 : BitVec 32 := 0#32
  let c0_i32_6 : BitVec 32 := 0#32
  ![c3_i32.toNat, v19.toNat, c0_i32_4.toNat, c0_i32_5.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c4_i32_4 : BitVec 32 := 4#32
  let c0_i32_5 : BitVec 32 := 0#32
  let c0_i32_6 : BitVec 32 := 0#32
  let c0_i32_7 : BitVec 32 := 0#32
  ![c4_i32_4.toNat, v19.toNat, c0_i32_5.toNat, c0_i32_6.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c5_i32 : BitVec 32 := 5#32
  let c0_i32_4 : BitVec 32 := 0#32
  let c0_i32_5 : BitVec 32 := 0#32
  let c0_i32_6 : BitVec 32 := 0#32
  ![c5_i32.toNat, v19.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnReferenceIdeal.lean ====
abbrev S17408x1024 : Shape := ⟨2, ![17408, 1024]⟩
abbrev S6x8x1x1024 : Shape := ⟨4, ![6, 8, 1, 1024]⟩
abbrev S4x2x1024 : Shape := ⟨3, ![4, 2, 1024]⟩
abbrev S2x1024x2816 : Shape := ⟨3, ![2, 1024, 2816]⟩
abbrev S2x2816x1024 : Shape := ⟨3, ![2, 2816, 1024]⟩
abbrev S16384x1024 : Shape := ⟨2, ![16384, 1024]⟩
abbrev S4x4096x1024 : Shape := ⟨3, ![4, 4096, 1024]⟩
abbrev S1024x1024 : Shape := ⟨2, ![1024, 1024]⟩
abbrev S4x256x1024 : Shape := ⟨3, ![4, 256, 1024]⟩
abbrev S1x4x1x1024 : Shape := ⟨4, ![1, 4, 1, 1024]⟩
abbrev S4x1x1024 : Shape := ⟨3, ![4, 1, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩
abbrev S1x1x1x1024 : Shape := ⟨4, ![1, 1, 1, 1024]⟩
abbrev S4x256 : Shape := ⟨2, ![4, 256]⟩
abbrev S4x256x1 : Shape := ⟨3, ![4, 256, 1]⟩
abbrev S4x256x2816 : Shape := ⟨3, ![4, 256, 2816]⟩

abbrev nBuf : Space → Nat
  | .hbm => 119
  | .vmem => 0
  | .smem => 0
  | _ => 0

abbrev bufTy : (tb : Table) → Fin (tcTables nBuf tb) → BufTy
  | .hbm, ⟨0, _⟩ => ⟨S17408x1024, .f32⟩
  | .hbm, ⟨1, _⟩ => ⟨S6x8x1x1024, .f32⟩
  | .hbm, ⟨2, _⟩ => ⟨S4x2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S16384x1024, .f32⟩
  | .hbm, ⟨7, _⟩ => ⟨S4x4096x1024, .f32⟩
  | .hbm, ⟨8, _⟩ => ⟨S1024x1024, .f32⟩
  | .hbm, ⟨9, _⟩ => ⟨S4x256x1024, .f32⟩
  | .hbm, ⟨10, _⟩ => ⟨S1x4x1x1024, .f32⟩
  | .hbm, ⟨11, _⟩ => ⟨S4x1x1024, .f32⟩
  | .hbm, ⟨12, _⟩ => ⟨S1x4x1x1024, .f32⟩
  | .hbm, ⟨13, _⟩ => ⟨S4x1x1024, .f32⟩
  | .hbm, ⟨14, _⟩ => ⟨S1x4x1x1024, .f32⟩
  | .hbm, ⟨15, _⟩ => ⟨S4x1x1024, .f32⟩
  | .hbm, ⟨16, _⟩ => ⟨S1x1x1024, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | .hbm, ⟨40, _⟩ => ⟨S4x4096x1024, .f32⟩
  | .hbm, ⟨41, _⟩ => ⟨S1x1024x2816, .f32⟩
  | .hbm, ⟨42, _⟩ => ⟨S1024x2816, .f32⟩
  | .hbm, ⟨43, _⟩ => ⟨S1x1024x2816, .f32⟩
  | .hbm, ⟨44, _⟩ => ⟨S1024x2816, .f32⟩
  | .hbm, ⟨45, _⟩ => ⟨S1x2816x1024, .f32⟩
  | .hbm, ⟨46, _⟩ => ⟨S2816x1024, .f32⟩
  | .hbm, ⟨47, _⟩ => ⟨S4x4096x2816, .f32⟩
  | .hbm, ⟨48, _⟩ => ⟨S4x4096x2816, .f32⟩
  | .hbm, ⟨49, _⟩ => ⟨S4x4096x2816, .f32⟩
  | .hbm, ⟨50, _⟩ => ⟨S_, .f32⟩
  | .hbm, ⟨51, _⟩ => ⟨S4x4096x2816, .f32⟩
  | .hbm, ⟨52, _⟩ => ⟨S4x4096x2816, .f32⟩
  | .hbm, ⟨53, _⟩ => ⟨S_, .f32⟩
  | .hbm, ⟨54, _⟩ => ⟨S4x4096x2816, .f32⟩
  | .hbm, ⟨55, _⟩ => ⟨S4x4096x2816, .f32⟩
  | .hbm, ⟨56, _⟩ => ⟨S4x4096x2816, .f32⟩
  | .hbm, ⟨57, _⟩ => ⟨S4x4096x2816, .f32⟩
  | .hbm, ⟨58, _⟩ => ⟨S4x4096x2816, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S1x1x1x1024, .f32⟩
  | .hbm, ⟨64, _⟩ => ⟨S1x1x1024, .f32⟩
  | .hbm, ⟨65, _⟩ => ⟨S1x1x1x1024, .f32⟩
  | .hbm, ⟨66, _⟩ => ⟨S1x1x1024, .f32⟩
  | .hbm, ⟨67, _⟩ => ⟨S1x1x1x1024, .f32⟩
  | .hbm, ⟨68, _⟩ => ⟨S1x1x1024, .f32⟩
  | .hbm, ⟨69, _⟩ => ⟨S1x1x1024, .f32⟩
  | .hbm, ⟨70, _⟩ => ⟨S1024, .f32⟩
  | .hbm, ⟨71, _⟩ => ⟨S4x256x1024, .f32⟩
  | .hbm, ⟨72, _⟩ => ⟨S_, .f32⟩
  | .hbm, ⟨73, _⟩ => ⟨S4x256, .f32⟩
  | .hbm, ⟨74, _⟩ => ⟨S4x256x1, .f32⟩
  | .hbm, ⟨75, _⟩ => ⟨S_, .f32⟩
  | .hbm, ⟨76, _⟩ => ⟨S4x256x1, .f32⟩
  | .hbm, ⟨77, _⟩ => ⟨S4x256x1, .f32⟩
  | .hbm, ⟨78, _⟩ => ⟨S_, .f32⟩
  | .hbm, ⟨79, _⟩ => ⟨S4x256x1, .f32⟩
  | .hbm, ⟨80, _⟩ => ⟨S4x256x1, .f32⟩
  | .hbm, ⟨81, _⟩ => ⟨S4x256x1, .f32⟩
  | .hbm, ⟨82, _⟩ => ⟨S4x256x1024, .f32⟩
  | .hbm, ⟨83, _⟩ => ⟨S4x256x1024, .f32⟩
  | .hbm, ⟨84, _⟩ => ⟨S1x1x1024, .f32⟩
  | .hbm, ⟨85, _⟩ => ⟨S4x256x1024, .f32⟩
  | .hbm, ⟨86, _⟩ => ⟨S4x256x1024, .f32⟩
  | .hbm, ⟨87, _⟩ => ⟨S_, .f32⟩
  | .hbm, ⟨88, _⟩ => ⟨S1x1x1024, .f32⟩
  | .hbm, ⟨89, _⟩ => ⟨S1x1x1024, .f32⟩
  | .hbm, ⟨90, _⟩ => ⟨S4x256x1024, .f32⟩
  | .hbm, ⟨91, _⟩ => ⟨S4x256x1024, .f32⟩
  | .hbm, ⟨92, _⟩ => ⟨S4x256x1024, .f32⟩
  | .hbm, ⟨93, _⟩ => ⟨S4x256x1024, .f32⟩
  | .hbm, ⟨94, _⟩ => ⟨S1x1024x2816, .f32⟩
  | .hbm, ⟨95, _⟩ => ⟨S1024x2816, .f32⟩
  | .hbm, ⟨96, _⟩ => ⟨S1x1024x2816, .f32⟩
  | .hbm, ⟨97, _⟩ => ⟨S1024x2816, .f32⟩
  | .hbm, ⟨98, _⟩ => ⟨S1x2816x1024, .f32⟩
  | .hbm, ⟨99, _⟩ => ⟨S2816x1024, .f32⟩
  | .hbm, ⟨100, _⟩ => ⟨S4x256x2816, .f32⟩
  | .hbm, ⟨101, _⟩ => ⟨S4x256x2816, .f32⟩
  | .hbm, ⟨102, _⟩ => ⟨S4x256x2816, .f32⟩
  | .hbm, ⟨103, _⟩ => ⟨S_, .f32⟩
  | .hbm, ⟨104, _⟩ => ⟨S4x256x2816, .f32⟩
  | .hbm, ⟨105, _⟩ => ⟨S4x256x2816, .f32⟩
  | .hbm, ⟨106, _⟩ => ⟨S_, .f32⟩
  | .hbm, ⟨107, _⟩ => ⟨S4x256x2816, .f32⟩
  | .hbm, ⟨108, _⟩ => ⟨S4x256x2816, .f32⟩
  | .hbm, ⟨109, _⟩ => ⟨S4x256x2816, .f32⟩
  | .hbm, ⟨110, _⟩ => ⟨S4x256x2816, .f32⟩
  | .hbm, ⟨111, _⟩ => ⟨S4x256x2816, .f32⟩
  | .hbm, ⟨112, _⟩ => ⟨S4x256x1024, .f32⟩
  | .hbm, ⟨113, _⟩ => ⟨S4x256x1024, .f32⟩
  | .hbm, ⟨114, _⟩ => ⟨S4x256x1024, .f32⟩
  | .hbm, ⟨115, _⟩ => ⟨S4x256x1024, .f32⟩
  | .hbm, ⟨116, _⟩ => ⟨S16384x1024, .f32⟩
  | .hbm, ⟨117, _⟩ => ⟨S1024x1024, .f32⟩
  | .hbm, ⟨118, _⟩ => ⟨S17408x1024, .f32⟩
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_3 : Ref sig .tc := ⟨.hbm, 72, rfl⟩
abbrev main_v54 : Ref sig .tc := ⟨.hbm, 73, rfl⟩
abbrev main_v55 : Ref sig .tc := ⟨.hbm, 74, rfl⟩
abbrev main_cst_4 : Ref sig .tc := ⟨.hbm, 75, rfl⟩
abbrev main_v56 : Ref sig .tc := ⟨.hbm, 76, rfl⟩
abbrev main_v57 : Ref sig .tc := ⟨.hbm, 77, rfl⟩
abbrev main_cst_5 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩

abbrev nD : Nat := 1
abbrev τ : Topo := Topo.v7x

variable {F : FTy → Type} [FloatOps F]
-- ==== Gmlp.lean ====
abbrev S16384x1024 : Shape := ⟨2, ![16384, 1024]⟩
abbrev S1024x1024 : Shape := ⟨2, ![1024, 1024]⟩
abbrev S6x8x1x1024 : Shape := ⟨4, ![6, 8, 1, 1024]⟩
abbrev S4x2x1024 : Shape := ⟨3, ![4, 2, 1024]⟩
abbrev S2x1024x4096 : Shape := ⟨3, ![2, 1024, 4096]⟩
abbrev S2x2048 : Shape := ⟨2, ![2, 2048]⟩
abbrev S2x8x128x128 : Shape := ⟨4, ![2, 8, 128, 128]⟩
abbrev S2x8x128 : Shape := ⟨3, ![2, 8, 128]⟩
abbrev S2x2048x1024 : Shape := ⟨3, ![2, 2048, 1024]⟩
abbrev S1x1x1024 : Shape := ⟨3, ![1, 1, 1024]⟩
abbrev S1024 : Shape := ⟨1, ![1024]⟩
abbrev S1x1024 : Shape := ⟨2, ![1, 1024]⟩
abbrev S1x8x128 : Shape := ⟨3, ![1, 8, 128]⟩
abbrev S8x128 : Shape := ⟨2, ![8, 128]⟩
abbrev S128x8 : Shape := ⟨2, ![128, 8]⟩
abbrev S128x8x256 : Shape := ⟨3, ![128, 8, 256]⟩
abbrev S128x2048 : Shape := ⟨2, ![128, 2048]⟩
abbrev S1x2048 : Shape := ⟨2, ![1, 2048]⟩
abbrev S2048 : Shape := ⟨1, ![2048]⟩
abbrev S1x8x128x128 : Shape := ⟨4, ![1, 8, 128, 128]⟩
abbrev S8x128x128 : Shape := ⟨3, ![8, 128, 128]⟩
abbrev S17408x1024 : Shape := ⟨2, ![17408, 1024]⟩
abbrev S512x1024 : Shape := ⟨2, ![512, 1024]⟩
abbrev S1x1x1x1024 : Shape := ⟨4, ![1, 1, 1, 1024]⟩
abbrev S1x1024x4096 : Shape := ⟨3, ![1, 1024, 4096]⟩
abbrev S1x2048x1024 : Shape := ⟨3, ![1, 2048, 1024]⟩
abbrev S512x2048 : Shape := ⟨2, ![512, 2048]⟩
abbrev S512 : Shape := ⟨1, ![512]⟩
abbrev S512x1 : Shape := ⟨2, ![512, 1]⟩
abbrev S1024x4096 : Shape := ⟨2, ![1024, 4096]⟩
abbrev S512x4096 : Shape := ⟨2, ![512, 4096]⟩
abbrev S1x128x128 : Shape := ⟨3, ![1, 128, 128]⟩
abbrev S128x128 : Shape := ⟨2, ![128, 128]⟩
abbrev S128x256 : Shape := ⟨2, ![128, 256]⟩
abbrev S2048x1024 : Shape := ⟨2, ![2048, 1024]⟩

abbrev nBuf : Space → Nat
  | .hbm => 26
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S6x8x1x1024, .f32⟩
  | .hbm, ⟨3, _⟩ => ⟨S4x2x1024, .f32⟩
  | .hbm, ⟨4, _⟩ => ⟨S2x1024x4096, .f32⟩
  | .hbm, ⟨5, _⟩ => ⟨S2x2048, .f32⟩
  | .hbm, ⟨6, _⟩ => ⟨S2x8x128x128, .f32⟩
  | .hbm, ⟨7, _⟩ => ⟨S2x8x128, .f32⟩
  | .hbm, ⟨8, _⟩ => ⟨S2x2048x1024, .f32⟩
  | .hbm, ⟨9, _⟩ => ⟨S2x1024x4096, .bf16⟩
  | .hbm, ⟨10, _⟩ => ⟨S2x2048x1024, .bf16⟩
  | .hbm, ⟨11, _⟩ => ⟨S1x1x1024, .f32⟩
  | .hbm, ⟨12, _⟩ => ⟨S1024, .f32⟩
  | .hbm, ⟨13, _⟩ => ⟨S1x1024, .f32⟩
  | .hbm, ⟨14, _⟩ => ⟨S1x8x128, .f32⟩
  | .hbm, ⟨15, _⟩ => ⟨S8x128, .f32⟩
  | .hbm, ⟨16, _⟩ => ⟨S128x8, .f32⟩
  | .hbm, ⟨17, _⟩ => ⟨S128x8x256, .f32⟩
  | .hbm, ⟨18, _⟩ => ⟨S128x2048, .f32⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S1x8x128x128, .f32⟩
  | .hbm, ⟨23, _⟩ => ⟨S8x128x128, .f32⟩
  | .hbm, ⟨24, _⟩ => ⟨S8x128x128, .bf16⟩
  | .hbm, ⟨25, _⟩ => ⟨S17408x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1024, .f32⟩
  | .local _ .vmem, ⟨11, _⟩ => ⟨S1x1024x4096, .bf16⟩
  | .local _ .vmem, ⟨12, _⟩ => ⟨S1x2048, .f32⟩
  | .local _ .vmem, ⟨13, _⟩ => ⟨S8x128x128, .bf16⟩
  | .local _ .vmem, ⟨14, _⟩ => ⟨S128x2048, .f32⟩
  | .local _ .vmem, ⟨15, _⟩ => ⟨S1x2048x1024, .bf16⟩
  | .local _ .vmem, ⟨16, _⟩ => ⟨S512x1024, .f32⟩
  | .local _ .vmem, ⟨17, _⟩ => ⟨S512x1024, .f32⟩
  | .local _ .vmem, ⟨18, _⟩ => ⟨S512x2048, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_4 : BitVec 32 := 0#32
  let c0_i32_5 : BitVec 32 := 0#32
  let c0_i32_6 : BitVec 32 := 0#32
  let c0_i32_7 : BitVec 32 := 0#32
  ![c0_i32_4.toNat, v19.toNat, c0_i32_5.toNat, c0_i32_6.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c1_i32_4 : BitVec 32 := 1#32
  let c0_i32_5 : BitVec 32 := 0#32
  let c0_i32_6 : BitVec 32 := 0#32
  let c0_i32_7 : BitVec 32 := 0#32
  ![c1_i32_4.toNat, v19.toNat, c0_i32_5.toNat, c0_i32_6.toNat]

def cc0_transform_4 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c2_i32 : BitVec 32 := 2#32
  let c0_i32_4 : BitVec 32 := 0#32
  let c0_i32_5 : BitVec 32 := 0#32
  let c0_i32_6 : BitVec 32 := 0#32
  ![c2_i32.toNat, v19.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== GmlpIdeal.lean ====
variable {F : FTy → Type} [FloatOps F] [Named F]
def κ : String → Option EReal := fun
  | "cubic" => some ((((-2) * ((6693141 / 8388608) * (Real.log 2)⁻¹)) * (12003091 / 268435456) : ℝ) : EReal)
  | "rate" => some (((-2) * ((6693141 / 8388608) * (Real.log 2)⁻¹) : ℝ) : EReal)
  | _ => none
-- ==== GmlpReferenceIdeal.lean ====
abbrev S16384x1024 : Shape := ⟨2, ![16384, 1024]⟩
abbrev S1024x1024 : Shape := ⟨2, ![1024, 1024]⟩
abbrev S6x8x1x1024 : Shape := ⟨4, ![6, 8, 1, 1024]⟩
abbrev S4x2x1024 : Shape := ⟨3, ![4, 2, 1024]⟩
abbrev S2x1024x4096 : Shape := ⟨3, ![2, 1024, 4096]⟩
abbrev S2x2048 : Shape := ⟨2, ![2, 2048]⟩
abbrev S2x8x128x128 : Shape := ⟨4, ![2, 8, 128, 128]⟩
abbrev S2x8x128 : Shape := ⟨3, ![2, 8, 128]⟩
abbrev S2x2048x1024 : Shape := ⟨3, ![2, 2048, 1024]⟩
abbrev S4x4096x1024 : Shape := ⟨3, ![4, 4096, 1024]⟩
abbrev S1x4x1x1024 : Shape := ⟨4, ![1, 4, 1, 1024]⟩
abbrev S4x1x1024 : Shape := ⟨3, ![4, 1, 1024]⟩
abbrev S1x1x1024 : Shape := ⟨3, ![1, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1024x4096 : Shape := ⟨3, ![1, 1024, 4096]⟩
abbrev S1024x4096 : Shape := ⟨2, ![1024, 4096]⟩
abbrev S1x2048 : Shape := ⟨2, ![1, 2048]⟩
abbrev S2048 : Shape := ⟨1, ![2048]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S1x2048x1024 : Shape := ⟨3, ![1, 2048, 1024]⟩
abbrev S2048x1024 : Shape := ⟨2, ![2048, 1024]⟩
abbrev S4x4096x4096 : Shape := ⟨3, ![4, 4096, 4096]⟩
abbrev S4x4096x2048 : Shape := ⟨3, ![4, 4096, 2048]⟩
abbrev S1x1x2048 : Shape := ⟨3, ![1, 1, 2048]⟩
abbrev S4x32x128x8x256 : Shape := ⟨5, ![4, 32, 128, 8, 256]⟩
abbrev S8x4x32x256x128 : Shape := ⟨5, ![8, 4, 32, 256, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4x256x1024 : Shape := ⟨3, ![4, 256, 1024]⟩
abbrev S1x1x1x1024 : Shape := ⟨4, ![1, 1, 1, 1024]⟩
abbrev S4x256 : Shape := ⟨2, ![4, 256]⟩
abbrev S4x256x1 : Shape := ⟨3, ![4, 256, 1]⟩
abbrev S4x256x4096 : Shape := ⟨3, ![4, 256, 4096]⟩
abbrev S4x256x2048 : Shape := ⟨3, ![4, 256, 2048]⟩
abbrev S4x2x128x8x256 : Shape := ⟨5, ![4, 2, 128, 8, 256]⟩
abbrev S8x4x2x256x128 : Shape := ⟨5, ![8, 4, 2, 256, 128]⟩
abbrev S17408x1024 : Shape := ⟨2, ![17408, 1024]⟩

abbrev nBuf : Space → Nat
  | .hbm => 196
  | .vmem => 0
  | .smem => 0
  | _ => 0

abbrev hbmTy0_0 (i : Nat) : BufTy := match i % 128 with
  | 0 => ⟨S16384x1024, .f32⟩
  | 1 => ⟨S1024x1024, .f32⟩
  | 2 => ⟨S6x8x1x1024, .f32⟩
  | 3 => ⟨S4x2x1024, .f32⟩
  | 4 => ⟨S2x1024x4096, .f32⟩
  | 5 => ⟨S2x2048, .f32⟩
  | 6 => ⟨S2x8x128x128, .f32⟩
  | 7 => ⟨S2x8x128, .f32⟩
  | 8 => ⟨S2x2048x1024, .f32⟩
  | 9 => ⟨S4x4096x1024, .f32⟩
  | 10 => ⟨S1x4x1x1024, .f32⟩
  | 11 => ⟨S4x1x1024, .f32⟩
  | 12 => ⟨S1x4x1x1024, .f32⟩
  | 13 => ⟨S4x1x1024, .f32⟩
  | 14 => ⟨S1x4x1x1024, .f32⟩
  | 15 => ⟨S4x1x1024, .f32⟩
  | 16 => ⟨S1x1x1024, .f32⟩
  | 17 => ⟨S1024, .f32⟩
  | 18 => ⟨S4x4096x1024, .f32⟩
  | 19 => ⟨S_, .f32⟩
  | 20 => ⟨S4x4096, .f32⟩
  | 21 => ⟨S4x4096x1, .f32⟩
  | 22 => ⟨S_, .f32⟩
  | 23 => ⟨S4x4096x1, .f32⟩
  | 24 => ⟨S4x4096x1, .f32⟩
  | 25 => ⟨S_, .f32⟩
  | 26 => ⟨S4x4096x1, .f32⟩
  | 27 => ⟨S4x4096x1, .f32⟩
  | 28 => ⟨S4x4096x1, .f32⟩
  | 29 => ⟨S4x4096x1024, .f32⟩
  | 30 => ⟨S4x4096x1024, .f32⟩
  | 31 => ⟨S1x1x1024, .f32⟩
  | 32 => ⟨S4x4096x1024, .f32⟩
  | 33 => ⟨S4x4096x1024, .f32⟩
  | 34 => ⟨S_, .f32⟩
  | 35 => ⟨S4x1x1024, .f32⟩
  | 36 => ⟨S4x1x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S1x1024x4096, .f32⟩
  | 42 => ⟨S1024x4096, .f32⟩
  | 43 => ⟨S1x2048, .f32⟩
  | 44 => ⟨S2048, .f32⟩
  | 45 => ⟨S1x8x128x128, .f32⟩
  | 46 => ⟨S8x128x128, .f32⟩
  | 47 => ⟨S1x8x128, .f32⟩
  | 48 => ⟨S8x128, .f32⟩
  | 49 => ⟨S1x2048x1024, .f32⟩
  | 50 => ⟨S2048x1024, .f32⟩
  | 51 => ⟨S4x4096x4096, .f32⟩
  | 52 => ⟨S4x4096x4096, .f32⟩
  | 53 => ⟨S4x4096x4096, .f32⟩
  | 54 => ⟨S_, .f32⟩
  | 55 => ⟨S4x4096x4096, .f32⟩
  | 56 => ⟨S4x4096x4096, .f32⟩
  | 57 => ⟨S4x4096x4096, .f32⟩
  | 58 => ⟨S_, .f32⟩
  | 59 => ⟨S4x4096x4096, .f32⟩
  | 60 => ⟨S4x4096x4096, .f32⟩
  | 61 => ⟨S4x4096x4096, .f32⟩
  | 62 => ⟨S_, .f32⟩
  | 63 => ⟨S4x4096x4096, .f32⟩
  | 64 => ⟨S4x4096x4096, .f32⟩
  | 65 => ⟨S_, .f32⟩
  | 66 => ⟨S4x4096x4096, .f32⟩
  | 67 => ⟨S4x4096x4096, .f32⟩
  | 68 => ⟨S4x4096x4096, .f32⟩
  | 69 => ⟨S4x4096x2048, .f32⟩
  | 70 => ⟨S4x4096x2048, .f32⟩
  | 71 => ⟨S4x4096x2048, .f32⟩
  | 72 => ⟨S_, .f32⟩
  | 73 => ⟨S4x4096, .f32⟩
  | 74 => ⟨S4x4096x1, .f32⟩
  | 75 => ⟨S_, .f32⟩
  | 76 => ⟨S4x4096x1, .f32⟩
  | 77 => ⟨S4x4096x1, .f32⟩
  | 78 => ⟨S_, .f32⟩
  | 79 => ⟨S4x4096x1, .f32⟩
  | 80 => ⟨S4x4096x1, .f32⟩
  | 81 => ⟨S4x4096x1, .f32⟩
  | 82 => ⟨S4x4096x2048, .f32⟩
  | 83 => ⟨S4x4096x2048, .f32⟩
  | 84 => ⟨S1x1x2048, .f32⟩
  | 85 => ⟨S4x4096x2048, .f32⟩
  | 86 => ⟨S4x4096x2048, .f32⟩
  | 87 => ⟨S4x32x128x8x256, .f32⟩
  | 88 => ⟨S8x4x32x256x128, .f32⟩
  | 89 => ⟨S4x32x128x8x256, .f32⟩
  | 90 => ⟨S128x8, .f32⟩
  | 91 => ⟨S128x8x1, .f32⟩
  | 92 => ⟨S1x1x128x8x1, .f32⟩
  | 93 => ⟨S4x32x128x8x256, .f32⟩
  | 94 => ⟨S4x32x128x8x256, .f32⟩
  | 95 => ⟨S4x4096x2048, .f32⟩
  | 96 => ⟨S4x4096x2048, .f32⟩
  | 97 => ⟨S4x4096x1024, .f32⟩
  | 98 => ⟨S4x4096x1024, .f32⟩
  | 99 => ⟨S4x4096x1024, .f32⟩
  | 100 => ⟨S4x4096x1024, .f32⟩
  | 101 => ⟨S4x256x1024, .f32⟩
  | 102 => ⟨S1x1x1x1024, .f32⟩
  | 103 => ⟨S1x1x1024, .f32⟩
  | 104 => ⟨S1x1x1x1024, .f32⟩
  | 105 => ⟨S1x1x1024, .f32⟩
  | 106 => ⟨S1x1x1x1024, .f32⟩
  | 107 => ⟨S1x1x1024, .f32⟩
  | 108 => ⟨S1x1x1024, .f32⟩
  | 109 => ⟨S1024, .f32⟩
  | 110 => ⟨S4x256x1024, .f32⟩
  | 111 => ⟨S_, .f32⟩
  | 112 => ⟨S4x256, .f32⟩
  | 113 => ⟨S4x256x1, .f32⟩
  | 114 => ⟨S_, .f32⟩
  | 115 => ⟨S4x256x1, .f32⟩
  | 116 => ⟨S4x256x1, .f32⟩
  | 117 => ⟨S_, .f32⟩
  | 118 => ⟨S4x256x1, .f32⟩
  | 119 => ⟨S4x256x1, .f32⟩
  | 120 => ⟨S4x256x1, .f32⟩
  | 121 => ⟨S4x256x1024, .f32⟩
  | 122 => ⟨S4x256x1024, .f32⟩
  | 123 => ⟨S1x1x1024, .f32⟩
  | 124 => ⟨S4x256x1024, .f32⟩
  | 125 => ⟨S4x256x1024, .f32⟩
  | 126 => ⟨S_, .f32⟩
  | 127 => ⟨S1x1x1024, .f32⟩
  | _ => ⟨S16384x1024, .f32⟩

abbrev hbmTy0_1 (i : Nat) : BufTy := match i % 128 with
  | 0 => ⟨S1x1x1024, .f32⟩
  | 1 => ⟨S4x256x1024, .f32⟩
  | 2 => ⟨S4x256x1024, .f32⟩
  | 3 => ⟨S4x256x1024, .f32⟩
  | 4 => ⟨S4x256x1024, .f32⟩
  | 5 => ⟨S1x1024x4096, .f32⟩
  | 6 => ⟨S1024x4096, .f32⟩
  | 7 => ⟨S1x2048, .f32⟩
  | 8 => ⟨S2048, .f32⟩
  | 9 => ⟨S1x8x128x128, .f32⟩
  | 10 => ⟨S8x128x128, .f32⟩
  | 11 => ⟨S1x8x128, .f32⟩
  | 12 => ⟨S8x128, .f32⟩
  | 13 => ⟨S1x2048x1024, .f32⟩
  | 14 => ⟨S2048x1024, .f32⟩
  | 15 => ⟨S4x256x4096, .f32⟩
  | 16 => ⟨S4x256x4096, .f32⟩
  | 17 => ⟨S4x256x4096, .f32⟩
  | 18 => ⟨S_, .f32⟩
  | 19 => ⟨S4x256x4096, .f32⟩
  | 20 => ⟨S4x256x4096, .f32⟩
  | 21 => ⟨S4x256x4096, .f32⟩
  | 22 => ⟨S_, .f32⟩
  | 23 => ⟨S4x256x4096, .f32⟩
  | 24 => ⟨S4x256x4096, .f32⟩
  | 25 => ⟨S4x256x4096, .f32⟩
  | 26 => ⟨S_, .f32⟩
  | 27 => ⟨S4x256x4096, .f32⟩
  | 28 => ⟨S4x256x4096, .f32⟩
  | 29 => ⟨S_, .f32⟩
  | 30 => ⟨S4x256x4096, .f32⟩
  | 31 => ⟨S4x256x4096, .f32⟩
  | 32 => ⟨S4x256x4096, .f32⟩
  | 33 => ⟨S4x256x2048, .f32⟩
  | 34 => ⟨S4x256x2048, .f32⟩
  | 35 => ⟨S4x256x2048, .f32⟩
  | 36 => ⟨S_, .f32⟩
  | 37 => ⟨S4x256, .f32⟩
  | 38 => ⟨S4x256x1, .f32⟩
  | 39 => ⟨S_, .f32⟩
  | 40 => ⟨S4x256x1, .f32⟩
  | 41 => ⟨S4x256x1, .f32⟩
  | 42 => ⟨S_, .f32⟩
  | 43 => ⟨S4x256x1, .f32⟩
  | 44 => ⟨S4x256x1, .f32⟩
  | 45 => ⟨S4x256x1, .f32⟩
  | 46 => ⟨S4x256x2048, .f32⟩
  | 47 => ⟨S4x256x2048, .f32⟩
  | 48 => ⟨S1x1x2048, .f32⟩
  | 49 => ⟨S4x256x2048, .f32⟩
  | 50 => ⟨S4x256x2048, .f32⟩
  | 51 => ⟨S4x2x128x8x256, .f32⟩
  | 52 => ⟨S8x4x2x256x128, .f32⟩
  | 53 => ⟨S4x2x128x8x256, .f32⟩
  | 54 => ⟨S128x8, .f32⟩
  | 55 => ⟨S128x8x1, .f32⟩
  | 56 => ⟨S1x1x128x8x1, .f32⟩
  | 57 => ⟨S4x2x128x8x256, .f32⟩
  | 58 => ⟨S4x2x128x8x256, .f32⟩
  | 59 => ⟨S4x256x2048, .f32⟩
  | 60 => ⟨S4x256x2048, .f32⟩
  | 61 => ⟨S4x256x1024, .f32⟩
  | 62 => ⟨S4x256x1024, .f32⟩
  | 63 => ⟨S4x256x1024, .f32⟩
  | 64 => ⟨S4x256x1024, .f32⟩
  | 65 => ⟨S16384x1024, .f32⟩
  | 66 => ⟨S1024x1024, .f32⟩
  | 67 => ⟨S17408x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_4 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_cst_6 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_cst_8 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_10 : Ref sig .tc := ⟨.hbm, 111, rfl⟩
abbrev main_v91 : Ref sig .tc := ⟨.hbm, 112, rfl⟩
abbrev main_v92 : Ref sig .tc := ⟨.hbm, 113, rfl⟩
abbrev main_cst_11 : Ref sig .tc := ⟨.hbm, 114, rfl⟩
abbrev main_v93 : Ref sig .tc := ⟨.hbm, 115, rfl⟩
abbrev main_v94 : Ref sig .tc := ⟨.hbm, 116, rfl⟩
abbrev main_cst_12 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_cst_13 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_cst_14 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_15 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_cst_16 : Ref sig .tc := ⟨.hbm, 154, rfl⟩
abbrev main_v128 : Ref sig .tc := ⟨.hbm, 155, rfl⟩
abbrev main_v129 : Ref sig .tc := ⟨.hbm, 156, rfl⟩
abbrev main_cst_17 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_18 : Ref sig .tc := ⟨.hbm, 164, rfl⟩
abbrev main_v136 : Ref sig .tc := ⟨.hbm, 165, rfl⟩
abbrev main_v137 : Ref sig .tc := ⟨.hbm, 166, rfl⟩
abbrev main_cst_19 : Ref sig .tc := ⟨.hbm, 167, rfl⟩
abbrev main_v138 : Ref sig .tc := ⟨.hbm, 168, rfl⟩
abbrev main_v139 : Ref sig .tc := ⟨.hbm, 169, rfl⟩
abbrev main_cst_20 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩

abbrev nD : Nat := 1
abbrev τ : Topo := Topo.v7x

variable {F : FTy → Type} [FloatOps F]
-- ==== Proj.lean ====
abbrev S1024x16384 : Shape := ⟨2, ![1024, 16384]⟩
abbrev S17408x1024 : Shape := ⟨2, ![17408, 1024]⟩
abbrev S6x8x1x1024 : Shape := ⟨4, ![6, 8, 1, 1024]⟩
abbrev S1x1024x1024 : Shape := ⟨3, ![1, 1024, 1024]⟩
abbrev S16384x1024 : Shape := ⟨2, ![16384, 1024]⟩
abbrev S1024x1024 : Shape := ⟨2, ![1024, 1024]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 8
  | .vmem => 9
  | .smem => 0
  | _ => 0

abbrev bufTy : (tb : Table) → Fin (tcTables nBuf tb) → BufTy
  | .hbm, ⟨0, _⟩ => ⟨S1024x16384, .bf16⟩
  | .hbm, ⟨1, _⟩ => ⟨S17408x1024, .f32⟩
  | .hbm, ⟨2, _⟩ => ⟨S6x8x1x1024, .f32⟩
  | .hbm, ⟨3, _⟩ => ⟨S1x1024x1024, .f32⟩
  | .hbm, ⟨4, _⟩ => ⟨S16384x1024, .bf16⟩
  | .hbm, ⟨5, _⟩ => ⟨S1024x1024, .f32⟩
  | .hbm, ⟨6, _⟩ => ⟨S1024x1024, .bf16⟩
  | .hbm, ⟨7, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | _, _ => ⟨S1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c2_i32 : BitVec 32 := 2#32
  let c0_i32_4 : BitVec 32 := 0#32
  let c0_i32_5 : BitVec 32 := 0#32
  let c0_i32_6 : BitVec 32 := 0#32
  ![c2_i32.toNat, v19.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjReferenceIdeal.lean ====
abbrev S1024x16384 : Shape := ⟨2, ![1024, 16384]⟩
abbrev S17408x1024 : Shape := ⟨2, ![17408, 1024]⟩
abbrev S6x8x1x1024 : Shape := ⟨4, ![6, 8, 1, 1024]⟩
abbrev S1x1024x1024 : Shape := ⟨3, ![1, 1024, 1024]⟩
abbrev S16384x1024 : Shape := ⟨2, ![16384, 1024]⟩
abbrev S4x4096x1024 : Shape := ⟨3, ![4, 4096, 1024]⟩
abbrev S1024x1024 : Shape := ⟨2, ![1024, 1024]⟩
abbrev S1x4x1x1024 : Shape := ⟨4, ![1, 4, 1, 1024]⟩
abbrev S4x1x1024 : Shape := ⟨3, ![4, 1, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x16384, .bf16⟩
  | .hbm, ⟨1, _⟩ => ⟨S17408x1024, .f32⟩
  | .hbm, ⟨2, _⟩ => ⟨S6x8x1x1024, .f32⟩
  | .hbm, ⟨3, _⟩ => ⟨S1x1024x1024, .f32⟩
  | .hbm, ⟨4, _⟩ => ⟨S16384x1024, .f32⟩
  | .hbm, ⟨5, _⟩ => ⟨S4x4096x1024, .f32⟩
  | .hbm, ⟨6, _⟩ => ⟨S16384x1024, .bf16⟩
  | .hbm, ⟨7, _⟩ => ⟨S16384x1024, .f32⟩
  | .hbm, ⟨8, _⟩ => ⟨S4x4096x1024, .f32⟩
  | .hbm, ⟨9, _⟩ => ⟨S1024x1024, .f32⟩
  | .hbm, ⟨10, _⟩ => ⟨S4x4096x1024, .f32⟩
  | .hbm, ⟨11, _⟩ => ⟨S1x4x1x1024, .f32⟩
  | .hbm, ⟨12, _⟩ => ⟨S4x1x1024, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S16384x1024, .f32⟩
  | _, _ => ⟨S1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Qkv.lean ====
abbrev S17408x1024 : Shape := ⟨2, ![17408, 1024]⟩
abbrev S6x8x1x1024 : Shape := ⟨4, ![6, 8, 1, 1024]⟩
abbrev S4x2x1024 : Shape := ⟨3, ![4, 2, 1024]⟩
abbrev S1x1024x1536 : Shape := ⟨3, ![1, 1024, 1536]⟩
abbrev S1x64 : Shape := ⟨2, ![1, 64]⟩
abbrev S4096x2x16 : Shape := ⟨3, ![4096, 2, 16]⟩
abbrev S128x128 : Shape := ⟨2, ![128, 128]⟩
abbrev S64 : Shape := ⟨1, ![64]⟩
abbrev S16x64 : Shape := ⟨2, ![16, 64]⟩
abbrev S1024 : Shape := ⟨1, ![1024]⟩
abbrev S4x64 : Shape := ⟨2, ![4, 64]⟩
abbrev S256 : Shape := ⟨1, ![256]⟩
abbrev S1280 : Shape := ⟨1, ![1280]⟩
abbrev S1x1280 : Shape := ⟨2, ![1, 1280]⟩
abbrev S4096x1x16 : Shape := ⟨3, ![4096, 1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S_ : Shape := ⟨0, ![]⟩
abbrev S512x128 : Shape := ⟨2, ![512, 128]⟩
abbrev S4608x128 : Shape := ⟨2, ![4608, 128]⟩
abbrev S1x1x1024 : Shape := ⟨3, ![1, 1, 1024]⟩
abbrev S1x1024 : Shape := ⟨2, ![1, 1024]⟩
abbrev S1024x1536 : Shape := ⟨2, ![1024, 1536]⟩
abbrev S17408x1536 : Shape := ⟨2, ![17408, 1536]⟩
abbrev S512x1024 : Shape := ⟨2, ![512, 1024]⟩
abbrev S1x1x1x1024 : Shape := ⟨4, ![1, 1, 1, 1024]⟩
abbrev S512x1536 : Shape := ⟨2, ![512, 1536]⟩
abbrev S512 : Shape := ⟨1, ![512]⟩
abbrev S512x1 : Shape := ⟨2, ![512, 1]⟩
abbrev S1x128 : Shape := ⟨2, ![1, 128]⟩

abbrev nBuf : Space → Nat
  | .hbm => 57
  | .vmem => 16
  | .smem => 0
  | _ => 0

abbrev bufTy : (tb : Table) → Fin (tcTables nBuf tb) → BufTy
  | .hbm, ⟨0, _⟩ => ⟨S17408x1024, .f32⟩
  | .hbm, ⟨1, _⟩ => ⟨S6x8x1x1024, .f32⟩
  | .hbm, ⟨2, _⟩ => ⟨S4x2x1024, .f32⟩
  | .hbm, ⟨3, _⟩ => ⟨S1x1024x1536, .f32⟩
  | .hbm, ⟨4, _⟩ => ⟨S1x64, .f32⟩
  | .hbm, ⟨5, _⟩ => ⟨S1x64, .f32⟩
  | .hbm, ⟨6, _⟩ => ⟨S4096x2x16, .f32⟩
  | .hbm, ⟨7, _⟩ => ⟨S4096x2x16, .f32⟩
  | .hbm, ⟨8, _⟩ => ⟨S128x128, .bf16⟩
  | .hbm, ⟨9, _⟩ => ⟨S64, .f32⟩
  | .hbm, ⟨10, _⟩ => ⟨S1x64, .f32⟩
  | .hbm, ⟨11, _⟩ => ⟨S16x64, .f32⟩
  | .hbm, ⟨12, _⟩ => ⟨S1024, .f32⟩
  | .hbm, ⟨13, _⟩ => ⟨S64, .f32⟩
  | .hbm, ⟨14, _⟩ => ⟨S1x64, .f32⟩
  | .hbm, ⟨15, _⟩ => ⟨S4x64, .f32⟩
  | .hbm, ⟨16, _⟩ => ⟨S256, .f32⟩
  | .hbm, ⟨17, _⟩ => ⟨S1280, .f32⟩
  | .hbm, ⟨18, _⟩ => ⟨S1x1280, .f32⟩
  | .hbm, ⟨19, _⟩ => ⟨S4096x1x16, .f32⟩
  | .hbm, ⟨20, _⟩ => ⟨S4096x16, .f32⟩
  | .hbm, ⟨21, _⟩ => ⟨S4096x1x16, .f32⟩
  | .hbm, ⟨22, _⟩ => ⟨S4096x16, .f32⟩
  | .hbm, ⟨23, _⟩ => ⟨S4096x1x16, .f32⟩
  | .hbm, ⟨24, _⟩ => ⟨S4096x16, .f32⟩
  | .hbm, ⟨25, _⟩ => ⟨S4096x1x16, .f32⟩
  | .hbm, ⟨26, _⟩ => ⟨S4096x16, .f32⟩
  | .hbm, ⟨27, _⟩ => ⟨S4096x64, .f32⟩
  | .hbm, ⟨28, _⟩ => ⟨S4096x1x16, .f32⟩
  | .hbm, ⟨29, _⟩ => ⟨S4096x16, .f32⟩
  | .hbm, ⟨30, _⟩ => ⟨S4096x16, .f32⟩
  | .hbm, ⟨31, _⟩ => ⟨S4096x1x16, .f32⟩
  | .hbm, ⟨32, _⟩ => ⟨S4096x16, .f32⟩
  | .hbm, ⟨33, _⟩ => ⟨S4096x1x16, .f32⟩
  | .hbm, ⟨34, _⟩ => ⟨S4096x16, .f32⟩
  | .hbm, ⟨35, _⟩ => ⟨S4096x16, .f32⟩
  | .hbm, ⟨36, _⟩ => ⟨S4096x1x16, .f32⟩
  | .hbm, ⟨37, _⟩ => ⟨S4096x16, .f32⟩
  | .hbm, ⟨38, _⟩ => ⟨S4096x64, .f32⟩
  | .hbm, ⟨39, _⟩ => ⟨S1x4096x1x64, .f32⟩
  | .hbm, ⟨40, _⟩ => ⟨S1x4096x2x64, .f32⟩
  | .hbm, ⟨41, _⟩ => ⟨S4096x128, .f32⟩
  | .hbm, ⟨42, _⟩ => ⟨S1x4096x1x64, .f32⟩
  | .hbm, ⟨43, _⟩ => ⟨S1x4096x2x64, .f32⟩
  | .hbm, ⟨44, _⟩ => ⟨S4096x128, .f32⟩
  | .hbm, ⟨45, _⟩ => ⟨S_, .f32⟩
  | .hbm, ⟨46, _⟩ => ⟨S512x128, .f32⟩
  | .hbm, ⟨47, _⟩ => ⟨S4608x128, .f32⟩
  | .hbm, ⟨48, _⟩ => ⟨S_, .f32⟩
  | .hbm, ⟨49, _⟩ => ⟨S512x128, .f32⟩
  | .hbm, ⟨50, _⟩ => ⟨S4608x128, .f32⟩
  | .hbm, ⟨51, _⟩ => ⟨S1x1x1024, .f32⟩
  | .hbm, ⟨52, _⟩ => ⟨S1024, .f32⟩
  | .hbm, ⟨53, _⟩ => ⟨S1x1024, .f32⟩
  | .hbm, ⟨54, _⟩ => ⟨S1024x1536, .f32⟩
  | .hbm, ⟨55, _⟩ => ⟨S1024x1536, .bf16⟩
  | .hbm, ⟨56, _⟩ => ⟨S17408x1536, .bf16⟩
  | .local _ .vmem, ⟨0, _⟩ => ⟨S512x1024, .f32⟩
  | .local _ .vmem, ⟨1, _⟩ => ⟨S512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x1536, .bf16⟩
  | .local _ .vmem, ⟨8, _⟩ => ⟨S1x1280, .f32⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1536, .bf16⟩
  | .local _ .vmem, ⟨15, _⟩ => ⟨S512x1536, .bf16⟩
  | _, _ => ⟨S17408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_0 : Ref sig .tc := ⟨.hbm, 45, rfl⟩
abbrev main_v36 : Ref sig .tc := ⟨.hbm, 46, rfl⟩
abbrev main_v37 : Ref sig .tc := ⟨.hbm, 47, rfl⟩
abbrev main_cst_1 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_4 : BitVec 32 := 0#32
  let c0_i32_5 : BitVec 32 := 0#32
  let c0_i32_6 : BitVec 32 := 0#32
  let c0_i32_7 : BitVec 32 := 0#32
  ![c0_i32_4.toNat, v19.toNat, c0_i32_5.toNat, c0_i32_6.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c1_i32_4 : BitVec 32 := 1#32
  let c0_i32_5 : BitVec 32 := 0#32
  let c0_i32_6 : BitVec 32 := 0#32
  let c0_i32_7 : BitVec 32 := 0#32
  ![c1_i32_4.toNat, v19.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c8_i32_3 : BitVec 32 := 8#32
  let v12 : BitVec 32 := Scalar.select v1 v11 c8_i32_3
  let c0_i32_4 : BitVec 32 := 0#32
  let c0_i32_5 : BitVec 32 := 0#32
  ![v12.toNat, c0_i32_4.toNat]

def cc0_transform_8 (i : grid0.Coords) : Fin 2 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c8_i32 : BitVec 32 := 8#32
  let c0_i32 : BitVec 32 := 0#32
  let v2 : BitVec 1 := Scalar.cmpi .eq c8_i32 c0_i32
  let c1_i32 : BitVec 32 := 1#32
  let v3 : BitVec 32 := Scalar.select v2 c1_i32 c8_i32
  let v4 : BitVec 32 := Scalar.remsi arg0 v3
  let c0_i32_0 : BitVec 32 := 0#32
  let v5 : BitVec 1 := Scalar.cmpi .ne v4 c0_i32_0
  let c0_i32_1 : BitVec 32 := 0#32
  let v6 : BitVec 1 := Scalar.cmpi .slt v4 c0_i32_1
  let c0_i32_2 : BitVec 32 := 0#32
  let v7 : BitVec 1 := Scalar.cmpi .slt v3 c0_i32_2
  let v8 : BitVec 1 := Scalar.xori v6 v7
  let v9 : BitVec 1 := Scalar.andi v8 v5
  let v10 : BitVec 32 := Scalar.addi v4 v3
  let v11 : BitVec 32 := Scalar.select v9 v10 v4
  let c8_i32_3 : BitVec 32 := 8#32
  let v12 : BitVec 32 := Scalar.select v1 v11 c8_i32_3
  let c0_i32_4 : BitVec 32 := 0#32
  let c0_i32_5 : BitVec 32 := 0#32
  ![v12.toNat, c0_i32_4.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== QkvIdeal.lean ====
variable {F : FTy → Type} [FloatOps F] [Named F]
def κ : String → Option EReal := fun
  | "query" => some (((1 / 8) * (Real.log 2)⁻¹ : ℝ) : EReal)
  | _ => none
-- ==== QkvReferenceIdeal.lean ====
abbrev S17408x1024 : Shape := ⟨2, ![17408, 1024]⟩
abbrev S6x8x1x1024 : Shape := ⟨4, ![6, 8, 1, 1024]⟩
abbrev S4x2x1024 : Shape := ⟨3, ![4, 2, 1024]⟩
abbrev S1x1024x1536 : Shape := ⟨3, ![1, 1024, 1536]⟩
abbrev S1x64 : Shape := ⟨2, ![1, 64]⟩
abbrev S4096x2x16 : Shape := ⟨3, ![4096, 2, 16]⟩
abbrev S16384x1024 : Shape := ⟨2, ![16384, 1024]⟩
abbrev S4x4096x1024 : Shape := ⟨3, ![4, 4096, 1024]⟩
abbrev S1024x1024 : Shape := ⟨2, ![1024, 1024]⟩
abbrev S4x256x1024 : Shape := ⟨3, ![4, 256, 1024]⟩
abbrev S1x1x1024 : Shape := ⟨3, ![1, 1, 1024]⟩
abbrev S1024 : Shape := ⟨1, ![1024]⟩
abbrev S1x4x1x1024 : Shape := ⟨4, ![1, 4, 1, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1x1024 : Shape := ⟨4, ![1, 1, 1, 1024]⟩
abbrev S4x256 : Shape := ⟨2, ![4, 256]⟩
abbrev S4x256x1 : Shape := ⟨3, ![4, 256, 1]⟩
abbrev S1024x1536 : Shape := ⟨2, ![1024, 1536]⟩
abbrev S4x4096x1536 : Shape := ⟨3, ![4, 4096, 1536]⟩
abbrev S4x4096x16x64 : Shape := ⟨4, ![4, 4096, 16, 64]⟩
abbrev S64 : Shape := ⟨1, ![64]⟩
abbrev S4x4096x16 : Shape := ⟨3, ![4, 4096, 16]⟩
abbrev S4x4096x16x1 : Shape := ⟨4, ![4, 4096, 16, 1]⟩
abbrev S1x1x1x64 : Shape := ⟨4, ![1, 1, 1, 64]⟩
abbrev S4x4096x16x16 : Shape := ⟨4, ![4, 4096, 16, 16]⟩
abbrev S4096x1x16 : Shape := ⟨3, ![4096, 1, 16]⟩
abbrev S4096x16 : Shape := ⟨2, ![4096, 16]⟩
abbrev S1x4096x1x16 : Shape := ⟨4, ![1, 4096, 1, 16]⟩
abbrev S4x4096x256 : Shape := ⟨3, ![4, 4096, 256]⟩
abbrev S4x4096x4x64 : Shape := ⟨4, ![4, 4096, 4, 64]⟩
abbrev S4x4096x4 : Shape := ⟨3, ![4, 4096, 4]⟩
abbrev S4x4096x4x1 : Shape := ⟨4, ![4, 4096, 4, 1]⟩
abbrev S4x4096x4x16 : Shape := ⟨4, ![4, 4096, 4, 16]⟩
abbrev S16384x256 : Shape := ⟨2, ![16384, 256]⟩
abbrev S16384x1536 : Shape := ⟨2, ![16384, 1536]⟩
abbrev S4x256x1536 : Shape := ⟨3, ![4, 256, 1536]⟩
abbrev S4x256x16x64 : Shape := ⟨4, ![4, 256, 16, 64]⟩
abbrev S4x256x16 : Shape := ⟨3, ![4, 256, 16]⟩
abbrev S4x256x16x1 : Shape := ⟨4, ![4, 256, 16, 1]⟩
abbrev S4x256x256 : Shape := ⟨3, ![4, 256, 256]⟩
abbrev S4x256x4x64 : Shape := ⟨4, ![4, 256, 4, 64]⟩
abbrev S4x256x4 : Shape := ⟨3, ![4, 256, 4]⟩
abbrev S4x256x4x1 : Shape := ⟨4, ![4, 256, 4, 1]⟩
abbrev S1024x256 : Shape := ⟨2, ![1024, 256]⟩
abbrev S17408x1536 : Shape := ⟨2, ![17408, 1536]⟩

abbrev nBuf : Space → Nat
  | .hbm => 250
  | .vmem => 0
  | .smem => 0
  | _ => 0

abbrev hbmTy0_0 (i : Nat) : BufTy := match i % 128 with
  | 0 => ⟨S17408x1024, .f32⟩
  | 1 => ⟨S6x8x1x1024, .f32⟩
  | 2 => ⟨S4x2x1024, .f32⟩
  | 3 => ⟨S1x1024x1536, .f32⟩
  | 4 => ⟨S1x64, .f32⟩
  | 5 => ⟨S1x64, .f32⟩
  | 6 => ⟨S4096x2x16, .f32⟩
  | 7 => ⟨S4096x2x16, .f32⟩
  | 8 => ⟨S16384x1024, .f32⟩
  | 9 => ⟨S4x4096x1024, .f32⟩
  | 10 => ⟨S1024x1024, .f32⟩
  | 11 => ⟨S4x256x1024, .f32⟩
  | 12 => ⟨S1x1x1024, .f32⟩
  | 13 => ⟨S1024, .f32⟩
  | 14 => ⟨S1x4x1x1024, .f32⟩
  | 15 => ⟨S4x1x1024, .f32⟩
  | 16 => ⟨S1x4x1x1024, .f32⟩
  | 17 => ⟨S4x1x1024, .f32⟩
  | 18 => ⟨S4x4096x1024, .f32⟩
  | 19 => ⟨S_, .f32⟩
  | 20 => ⟨S4x4096, .f32⟩
  | 21 => ⟨S4x4096x1, .f32⟩
  | 22 => ⟨S_, .f32⟩
  | 23 => ⟨S4x4096x1, .f32⟩
  | 24 => ⟨S4x4096x1, .f32⟩
  | 25 => ⟨S_, .f32⟩
  | 26 => ⟨S4x4096x1, .f32⟩
  | 27 => ⟨S4x4096x1, .f32⟩
  | 28 => ⟨S4x4096x1, .f32⟩
  | 29 => ⟨S4x4096x1024, .f32⟩
  | 30 => ⟨S4x4096x1024, .f32⟩
  | 31 => ⟨S1x1x1024, .f32⟩
  | 32 => ⟨S4x4096x1024, .f32⟩
  | 33 => ⟨S4x4096x1024, .f32⟩
  | 34 => ⟨S_, .f32⟩
  | 35 => ⟨S4x1x1024, .f32⟩
  | 36 => ⟨S4x1x1024, .f32⟩
  | 37 => ⟨S4x4096x1024, .f32⟩
  | 38 => ⟨S4x4096x1024, .f32⟩
  | 39 => ⟨S4x4096x1024, .f32⟩
  | 40 => ⟨S4x4096x1024, .f32⟩
  | 41 => ⟨S1x1x1024, .f32⟩
  | 42 => ⟨S1024, .f32⟩
  | 43 => ⟨S1x1x1x1024, .f32⟩
  | 44 => ⟨S1x1x1024, .f32⟩
  | 45 => ⟨S1x1x1x1024, .f32⟩
  | 46 => ⟨S1x1x1024, .f32⟩
  | 47 => ⟨S4x256x1024, .f32⟩
  | 48 => ⟨S_, .f32⟩
  | 49 => ⟨S4x256, .f32⟩
  | 50 => ⟨S4x256x1, .f32⟩
  | 51 => ⟨S_, .f32⟩
  | 52 => ⟨S4x256x1, .f32⟩
  | 53 => ⟨S4x256x1, .f32⟩
  | 54 => ⟨S_, .f32⟩
  | 55 => ⟨S4x256x1, .f32⟩
  | 56 => ⟨S4x256x1, .f32⟩
  | 57 => ⟨S4x256x1, .f32⟩
  | 58 => ⟨S4x256x1024, .f32⟩
  | 59 => ⟨S4x256x1024, .f32⟩
  | 60 => ⟨S1x1x1024, .f32⟩
  | 61 => ⟨S4x256x1024, .f32⟩
  | 62 => ⟨S4x256x1024, .f32⟩
  | 63 => ⟨S_, .f32⟩
  | 64 => ⟨S1x1x1024, .f32⟩
  | 65 => ⟨S1x1x1024, .f32⟩
  | 66 => ⟨S4x256x1024, .f32⟩
  | 67 => ⟨S4x256x1024, .f32⟩
  | 68 => ⟨S4x256x1024, .f32⟩
  | 69 => ⟨S4x256x1024, .f32⟩
  | 70 => ⟨S1024x1536, .f32⟩
  | 71 => ⟨S4x4096x1536, .f32⟩
  | 72 => ⟨S4x4096x1024, .f32⟩
  | 73 => ⟨S4x4096x16x64, .f32⟩
  | 74 => ⟨S64, .f32⟩
  | 75 => ⟨S4x4096x16x64, .f32⟩
  | 76 => ⟨S_, .f32⟩
  | 77 => ⟨S4x4096x16, .f32⟩
  | 78 => ⟨S4x4096x16x1, .f32⟩
  | 79 => ⟨S_, .f32⟩
  | 80 => ⟨S4x4096x16x1, .f32⟩
  | 81 => ⟨S4x4096x16x1, .f32⟩
  | 82 => ⟨S_, .f32⟩
  | 83 => ⟨S4x4096x16x1, .f32⟩
  | 84 => ⟨S4x4096x16x1, .f32⟩
  | 85 => ⟨S4x4096x16x1, .f32⟩
  | 86 => ⟨S4x4096x16x64, .f32⟩
  | 87 => ⟨S4x4096x16x64, .f32⟩
  | 88 => ⟨S1x1x1x64, .f32⟩
  | 89 => ⟨S4x4096x16x64, .f32⟩
  | 90 => ⟨S4x4096x16x64, .f32⟩
  | 91 => ⟨S4x4096x16x16, .f32⟩
  | 92 => ⟨S4x4096x16x16, .f32⟩
  | 93 => ⟨S4096x1x16, .f32⟩
  | 94 => ⟨S4096x16, .f32⟩
  | 95 => ⟨S1x4096x1x16, .f32⟩
  | 96 => ⟨S4096x1x16, .f32⟩
  | 97 => ⟨S4096x16, .f32⟩
  | 98 => ⟨S1x4096x1x16, .f32⟩
  | 99 => ⟨S4x4096x16x16, .f32⟩
  | 100 => ⟨S4x4096x16x16, .f32⟩
  | 101 => ⟨S4x4096x16x16, .f32⟩
  | 102 => ⟨S4x4096x16x16, .f32⟩
  | 103 => ⟨S4x4096x16x16, .f32⟩
  | 104 => ⟨S4x4096x16x16, .f32⟩
  | 105 => ⟨S4x4096x16x16, .f32⟩
  | 106 => ⟨S4x4096x16x16, .f32⟩
  | 107 => ⟨S4x4096x16x16, .f32⟩
  | 108 => ⟨S4x4096x16x16, .f32⟩
  | 109 => ⟨S4x4096x16x16, .f32⟩
  | 110 => ⟨S4x4096x16x16, .f32⟩
  | 111 => ⟨S4096x1x16, .f32⟩
  | 112 => ⟨S4096x16, .f32⟩
  | 113 => ⟨S1x4096x1x16, .f32⟩
  | 114 => ⟨S4096x1x16, .f32⟩
  | 115 => ⟨S4096x16, .f32⟩
  | 116 => ⟨S1x4096x1x16, .f32⟩
  | 117 => ⟨S4x4096x16x16, .f32⟩
  | 118 => ⟨S4x4096x16x16, .f32⟩
  | 119 => ⟨S4x4096x16x16, .f32⟩
  | 120 => ⟨S4x4096x16x16, .f32⟩
  | 121 => ⟨S4x4096x16x16, .f32⟩
  | 122 => ⟨S4x4096x16x16, .f32⟩
  | 123 => ⟨S4x4096x16x16, .f32⟩
  | 124 => ⟨S4x4096x16x16, .f32⟩
  | 125 => ⟨S4x4096x16x16, .f32⟩
  | 126 => ⟨S4x4096x16x16, .f32⟩
  | 127 => ⟨S4x4096x16x64, .f32⟩
  | _ => ⟨S17408x1024, .f32⟩

abbrev hbmTy0_1 (i : Nat) : BufTy := match i % 128 with
  | 0 => ⟨S4x4096x256, .f32⟩
  | 1 => ⟨S4x4096x4x64, .f32⟩
  | 2 => ⟨S64, .f32⟩
  | 3 => ⟨S4x4096x4x64, .f32⟩
  | 4 => ⟨S_, .f32⟩
  | 5 => ⟨S4x4096x4, .f32⟩
  | 6 => ⟨S4x4096x4x1, .f32⟩
  | 7 => ⟨S_, .f32⟩
  | 8 => ⟨S4x4096x4x1, .f32⟩
  | 9 => ⟨S4x4096x4x1, .f32⟩
  | 10 => ⟨S_, .f32⟩
  | 11 => ⟨S4x4096x4x1, .f32⟩
  | 12 => ⟨S4x4096x4x1, .f32⟩
  | 13 => ⟨S4x4096x4x1, .f32⟩
  | 14 => ⟨S4x4096x4x64, .f32⟩
  | 15 => ⟨S4x4096x4x64, .f32⟩
  | 16 => ⟨S1x1x1x64, .f32⟩
  | 17 => ⟨S4x4096x4x64, .f32⟩
  | 18 => ⟨S4x4096x4x64, .f32⟩
  | 19 => ⟨S4x4096x4x16, .f32⟩
  | 20 => ⟨S4x4096x4x16, .f32⟩
  | 21 => ⟨S4096x1x16, .f32⟩
  | 22 => ⟨S4096x16, .f32⟩
  | 23 => ⟨S1x4096x1x16, .f32⟩
  | 24 => ⟨S4096x1x16, .f32⟩
  | 25 => ⟨S4096x16, .f32⟩
  | 26 => ⟨S1x4096x1x16, .f32⟩
  | 27 => ⟨S4x4096x4x16, .f32⟩
  | 28 => ⟨S4x4096x4x16, .f32⟩
  | 29 => ⟨S4x4096x4x16, .f32⟩
  | 30 => ⟨S4x4096x4x16, .f32⟩
  | 31 => ⟨S4x4096x4x16, .f32⟩
  | 32 => ⟨S4x4096x4x16, .f32⟩
  | 33 => ⟨S4x4096x4x16, .f32⟩
  | 34 => ⟨S4x4096x4x16, .f32⟩
  | 35 => ⟨S4x4096x4x16, .f32⟩
  | 36 => ⟨S4x4096x4x16, .f32⟩
  | 37 => ⟨S4x4096x4x16, .f32⟩
  | 38 => ⟨S4x4096x4x16, .f32⟩
  | 39 => ⟨S4096x1x16, .f32⟩
  | 40 => ⟨S4096x16, .f32⟩
  | 41 => ⟨S1x4096x1x16, .f32⟩
  | 42 => ⟨S4096x1x16, .f32⟩
  | 43 => ⟨S4096x16, .f32⟩
  | 44 => ⟨S1x4096x1x16, .f32⟩
  | 45 => ⟨S4x4096x4x16, .f32⟩
  | 46 => ⟨S4x4096x4x16, .f32⟩
  | 47 => ⟨S4x4096x4x16, .f32⟩
  | 48 => ⟨S4x4096x4x16, .f32⟩
  | 49 => ⟨S4x4096x4x16, .f32⟩
  | 50 => ⟨S4x4096x4x16, .f32⟩
  | 51 => ⟨S4x4096x4x16, .f32⟩
  | 52 => ⟨S4x4096x4x16, .f32⟩
  | 53 => ⟨S4x4096x4x16, .f32⟩
  | 54 => ⟨S4x4096x4x16, .f32⟩
  | 55 => ⟨S4x4096x4x64, .f32⟩
  | 56 => ⟨S_, .f32⟩
  | 57 => ⟨S4x4096x16x64, .f32⟩
  | 58 => ⟨S4x4096x16x64, .f32⟩
  | 59 => ⟨S_, .f32⟩
  | 60 => ⟨S_, .f32⟩
  | 61 => ⟨S4x4096x16x64, .f32⟩
  | 62 => ⟨S4x4096x16x64, .f32⟩
  | 63 => ⟨S16384x1024, .f32⟩
  | 64 => ⟨S16384x256, .f32⟩
  | 65 => ⟨S4x4096x256, .f32⟩
  | 66 => ⟨S16384x256, .f32⟩
  | 67 => ⟨S16384x1536, .f32⟩
  | 68 => ⟨S1024x1536, .f32⟩
  | 69 => ⟨S4x256x1536, .f32⟩
  | 70 => ⟨S4x256x1024, .f32⟩
  | 71 => ⟨S4x256x16x64, .f32⟩
  | 72 => ⟨S64, .f32⟩
  | 73 => ⟨S4x256x16x64, .f32⟩
  | 74 => ⟨S_, .f32⟩
  | 75 => ⟨S4x256x16, .f32⟩
  | 76 => ⟨S4x256x16x1, .f32⟩
  | 77 => ⟨S_, .f32⟩
  | 78 => ⟨S4x256x16x1, .f32⟩
  | 79 => ⟨S4x256x16x1, .f32⟩
  | 80 => ⟨S_, .f32⟩
  | 81 => ⟨S4x256x16x1, .f32⟩
  | 82 => ⟨S4x256x16x1, .f32⟩
  | 83 => ⟨S4x256x16x1, .f32⟩
  | 84 => ⟨S4x256x16x64, .f32⟩
  | 85 => ⟨S4x256x16x64, .f32⟩
  | 86 => ⟨S1x1x1x64, .f32⟩
  | 87 => ⟨S4x256x16x64, .f32⟩
  | 88 => ⟨S4x256x16x64, .f32⟩
  | 89 => ⟨S4x256x256, .f32⟩
  | 90 => ⟨S4x256x4x64, .f32⟩
  | 91 => ⟨S64, .f32⟩
  | 92 => ⟨S4x256x4x64, .f32⟩
  | 93 => ⟨S_, .f32⟩
  | 94 => ⟨S4x256x4, .f32⟩
  | 95 => ⟨S4x256x4x1, .f32⟩
  | 96 => ⟨S_, .f32⟩
  | 97 => ⟨S4x256x4x1, .f32⟩
  | 98 => ⟨S4x256x4x1, .f32⟩
  | 99 => ⟨S_, .f32⟩
  | 100 => ⟨S4x256x4x1, .f32⟩
  | 101 => ⟨S4x256x4x1, .f32⟩
  | 102 => ⟨S4x256x4x1, .f32⟩
  | 103 => ⟨S4x256x4x64, .f32⟩
  | 104 => ⟨S4x256x4x64, .f32⟩
  | 105 => ⟨S1x1x1x64, .f32⟩
  | 106 => ⟨S4x256x4x64, .f32⟩
  | 107 => ⟨S4x256x4x64, .f32⟩
  | 108 => ⟨S_, .f32⟩
  | 109 => ⟨S4x256x16x64, .f32⟩
  | 110 => ⟨S4x256x16x64, .f32⟩
  | 111 => ⟨S_, .f32⟩
  | 112 => ⟨S_, .f32⟩
  | 113 => ⟨S4x256x16x64, .f32⟩
  | 114 => ⟨S4x256x16x64, .f32⟩
  | 115 => ⟨S1024x1024, .f32⟩
  | 116 => ⟨S1024x256, .f32⟩
  | 117 => ⟨S4x256x256, .f32⟩
  | 118 => ⟨S1024x256, .f32⟩
  | 119 => ⟨S1024x1536, .f32⟩
  | 120 => ⟨S17408x1536, .f32⟩
  | 121 => ⟨S17408x1536, .bf16⟩
  | _ => ⟨S17408x1024, .f32⟩

abbrev hbmTy (i : Nat) : BufTy := match i / 128 with
  | 0 => hbmTy0_0 i
  | 1 => hbmTy0_1 i
  | _ => ⟨S17408x1024, .f32⟩

abbrev bufTy : (tb : Table) → Fin (tcTables nBuf tb) → BufTy
  | .hbm, ⟨i, _⟩ => hbmTy i
  | _, _ => ⟨S17408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_6 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_7 : Ref sig .tc := ⟨.hbm, 76, rfl⟩
abbrev main_v60 : Ref sig .tc := ⟨.hbm, 77, rfl⟩
abbrev main_v61 : Ref sig .tc := ⟨.hbm, 78, rfl⟩
abbrev main_cst_8 : Ref sig .tc := ⟨.hbm, 79, rfl⟩
abbrev main_v62 : Ref sig .tc := ⟨.hbm, 80, rfl⟩
abbrev main_v63 : Ref sig .tc := ⟨.hbm, 81, rfl⟩
abbrev main_cst_9 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_10 : Ref sig .tc := ⟨.hbm, 132, rfl⟩
abbrev main_v113 : Ref sig .tc := ⟨.hbm, 133, rfl⟩
abbrev main_v114 : Ref sig .tc := ⟨.hbm, 134, rfl⟩
abbrev main_cst_11 : Ref sig .tc := ⟨.hbm, 135, rfl⟩
abbrev main_v115 : Ref sig .tc := ⟨.hbm, 136, rfl⟩
abbrev main_v116 : Ref sig .tc := ⟨.hbm, 137, rfl⟩
abbrev main_cst_12 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_cst_13 : Ref sig .tc := ⟨.hbm, 184, rfl⟩
abbrev main_v162 : Ref sig .tc := ⟨.hbm, 185, rfl⟩
abbrev main_v163 : Ref sig .tc := ⟨.hbm, 186, rfl⟩
abbrev main_cst_14 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_cst_15 : Ref sig .tc := ⟨.hbm, 202, rfl⟩
abbrev main_v178 : Ref sig .tc := ⟨.hbm, 203, rfl⟩
abbrev main_v179 : Ref sig .tc := ⟨.hbm, 204, rfl⟩
abbrev main_cst_16 : Ref sig .tc := ⟨.hbm, 205, rfl⟩
abbrev main_v180 : Ref sig .tc := ⟨.hbm, 206, rfl⟩
abbrev main_v181 : Ref sig .tc := ⟨.hbm, 207, rfl⟩
abbrev main_cst_17 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev main_v187 : Ref sig .tc := ⟨.hbm, 214, rfl⟩
abbrev main_v188 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_cst_18 : Ref sig .tc := ⟨.hbm, 221, rfl⟩
abbrev main_v194 : Ref sig .tc := ⟨.hbm, 222, rfl⟩
abbrev main_v195 : Ref sig .tc := ⟨.hbm, 223, rfl⟩
abbrev main_cst_19 : Ref sig .tc := ⟨.hbm, 224, rfl⟩
abbrev main_v196 : Ref sig .tc := ⟨.hbm, 225, rfl⟩
abbrev main_v197 : Ref sig .tc := ⟨.hbm, 226, rfl⟩
abbrev main_cst_20 : Ref sig .tc := ⟨.hbm, 227, rfl⟩
abbrev main_v198 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_cst_21 : Ref sig .tc := ⟨.hbm, 236, rfl⟩
abbrev main_v206 : Ref sig .tc := ⟨.hbm, 237, rfl⟩
abbrev main_v207 : Ref sig .tc := ⟨.hbm, 238, rfl⟩
abbrev main_cst_22 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩

abbrev nD : Nat := 1
abbrev τ : Topo := Topo.v7x

variable {F : FTy → Type} [FloatOps F]
-- ==== Proof.ExpertsIdeal.Run.lean ====
/- The experts call's body, run once on any staging buffers: at a tile's first half, at its second half, and past the
   last tile. What each buffer holds after it is written out. -/
module
public import proofs.«01_k».proof.Proof.Gen.MoeIdeal.Skeleton
public import proofs.«01_k».proof.Proof.Gen.MoeIdeal.Launch
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section
set_option maxRecDepth 16384
noncomputable section

namespace Cert.MoeIdeal.Tiles
open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables as the body is handed them. -/
abbrev tbM0_0 : Memref sig .tc .smem S72 .i32 := Memref.whole main_arg0
abbrev htbM0_0 : tbM0_0.IsWhole := Memref.isWhole_whole _
abbrev tbM0_1 : Memref sig .tc .smem S1 .i32 := Memref.whole main_arg1
abbrev htbM0_1 : tbM0_1.IsWhole := Memref.isWhole_whole _

/-- A table held at half the full share: read only. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The word the body reads of its second table: how many tiles there are. -/
abbrev word (c : Dev nD) (xt1 : TbBuf0 (F := F) c tbM0_1) : BitVec 32 :=
  tbM0_1.view.readAt (Elt F) (Rect.unit (s := S1) ![0] S1.size inb_S1_S1_0).toLoadRect xt1 (Shape.Idx.first (numel1_S1.symm ▸ Nat.one_pos))

/-! The body's conditions on the grid coordinates alone. -/

/-- The first half of the hidden columns. -/
abbrev firstHalf (i : grid0.Coords) : Prop := (Scalar.cmpi .ne (Scalar.extui (Scalar.cmpi .eq (BitVec.ofNat 32 (i 1).val) 0#32)) 0#32) = 1#1

/-- The tile lies in the part numbered `k` of the three. -/
abbrev inPart (i : grid0.Coords) (k : BitVec 32) : Prop := (Scalar.cmpi .ne (Scalar.extui (Scalar.cmpi .eq (Scalar.select (Scalar.andi (Scalar.cmpi .ne (Scalar.subi (Scalar.extui (Scalar.cmpi .sgt (BitVec.ofNat 32 (i 0).val) 0#32)) (Scalar.extui (Scalar.cmpi .slt (BitVec.ofNat 32 (i 0).val) 0#32))) (Scalar.subi (Scalar.extui (Scalar.cmpi .sgt 24#32 0#32)) (Scalar.extui (Scalar.cmpi .slt 24#32 0#32)))) (Scalar.cmpi .ne (Scalar.remsi (BitVec.ofNat 32 (i 0).val) 24#32) 0#32)) (Scalar.subi (Scalar.divsi (BitVec.ofNat 32 (i 0).val) 24#32) 1#32) (Scalar.divsi (BitVec.ofNat 32 (i 0).val) 24#32)) k)) 0#32) = 1#1

/-- Equal operands give equal accumulators. -/
theorem pay3_congr {a a' : Vec F S512x1024 .bf16} {b b' d d' : Vec F S1x1024x1792 .bf16} {e e' : Vec F S512x1024 .f32} {g g' : Vec F S1x1792x1024 .bf16}
    (ha : a = a') (hb : b = b') (hd : d = d') (he : e = e') (hg : g = g') : k0_pay3 a b d e g = k0_pay3 a' b' d' e' g' := by
  subst ha hb hd he hg; rfl

section Body
variable (c : Dev nD) (i : grid0.Coords)
  (arg4 : Memref sig .tc .vmem S512x1024 .f32) (harg4 : arg4.IsWhole) (arg5 : Memref sig .tc .vmem S512x1024 .f32) (harg5 : arg5.IsWhole)
  (arg6 : Memref sig .tc .vmem S512x1024 .f32) (harg6 : arg6.IsWhole) (arg7 : Memref sig .tc .vmem S1x1024x1792 .bf16) (harg7 : arg7.IsWhole)
  (arg8 : Memref sig .tc .vmem S1x1024x1792 .bf16) (harg8 : arg8.IsWhole) (arg9 : Memref sig .tc .vmem S1x1792x1024 .bf16) (harg9 : arg9.IsWhole)
  (arg10 : Memref sig .tc .vmem S512x1024 .f32) (harg10 : arg10.IsWhole) (arg11 : Memref sig .tc .vmem S512x1024 .bf16) (harg11 : arg11.IsWhole)
  (arg12 : Memref sig .tc .vmem S512x1024 .f32) (harg12 : arg12.IsWhole)
  (x0 x1 x2 : Vec F S512x1024 .f32) (x3 x4 : Vec F S1x1024x1792 .bf16) (x5 : Vec F S1x1792x1024 .bf16)
  (xt0 : TbBuf0 (F := F) c tbM0_0) (xt1 : TbBuf0 (F := F) c tbM0_1)

/-- What the body reads and leaves as it was: the six blocks and the two tables. -/
def inputs : sProp 𝕄 :=
  iprop(owns (c : Thread nD τ) arg4 fullShare x0 ∗ owns (c : Thread nD τ) arg5 fullShare x1 ∗ owns (c : Thread nD τ) arg6 fullShare x2
    ∗ owns (c : Thread nD τ) arg7 fullShare x3 ∗ owns (c : Thread nD τ) arg8 fullShare x4 ∗ owns (c : Thread nD τ) arg9 fullShare x5
    ∗ tbPt0 c tbM0_0 xt0 ∗ tbPt0 c tbM0_1 xt1)

/-- The body on these buffers. -/
abbrev body : Prog (TpuEff nD τ sig (Elt F) Λ₀ .tc) PUnit :=
  cc0_moe_experts (F := F) i tbM0_0 htbM0_0 tbM0_1 htbM0_1 arg4 harg4 arg5 harg5 arg6 harg6 arg7 harg7 arg8 harg8 arg9 harg9 arg10 harg10 arg11 harg11 arg12 harg12

set_option maxHeartbeats 8000000 in
/-- Past the last tile, at the first half: nothing is stored. -/
theorem run_skip (hc0 : ¬ k0_cond1 i (word c xt1) = 1#1) (hc7 : ¬ k0_cond7 i (word c xt1) = 1#1) (E : Set ℕ) (K : PUnit → sProp 𝕄) :
    iprop(inputs c arg4 arg5 arg6 arg7 arg8 arg9 x0 x1 x2 x3 x4 x5 xt0 xt1
        ∗ (inputs c arg4 arg5 arg6 arg7 arg8 arg9 x0 x1 x2 x3 x4 x5 xt0 xt1 -∗ K ⟨⟩))
      ⊢ wp frame (wpE (defs₀ (F := F)) Variants.none c none) E
          (body i arg4 harg4 arg5 harg5 arg6 harg6 arg7 harg7 arg8 harg8 arg9 harg9 arg10 harg10 arg11 harg11 arg12 harg12) K := by
  unfold body
  simp only [cc0_moe_experts_eq_skeleton]; unfold cc0_moe_experts_skel
  unfold inputs
  iintro ⟨⟨H0, H1, H2, H3, H4, H5, HT0, HT1⟩, Hk⟩
  sl_exec (disch := first | sl_exact hc0 | sl_exact hc7)
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  iexact HT1

set_option maxHeartbeats 8000000 in
/-- Past the last tile, at the second half: the output block is filled with zeros. -/
theorem run_zero (hc0 : ¬ k0_cond1 i (word c xt1) = 1#1) (hc7 : k0_cond7 i (word c xt1) = 1#1) (E : Set ℕ) (K : PUnit → sProp 𝕄) :
    iprop(inputs c arg4 arg5 arg6 arg7 arg8 arg9 x0 x1 x2 x3 x4 x5 xt0 xt1 ∗ (∃ d, owns (c : Thread nD τ) arg10 fullShare d)
        ∗ (iprop(inputs c arg4 arg5 arg6 arg7 arg8 arg9 x0 x1 x2 x3 x4 x5 xt0 xt1 ∗ owns (c : Thread nD τ) arg10 fullShare (k0_pay4 (F := F))) -∗ K ⟨⟩))
      ⊢ wp frame (wpE (defs₀ (F := F)) Variants.none c none) E
          (body i arg4 harg4 arg5 harg5 arg6 harg6 arg7 harg7 arg8 harg8 arg9 harg9 arg10 harg10 arg11 harg11 arg12 harg12) K := by
  unfold body
  simp only [cc0_moe_experts_eq_skeleton]; unfold cc0_moe_experts_skel
  unfold inputs owns
  iintro ⟨⟨H0, H1, H2, H3, H4, H5, HT0, HT1⟩, ⟨%d6, %f6, -, H6⟩, Hk⟩
  sl_exec (disch := first | sl_exact hc0 | sl_exact hc7)
  sl_step
  iapply Hk
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  iexists _; isplitr
  swap; · iexact H6
  ipureintro; exact View.read_writes_full _ _ _ _ _

set_option maxHeartbeats 8000000 in
/-- A tile's second half: the accumulator takes the half's share and the output block a copy of it. -/
theorem run_second (xs0 : Vec F S512x1024 .bf16) (xs1 : Vec F S512x1024 .f32) (hc0 : k0_cond1 i (word c xt1) = 1#1) (hc1 : ¬ firstHalf i)
    (hc6 : k0_cond6 i = 1#1) (hc7 : ¬ k0_cond7 i (word c xt1) = 1#1) (E : Set ℕ) (K : PUnit → sProp 𝕄) :
    iprop(inputs c arg4 arg5 arg6 arg7 arg8 arg9 x0 x1 x2 x3 x4 x5 xt0 xt1 ∗ (∃ d, owns (c : Thread nD τ) arg10 fullShare d)
        ∗ owns (c : Thread nD τ) arg11 fullShare xs0 ∗ owns (c : Thread nD τ) arg12 fullShare xs1
        ∗ (iprop(inputs c arg4 arg5 arg6 arg7 arg8 arg9 x0 x1 x2 x3 x4 x5 xt0 xt1 ∗ owns (c : Thread nD τ) arg10 fullShare (k0_pay3 xs0 x3 x4 xs1 x5)
            ∗ owns (c : Thread nD τ) arg11 fullShare xs0 ∗ owns (c : Thread nD τ) arg12 fullShare (k0_pay3 xs0 x3 x4 xs1 x5)) -∗ K ⟨⟩))
      ⊢ wp frame (wpE (defs₀ (F := F)) Variants.none c none) E
          (body i arg4 harg4 arg5 harg5 arg6 harg6 arg7 harg7 arg8 harg8 arg9 harg9 arg10 harg10 arg11 harg11 arg12 harg12) K := by
  unfold body
  simp only [cc0_moe_experts_eq_skeleton]; unfold cc0_moe_experts_skel
  unfold inputs owns
  iintro ⟨⟨H0, H1, H2, ⟨%f3, %hf3, H3⟩, ⟨%f4, %hf4, H4⟩, ⟨%f5, %hf5, H5⟩, HT0, HT1⟩, ⟨%d6, %f6, -, H6⟩, ⟨%fs0, %hfs0, HS0⟩, ⟨%fs1, %hfs1, HS1⟩, Hk⟩
  sl_exec (disch := first | sl_exact hc0 | sl_exact hc1 | sl_exact hc6 | sl_exact hc7)
  sl_step
  iapply Hk
  isplitl [H0 H1 H2 H3 H4 H5 HT0 HT1]
  · isplitl [H0]; · iexact H0
    isplitl [H1]; · iexact H1
    isplitl [H2]; · iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [HT0]; · iexact HT0
    iexact HT1
  isplitl [H6]
  · iexists _; isplitr
    swap; · iexact H6
    ipureintro
    refine (View.read_writes_full _ _ _ _ _).trans ((View.readCov_full _ _ _ _ _).trans ?_)
    exact pay3_congr ((View.readAt_full _ _ _).trans hfs0) ((View.readAt_full _ _ _).trans hf3) ((View.readAt_full _ _ _).trans hf4)
      ((View.readAt_full _ _ _).trans hfs1) ((View.readAt_full _ _ _).trans hf5)
  isplitl [HS0]
  · iexists _; isplitr; · ipureintro; exact hfs0
    iexact HS0
  iexists _; isplitr
  swap; · iexact HS1
  ipureintro
  refine (View.read_writes_full _ _ _ _ _).trans ?_
  exact pay3_congr ((View.readAt_full _ _ _).trans hfs0) ((View.readAt_full _ _ _).trans hf3) ((View.readAt_full _ _ _).trans hf4)
    ((View.readAt_full _ _ _).trans hfs1) ((View.readAt_full _ _ _).trans hf5)

set_option maxHeartbeats 24000000 in
/-- A tile's first half: its rows are rounded into the first scratch, and the accumulator is cleared and takes the half's share. -/
theorem run_first (x : Vec F S512x1024 .f32) (hc0 : k0_cond1 i (word c xt1) = 1#1) (hc1 : firstHalf i)
    (hx : (inPart i 0#32 ∧ ¬ inPart i 1#32 ∧ ¬ inPart i 2#32 ∧ x = x0) ∨ (¬ inPart i 0#32 ∧ inPart i 1#32 ∧ ¬ inPart i 2#32 ∧ x = x1)
      ∨ (¬ inPart i 0#32 ∧ ¬ inPart i 1#32 ∧ inPart i 2#32 ∧ x = x2))
    (hc6 : ¬ k0_cond6 i = 1#1) (hc7 : ¬ k0_cond7 i (word c xt1) = 1#1) (E : Set ℕ) (K : PUnit → sProp 𝕄) :
    iprop(inputs c arg4 arg5 arg6 arg7 arg8 arg9 x0 x1 x2 x3 x4 x5 xt0 xt1
        ∗ (∃ d, owns (c : Thread nD τ) arg11 fullShare d) ∗ (∃ d, owns (c : Thread nD τ) arg12 fullShare d)
        ∗ (iprop(inputs c arg4 arg5 arg6 arg7 arg8 arg9 x0 x1 x2 x3 x4 x5 xt0 xt1
            ∗ owns (c : Thread nD τ) arg11 fullShare (k0_pay1 x) ∗ owns (c : Thread nD τ) arg12 fullShare (k0_pay3 (k0_pay1 x) x3 x4 k0_pay2 x5)) -∗ K ⟨⟩))
      ⊢ wp frame (wpE (defs₀ (F := F)) Variants.none c none) E
          (body i arg4 harg4 arg5 harg5 arg6 harg6 arg7 harg7 arg8 harg8 arg9 harg9 arg10 harg10 arg11 harg11 arg12 harg12) K := by
  unfold body
  simp only [cc0_moe_experts_eq_skeleton]; unfold cc0_moe_experts_skel
  simp only [k0_part1_eq_skeleton]; unfold k0_part1_skel
  unfold inputs owns
  rcases hx with ⟨hc2, hc3, hc4, rfl⟩ | ⟨hc2, hc3, hc4, rfl⟩ | ⟨hc2, hc3, hc4, rfl⟩
  all_goals
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, HT0, HT1⟩, ⟨%ds0, %fs0, -, HS0⟩, ⟨%ds1, %fs1, -, HS1⟩, Hk⟩
    sl_exec (disch := first | sl_exact hc0 | sl_exact hc1 | sl_exact hc2 | sl_exact hc3 | sl_exact hc4 | sl_exact hc6 | sl_exact hc7)
    sl_step
    iapply Hk
    isplitl [H0 H1 H2 H3 H4 H5 HT0 HT1]
    · isplitl [H0]
      · iexists _; isplitr; · ipureintro; exact hf0
        iexact H0
      isplitl [H1]
      · iexists _; isplitr; · ipureintro; exact hf1
        iexact H1
      isplitl [H2]
      · iexists _; isplitr; · ipureintro; exact hf2
        iexact H2
      isplitl [H3]
      · iexists _; isplitr; · ipureintro; exact hf3
        iexact H3
      isplitl [H4]
      · iexists _; isplitr; · ipureintro; exact hf4
        iexact H4
      isplitl [H5]
      · iexists _; isplitr; · ipureintro; exact hf5
        iexact H5
      isplitl [HT0]; · iexact HT0
      iexact HT1
    isplitl [HS0]
    · iexists _; isplitr
      swap; · iexact HS0
      ipureintro
      refine (View.read_writes_full _ _ _ _ _).trans ?_
      exact congrArg k0_pay1 ((View.readAt_full _ _ _).trans (by first | exact hf0 | exact hf1 | exact hf2))
    iexists _; isplitr
    swap; · iexact HS1
    ipureintro
    refine (View.read_writes_full _ _ _ _ _).trans ?_
    exact pay3_congr ((View.readCov_full _ _ _ _ _).trans (congrArg k0_pay1 ((View.readAt_full _ _ _).trans (by first | exact hf0 | exact hf1 | exact hf2))))
      ((View.readAt_full _ _ _).trans hf3) ((View.readAt_full _ _ _).trans hf4) (View.readCov_full _ _ _ _ _) ((View.readAt_full _ _ _).trans hf5)

end Body

end Cert.MoeIdeal.Tiles

end
-- ==== Proof.ExpertsIdeal.Frame.lean ====
/- The experts call's frame: what each staging buffer holds after every grid point, the invariant between points,
   the body's obligation at a point, and the launch. -/
module
public import proofs.«01_k».proof.Proof.ExpertsIdeal.Run
public import Idealize.ShloMosaic.Lib.Pipeline.Kit
public import Idealize.ShloMosaic.Lib.Claim

@[expose] public section
set_option maxRecDepth 16384
noncomputable section

namespace Cert.MoeIdeal.Tiles
open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the call is entered: as launched. -/
abbrev V (c : Dev nD) (b : Ref sig .tc) : Buf (Elt F) ((c : Thread nD τ).loc b) := m ((c : Thread nD τ).loc b)

set_option maxHeartbeats 800000 in
/-- The program up to the call is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The tables' contents when the call is entered. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- The tables keep every block inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The halves of the tables the call hands its body. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide, bigSep_insert (by decide), bigSep_singleton]
  rfl

/-- The scratch buffers. -/
abbrev scM0_0 : Memref sig .tc .vmem S512x1024 .bf16 := Memref.whole cc0_scratch0
abbrev scM0_1 : Memref sig .tc .vmem S512x1024 .f32 := Memref.whole cc0_scratch1

theorem PhiA0_eq (c : Dev nD) : (Pipeline.ΦA spec0 c : sProp 𝕄) = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Window `w`'s block at point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The conditions at a grid point -/

theorem coord0 (t : Fin grid0.N) : (grid0.coords t 0).val = t.val / 2 := by
  have ht : t.val < 144 := Nat.lt_of_lt_of_eq t.isLt N_0
  have e0 : (grid0.coords t 0).val = t.val / 2 % 72 := Pipeline.Grid.coords_val t 0 (by decide) rfl
  omega

theorem coord1 (t : Fin grid0.N) : (grid0.coords t 1).val = t.val % 2 := by
  have e1 : (grid0.coords t 1).val = t.val / 1 % 2 := Pipeline.Grid.coords_val t 1 (by decide) rfl
  omega

/-- There is a tile at point `t`: its number is below the count the second table gives. -/
abbrev Active (t : Fin grid0.N) : Prop := Scalar.cmpi .slt (BitVec.ofNat 32 (t.val / 2)) (word 0 (tbl m 1)) = 1#1

theorem ext_ne : ∀ b : BitVec 1, (Scalar.cmpi .ne (Scalar.extui b : BitVec 32) 0#32) = 1#1 ↔ b = 1#1 := by decide
theorem ext_and : ∀ a b : BitVec 1, (Scalar.cmpi .ne (Scalar.extui (Scalar.andi (Scalar.xori a 1#1) b) : BitVec 32) 0#32) = 1#1 ↔ ¬ a = 1#1 ∧ b = 1#1 := by decide

theorem firstHalf_iff (t : Fin grid0.N) : firstHalf (grid0.coords t) ↔ t.val % 2 = 0 := by
  have e1 := coord1 t
  simp only [firstHalf, e1]
  word_cmp

theorem cond6_iff (t : Fin grid0.N) : k0_cond6 (grid0.coords t) = 1#1 ↔ t.val % 2 = 1 := by
  have e1 := coord1 t
  simp only [k0_cond6, e1]
  word_cmp

theorem eqOne_iff (t : Fin grid0.N) : Scalar.cmpi .eq (BitVec.ofNat 32 (t.val % 2)) 1#32 = 1#1 ↔ t.val % 2 = 1 := by
  rcases Nat.mod_two_eq_zero_or_one t.val with h | h <;> rw [h] <;> decide

theorem cond1_iff (t : Fin grid0.N) : k0_cond1 (grid0.coords t) (word 0 (tbl m 1)) = 1#1 ↔ Active m t := by
  unfold k0_cond1; rw [coord0]; exact ext_ne _

theorem cond7_iff (t : Fin grid0.N) : k0_cond7 (grid0.coords t) (word 0 (tbl m 1)) = 1#1 ↔ ¬ Active m t ∧ t.val % 2 = 1 := by
  unfold k0_cond7; rw [coord0, coord1]; exact (ext_and _ _).trans (and_congr_right fun _ => eqOne_iff t)

theorem part0_iff : ∀ t : Fin grid0.N, inPart (grid0.coords t) 0#32 ↔ t.val < 48 := by decide +kernel
theorem part1_iff : ∀ t : Fin grid0.N, inPart (grid0.coords t) 1#32 ↔ 48 ≤ t.val ∧ t.val < 96 := by decide +kernel
theorem part2_iff : ∀ t : Fin grid0.N, inPart (grid0.coords t) 2#32 ↔ 96 ≤ t.val := by decide +kernel

/-- A table of one word has one index. -/
theorem idx1_eq (a b : S1.Idx) : a = b := by
  funext x
  match x with
  | ⟨0, _⟩ => exact Subsingleton.elim (α := Fin 1) _ _

/-- The count the idle table reads is the word the body reads. -/
theorem atD_eq : (tbl m).atD 1 ![0] = word 0 (tbl m 1) := by
  unfold Pipeline.Prefetch.Contents.atD
  rw [dif_pos (by decide)]
  exact congrArg (tbl m 1) (idx1_eq _ _)

theorem idle_even (hO : Ok m) (t : Fin (cfgM m hO).N) (h : t.val % 2 = 0) : (cfgM m hO).idle 6 (grid0.coords t) = true := by
  show (!(k0_cond1 (grid0.coords t) ((tbl m).atD 1 ![0]) == 1#1 && k0_cond6 (grid0.coords t) == 1#1) && !(k0_cond7 (grid0.coords t) ((tbl m).atD 1 ![0]) == 1#1)) = true
  have h6 : ¬ k0_cond6 (grid0.coords t) = 1#1 := fun h' => by have := (cond6_iff t).mp h'; omega
  have h7 : ¬ k0_cond7 (grid0.coords t) (word 0 (tbl m 1)) = 1#1 := fun h' => by have := ((cond7_iff m t).mp h').2; omega
  rw [atD_eq, beq_eq_false_iff_ne.mpr h6, beq_eq_false_iff_ne.mpr h7, Bool.and_false]; rfl

theorem live_odd (hO : Ok m) (t : Fin (cfgM m hO).N) (h : t.val % 2 = 1) : (cfgM m hO).idle 6 (grid0.coords t) = false := by
  show (!(k0_cond1 (grid0.coords t) ((tbl m).atD 1 ![0]) == 1#1 && k0_cond6 (grid0.coords t) == 1#1) && !(k0_cond7 (grid0.coords t) ((tbl m).atD 1 ![0]) == 1#1)) = false
  rw [atD_eq]
  by_cases ha : Active m t
  · rw [(cond1_iff m t).mpr ha, (cond6_iff t).mpr h]; rfl
  · rw [(cond7_iff m t).mpr ⟨ha, h⟩]; simp

/-- The output block is written back at the second half of every tile. -/
theorem flush0_6 (a : (pcfg0 (F := F)).Adm) : ∀ t : Fin (cfg0 a).N, ((cfg0 a).win 6).flush t = true ↔ t.val % 2 = 1 :=
  (fun t => Pipeline.Window.flushOf_reads cc0_transform_6 reads0_6 hreads0_6 0 (by decide) (by decide) (Pipeline.Window.sep_of_coord cc0_transform_6 0 0 (fun _ => rfl) (by decide)) (P := 2) (m := 1) (by decide) rfl t : ∀ t : Fin grid0.N, Pipeline.Window.flushOf grid0 true cc0_transform_6 t = true ↔ t.val % 2 = 1)

theorem noflush_even (hO : Ok m) (t : Fin (cfgM m hO).N) (h : t.val % 2 = 0) : ((cfgM m hO).win 6).flush t = false :=
  Bool.eq_false_iff.mpr fun h' => by have := (flush0_6 (adm m hO) t).mp h'; omega

/-! ## What the buffers hold -/

/-- The tile's rows: from the part the tile lies in. -/
def rows (hO : Ok m) (c : Dev nD) (t : Fin (cfgM m hO).N) : Vec F S512x1024 .f32 :=
  if t.val < 48 then iblk m hO c 0 t else if t.val < 96 then iblk m hO c 1 t else iblk m hO c 2 t

/-- The accumulator after a tile's first half. -/
def acc (hO : Ok m) (c : Dev nD) (t : Fin (cfgM m hO).N) : Vec F S512x1024 .f32 :=
  k0_pay3 (k0_pay1 (rows m hO c t)) (iblk m hO c 3 t) (iblk m hO c 4 t) k0_pay2 (iblk m hO c 5 t)

/-- The point before. -/
abbrev prev {N : ℕ} (t : Fin N) : Fin N := ⟨t.val - 1, lt_of_le_of_lt (Nat.sub_le _ _) t.isLt⟩

/-- The output block after a tile's second half. -/
def outAt (hO : Ok m) (c : Dev nD) (t : Fin (cfgM m hO).N) : Vec F S512x1024 .f32 :=
  if Active m t then k0_pay3 (k0_pay1 (rows m hO c (prev t))) (iblk m hO c 3 t) (iblk m hO c 4 t) (acc m hO c (prev t)) (iblk m hO c 5 t) else k0_pay4

/-- The scratch between points, `p` the point before it: between a tile's halves the rounded rows and the
    accumulator, elsewhere anything. -/
def scr (hO : Ok m) (c : Dev nD) (p : Fin (cfgM m hO).N) : sProp 𝕄 :=
  if p.val % 2 = 0 ∧ Active m p then
    iprop(owns (c : Thread nD τ) scM0_0 fullShare (k0_pay1 (rows m hO c p)) ∗ owns (c : Thread nD τ) scM0_1 fullShare (acc m hO c p))
  else iprop((∃ d, owns (c : Thread nD τ) scM0_0 fullShare d) ∗ (∃ d, owns (c : Thread nD τ) scM0_1 fullShare d))

/-- The named scratch forgotten. -/
theorem scr_forget (hO : Ok m) (c : Dev nD) (p : Fin (cfgM m hO).N) :
    scr m hO c p ⊢ iprop((∃ d, owns (c : Thread nD τ) scM0_0 fullShare d) ∗ (∃ d, owns (c : Thread nD τ) scM0_1 fullShare d)) := by
  unfold scr
  split
  · iintro ⟨H0, H1⟩
    isplitl [H0]; · iexists _; iexact H0
    iexists _; iexact H1
  · exact Idealize.SL.BI.Entails.refl _

/-- The invariant before position `n`: the scratch, the generator register and the tables. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(scr m hO c ⟨n, hn⟩ ∗ (∃ r, prngReg c r)) ∗ Pipeline.ΦT pre0 (tbl m) c)

/-- Before a tile's first half the scratch may hold anything. -/
theorem PhiS_any (hO : Ok m) (c : Dev nD) (n : ℕ) (hn : n ≤ (cfgM m hO).N) : PhiS m hO c n hn ⊢
    iprop(iprop(iprop((∃ d, owns (c : Thread nD τ) scM0_0 fullShare d) ∗ (∃ d, owns (c : Thread nD τ) scM0_1 fullShare d)) ∗ (∃ r, prngReg c r)) ∗ Pipeline.ΦT pre0 (tbl m) c) := by
  cases n with
  | zero => unfold PhiS; rw [PhiA0_eq]
  | succ n =>
    unfold PhiS
    iintro ⟨⟨HS, Hg⟩, HT⟩
    isplitl [HS Hg]
    · isplitl [HS]
      · iapply (scr_forget m hO c _); iexact HS
      iexact Hg
    iexact HT

/-- Before a tile's second half the scratch is what its first half left. -/
theorem PhiS_odd (hO : Ok m) (c : Dev nD) (t : Fin (cfgM m hO).N) (h : t.val % 2 = 1) (hn : t.val ≤ (cfgM m hO).N) :
    PhiS m hO c t.val hn = iprop(iprop(scr m hO c (prev t) ∗ (∃ r, prngReg c r)) ∗ Pipeline.ΦT pre0 (tbl m) c) := by
  obtain ⟨n, hlt⟩ := t
  cases n with
  | zero => exact absurd h (by simp)
  | succ n => rfl

/-- A tile's two points are of the same tile. -/
theorem active_prev (t : Fin grid0.N) (h : t.val % 2 = 1) : Active m (prev t) ↔ Active m t := by
  have e : (t.val - 1) / 2 = t.val / 2 := by omega
  unfold Active; rw [e]

/-- The proof data of the call on core `c`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => outAt m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = outAt m hO c t := by dsimp only [dats]; try rfl

/-- An input's staging buffer holds its block at every point, fetched there or not. -/
theorem before0_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

/-! ## The body at a point -/

/-- Window `w`'s staging buffer at point `t`, and the fact that it is a whole buffer. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S512x1024 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x1792 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x1792 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1792x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x1024 .f32 := spec0_6.stage ((cfgM m hO).slots t 6)
abbrev hs0_6 (hO : Ok m) (t : Fin (cfgM m hO).N) : (ms0_6 m hO t).IsWhole := hstage0_6 (((cfgM m hO).slots t 6).cast nbuf0_6)

/-- The body at point `t`, on the buffers the call hands it. -/
abbrev bodyAt (hO : Ok m) (t : Fin (cfgM m hO).N) : Prog (TpuEff nD τ sig (Elt F) Λ₀ .tc) PUnit :=
  body (F := F) (grid0.coords t) (ms0_0 m hO t) (hs0_0 m hO t) (ms0_1 m hO t) (hs0_1 m hO t) (ms0_2 m hO t) (hs0_2 m hO t) (ms0_3 m hO t) (hs0_3 m hO t)
    (ms0_4 m hO t) (hs0_4 m hO t) (ms0_5 m hO t) (hs0_5 m hO t) (ms0_6 m hO t) (hs0_6 m hO t) scM0_0 (Memref.isWhole_whole _) scM0_1 (Memref.isWhole_whole _)

/-- What the body reads at point `t`. -/
abbrev insAt (hO : Ok m) (c : Dev nD) (t : Fin (cfgM m hO).N) : sProp 𝕄 :=
  inputs c (ms0_0 m hO t) (ms0_1 m hO t) (ms0_2 m hO t) (ms0_3 m hO t) (ms0_4 m hO t) (ms0_5 m hO t)
    (iblk m hO c 0 t) (iblk m hO c 1 t) (iblk m hO c 2 t) (iblk m hO c 3 t) (iblk m hO c 4 t) (iblk m hO c 5 t) (tbl m 0) (tbl m 1)

/-- What the body is called with at point `t`, the windows one by one, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

/-- A window that is not idle is left at what the proof data say. -/
theorem leaves_live (hO : Ok m) (c : Dev nD) (w : Fin (cfgM m hO).W) (t : Fin (cfgM m hO).N) (hi : (cfgM m hO).idle w ((cfgM m hO).grid.coords t) = false) :
    (dats m hO 0 c).leavesExact w t = owns (c : Thread nD τ) (((cfgM m hO).win w).stage ((cfgM m hO).slots t w)) fullShare ((dats m hO 0 c).after w t) := by
  unfold Dat.leavesExact; rw [hi]

theorem leaves0_0 (hO : Ok m) (c : Dev nD) (t : Fin (cfgM m hO).N) : (dats m hO 0 c).leavesExact 0 t = owns (c : Thread nD τ) (ms0_0 m hO t) fullShare (iblk m hO c 0 t) :=
  (leaves_live m hO c 0 t rfl).trans (congrArg (owns (c : Thread nD τ) (ms0_0 m hO t) fullShare) (after0_0 m hO c t))
theorem leaves0_1 (hO : Ok m) (c : Dev nD) (t : Fin (cfgM m hO).N) : (dats m hO 0 c).leavesExact 1 t = owns (c : Thread nD τ) (ms0_1 m hO t) fullShare (iblk m hO c 1 t) :=
  (leaves_live m hO c 1 t rfl).trans (congrArg (owns (c : Thread nD τ) (ms0_1 m hO t) fullShare) (after0_1 m hO c t))
theorem leaves0_2 (hO : Ok m) (c : Dev nD) (t : Fin (cfgM m hO).N) : (dats m hO 0 c).leavesExact 2 t = owns (c : Thread nD τ) (ms0_2 m hO t) fullShare (iblk m hO c 2 t) :=
  (leaves_live m hO c 2 t rfl).trans (congrArg (owns (c : Thread nD τ) (ms0_2 m hO t) fullShare) (after0_2 m hO c t))
theorem leaves0_3 (hO : Ok m) (c : Dev nD) (t : Fin (cfgM m hO).N) : (dats m hO 0 c).leavesExact 3 t = owns (c : Thread nD τ) (ms0_3 m hO t) fullShare (iblk m hO c 3 t) :=
  (leaves_live m hO c 3 t rfl).trans (congrArg (owns (c : Thread nD τ) (ms0_3 m hO t) fullShare) (after0_3 m hO c t))
theorem leaves0_4 (hO : Ok m) (c : Dev nD) (t : Fin (cfgM m hO).N) : (dats m hO 0 c).leavesExact 4 t = owns (c : Thread nD τ) (ms0_4 m hO t) fullShare (iblk m hO c 4 t) :=
  (leaves_live m hO c 4 t rfl).trans (congrArg (owns (c : Thread nD τ) (ms0_4 m hO t) fullShare) (after0_4 m hO c t))
theorem leaves0_5 (hO : Ok m) (c : Dev nD) (t : Fin (cfgM m hO).N) : (dats m hO 0 c).leavesExact 5 t = owns (c : Thread nD τ) (ms0_5 m hO t) fullShare (iblk m hO c 5 t) :=
  (leaves_live m hO c 5 t rfl).trans (congrArg (owns (c : Thread nD τ) (ms0_5 m hO t) fullShare) (after0_5 m hO c t))
theorem leaves0_6 (hO : Ok m) (c : Dev nD) (t : Fin (cfgM m hO).N) (h : t.val % 2 = 1) :
    (dats m hO 0 c).leavesExact 6 t = owns (c : Thread nD τ) (ms0_6 m hO t) fullShare (outAt m hO c t) :=
  (leaves_live m hO c 6 t (live_odd m hO t h)).trans (congrArg (owns (c : Thread nD τ) (ms0_6 m hO t) fullShare) (after0_6 m hO c t))

/-- Before the body: what it reads, the output's buffer at some contents, the invariant. -/
theorem pre_regroup (hO : Ok m) (c : Dev nD) (t : Fin (cfgM m hO).N) (P : sProp 𝕄) :
    iprop(iprop(P ∗ Pipeline.ΦT pre0 (tbl m) c) ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))
    ⊢ iprop(insAt m hO c t ∗ P ∗ (dats m hO 0 c).owesAt () t.castSucc ∗ (∃ d, owns (c : Thread nD τ) (ms0_6 m hO t) fullShare ((dats m hO 0 c).before 6 t d))) := by
  simp only [before0_0, before0_1, before0_2, before0_3, before0_4, before0_5]
  rw [PhiT0_eq]; unfold insAt inputs
  iintro ⟨⟨HP, ⟨HT0, HT1⟩⟩, Ho, ⟨%d0, H0⟩, ⟨%d1, H1⟩, ⟨%d2, H2⟩, ⟨%d3, H3⟩, ⟨%d4, H4⟩, ⟨%d5, H5⟩, H6⟩
  isplitl [H0 H1 H2 H3 H4 H5 HT0 HT1]
  · isplitl [H0]; · iexact H0
    isplitl [H1]; · iexact H1
    isplitl [H2]; · iexact H2
    isplitl [H3]; · iexact H3
    isplitl [H4]; · iexact H4
    isplitl [H5]; · iexact H5
    isplitl [HT0]; · iexact HT0
    iexact HT1
  isplitl [HP]; · iexact HP
  isplitl [Ho]; · iexact Ho
  iexact H6

/-- After the body: the same read back. -/
theorem post_regroup (hO : Ok m) (c : Dev nD) (t : Fin (cfgM m hO).N) :
    iprop(insAt m hO c t ∗ iprop(scr m hO c t ∗ (∃ r, prngReg c r)) ∗ (dats m hO 0 c).owesAt () t.castSucc ∗ (dats m hO 0 c).leavesExact 6 t) ⊢ bodyPost m hO c t := by
  unfold bodyPost
  rw [show (dats m hO 0 c).owesAt () t.succ = (dats m hO 0 c).owesAt () t.castSucc from rfl,
    show (dats m hO 0 c).Φ t.succ = iprop(iprop(scr m hO c t ∗ (∃ r, prngReg c r)) ∗ Pipeline.ΦT pre0 (tbl m) c) from rfl,
    leaves0_0, leaves0_1, leaves0_2, leaves0_3, leaves0_4, leaves0_5, PhiT0_eq]
  unfold insAt inputs
  iintro ⟨⟨H0, H1, H2, H3, H4, H5, HT0, HT1⟩, HP, Ho, H6⟩
  isplitl [HP HT0 HT1]
  · isplitl [HP]; · iexact HP
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The rows of a tile are those of its part. -/
theorem rows_part (hO : Ok m) (c : Dev nD) (t : Fin (cfgM m hO).N) :
    (inPart (grid0.coords t) 0#32 ∧ ¬ inPart (grid0.coords t) 1#32 ∧ ¬ inPart (grid0.coords t) 2#32 ∧ rows m hO c t = iblk m hO c 0 t)
      ∨ (¬ inPart (grid0.coords t) 0#32 ∧ inPart (grid0.coords t) 1#32 ∧ ¬ inPart (grid0.coords t) 2#32 ∧ rows m hO c t = iblk m hO c 1 t)
      ∨ (¬ inPart (grid0.coords t) 0#32 ∧ ¬ inPart (grid0.coords t) 1#32 ∧ inPart (grid0.coords t) 2#32 ∧ rows m hO c t = iblk m hO c 2 t) := by
  rw [part0_iff t, part1_iff t, part2_iff t]; unfold rows
  by_cases h0 : t.val < 48
  · exact .inl ⟨h0, by omega, by omega, if_pos h0⟩
  · by_cases h1 : t.val < 96
    · exact .inr (.inl ⟨h0, by omega, by omega, (if_neg h0).trans (if_pos h1)⟩)
    · exact .inr (.inr ⟨h0, by omega, by omega, (if_neg h0).trans (if_neg h1)⟩)

set_option maxHeartbeats 4000000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  obtain rfl : c = 0 := Subsingleton.elim _ _
  unfold bodyPre
  rw [show (dats m hO 0 0).Φ t.castSucc = PhiS m hO 0 t.val (Nat.le_of_lt t.isLt) from by dsimp only [dats]; exact Pipeline.Dat.Φ_castSucc (PhiS m hO 0) t]
  have h1i := cond1_iff m t
  have h6i := cond6_iff t
  have h7i := cond7_iff m t
  have hfi := firstHalf_iff t
  rcases Nat.mod_two_eq_zero_or_one t.val with h | h
  · have hc6 : ¬ k0_cond6 (grid0.coords t) = 1#1 := fun h' => by have := h6i.mp h'; omega
    have hc7 : ¬ k0_cond7 (grid0.coords t) (word 0 (tbl m 1)) = 1#1 := fun h' => by have := (h7i.mp h').2; omega
    refine (sep_mono_left (PhiS_any m hO 0 _ _)).trans ((pre_regroup m hO 0 t _).trans ?_)
    have hpost := post_regroup m hO 0 t
    rw [Dat.leavesExact_idle (dats m hO 0 0) 6 t (idle_even m hO t h) (noflush_even m hO t h)] at hpost
    by_cases ha : Active m t
    · unfold scr at hpost; rw [if_pos ⟨h, ha⟩] at hpost
      iintro ⟨Hi, ⟨⟨HS0, HS1⟩, Hg⟩, Ho, H6⟩
      iapply (run_first 0 (grid0.coords t) _ _ _ _ _ _ _ _ _ _ _ _ _ _ _ _ _ _ (iblk m hO 0 0 t) (iblk m hO 0 1 t) (iblk m hO 0 2 t) (iblk m hO 0 3 t) (iblk m hO 0 4 t)
        (iblk m hO 0 5 t) (tbl m 0) (tbl m 1) (rows m hO 0 t) (h1i.mpr ha) (hfi.mpr h) (rows_part m hO 0 t) hc6 hc7 Set.univ _)
      isplitl [Hi]; · iexact Hi
      isplitl [HS0]; · iexact HS0
      isplitl [HS1]; · iexact HS1
      iintro ⟨Hi, HS0, HS1⟩
      iapply hpost
      isplitl [Hi]; · iexact Hi
      isplitl [HS0 HS1 Hg]
      · isplitl [HS0 HS1]
        · isplitl [HS0]; · iexact HS0
          iexact HS1
        iexact Hg
      isplitl [Ho]; · iexact Ho
      iexact H6
    · unfold scr at hpost; rw [if_neg (fun h' => ha h'.2)] at hpost
      iintro ⟨Hi, HP, Ho, H6⟩
      iapply (run_skip 0 (grid0.coords t) _ _ _ _ _ _ _ _ _ _ _ _ _ _ _ _ _ _ (iblk m hO 0 0 t) (iblk m hO 0 1 t) (iblk m hO 0 2 t) (iblk m hO 0 3 t) (iblk m hO 0 4 t)
        (iblk m hO 0 5 t) (tbl m 0) (tbl m 1) (fun h' => ha (h1i.mp h')) hc7 Set.univ _)
      isplitl [Hi]; · iexact Hi
      iintro Hi
      iapply hpost
      isplitl [Hi]; · iexact Hi
      isplitl [HP]; · iexact HP
      isplitl [Ho]; · iexact Ho
      iexact H6
  · rw [PhiS_odd m hO 0 t h]
    refine (pre_regroup m hO 0 t _).trans ?_
    have hpost := post_regroup m hO 0 t
    have hodd : ¬ (t.val % 2 = 0 ∧ Active m t) := fun h' => by have := h'.1; omega
    rw [leaves0_6 m hO 0 t h] at hpost
    by_cases ha : Active m t
    · have hpa : (prev t).val % 2 = 0 ∧ Active m (prev t) := ⟨by show (t.val - 1) % 2 = 0; omega, (active_prev m t h).mpr ha⟩
      unfold scr at hpost ⊢; rw [if_neg hodd] at hpost; rw [if_pos hpa]
      unfold outAt at hpost; rw [if_pos ha] at hpost
      iintro ⟨Hi, ⟨⟨HS0, HS1⟩, Hg⟩, Ho, ⟨%d6, H6⟩⟩
      iapply (run_second 0 (grid0.coords t) _ _ _ _ _ _ _ _ _ _ _ _ _ _ _ _ _ _ (iblk m hO 0 0 t) (iblk m hO 0 1 t) (iblk m hO 0 2 t) (iblk m hO 0 3 t) (iblk m hO 0 4 t)
        (iblk m hO 0 5 t) (tbl m 0) (tbl m 1) (k0_pay1 (rows m hO 0 (prev t))) (acc m hO 0 (prev t)) (h1i.mpr ha) (fun h' => by have := hfi.mp h'; omega) (h6i.mpr h)
        (fun h' => (h7i.mp h').1 ha) Set.univ _)
      isplitl [Hi]; · iexact Hi
      isplitl [H6]; · iexists _; iexact H6
      isplitl [HS0]; · iexact HS0
      isplitl [HS1]; · iexact HS1
      iintro ⟨Hi, H6, HS0, HS1⟩
      iapply hpost
      isplitl [Hi]; · iexact Hi
      isplitl [HS0 HS1 Hg]
      · isplitl [HS0 HS1]
        · isplitl [HS0]; · iexists _; iexact HS0
          iexists _; iexact HS1
        iexact Hg
      isplitl [Ho]; · iexact Ho
      iexact H6
    · have hpa : ¬ ((prev t).val % 2 = 0 ∧ Active m (prev t)) := fun h' => ha ((active_prev m t h).mp h'.2)
      unfold scr at hpost ⊢; rw [if_neg hodd] at hpost; rw [if_neg hpa]
      unfold outAt at hpost; rw [if_neg ha] at hpost
      iintro ⟨Hi, HP, Ho, ⟨%d6, H6⟩⟩
      iapply (run_zero 0 (grid0.coords t) _ _ _ _ _ _ _ _ _ _ _ _ _ _ _ _ _ _ (iblk m hO 0 0 t) (iblk m hO 0 1 t) (iblk m hO 0 2 t) (iblk m hO 0 3 t) (iblk m hO 0 4 t)
        (iblk m hO 0 5 t) (tbl m 0) (tbl m 1) (fun h' => ha (h1i.mp h')) (h7i.mpr ⟨ha, h⟩) Set.univ _)
      isplitl [Hi]; · iexact Hi
      isplitl [H6]; · iexists _; iexact H6
      iintro ⟨Hi, H6⟩
      iapply hpost
      isplitl [Hi]; · iexact Hi
      isplitl [HP]; · iexact HP
      isplitl [Ho]; · iexact Ho
      iexact H6

/-! ## The launch -/

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = iprop(Pipeline.ΦA spec0 c ∗ Pipeline.ΦT pre0 (tbl m) c) from rfl]

theorem hout (hO : Ok m) (c : Dev nD) : (dats m hO 0 c).Φ (Fin.last (cfgM m hO).N) ⊢ Pipeline.ΦA spec0 c := by
  rw [show (dats m hO 0 c).Φ (Fin.last (cfgM m hO).N) = PhiS m hO c (Fin.last (cfgM m hO).N).val (Nat.le_of_lt_succ (Fin.last (cfgM m hO).N).isLt) from rfl]
  refine (PhiS_any m hO c _ _).trans ?_
  rw [PhiA0_eq]
  iintro ⟨HP, -⟩
  iexact HP

set_option backward.isDefEq.respectTransparency.types false in
/-- The launch: every execution ends, with the arrays at what the proof data compute and every counter at zero. -/
theorem run_main (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame: the arguments end as they were, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2)),
      ((h.1 c).1 3).trans (((dats m hO 0 c).arrAt_in 3 rfl _).trans (A_eq m hO c 3)),
      ((h.1 c).1 4).trans (((dats m hO 0 c).arrAt_in 4 rfl _).trans (A_eq m hO c 4)),
      ((h.1 c).1 5).trans (((dats m hO 0 c).arrAt_in 5 rfl _).trans (A_eq m hO c 5))⟩, h.2⟩) (run_main m ρ hO)

end Cert.MoeIdeal.Tiles

end
-- ==== Proof.ExpertsIdeal.Bounds.lean ====
/- The blocks the experts call's index maps choose: always inside their arrays when the experts' numbers are in range,
   and at a tile with rows to process the blocks one expects. -/
module
public import proofs.«01_k».proof.Proof.ExpertsIdeal.Frame
public import Idealize.ShloMosaic.Lib.Affine

@[expose] public section
noncomputable section

namespace Cert.MoeIdeal.Tiles
open Cert.MoeIdeal Cert.MoeIdeal.Gen
open Idealize.ShloMosaic Idealize.ShloMosaic.TcCoe

variable {F : FTy → Type} [FloatOps F]

theorem toInt_minsi (a b : BitVec 32) : (Scalar.minsi a b).toInt = min a.toInt b.toInt := by
  unfold Scalar.minsi IntOp.minsi
  by_cases h : a.slt b = true
  · rw [if_pos h]; have := BitVec.slt_iff_toInt_lt.mp h; omega
  · rw [if_neg h]; have := mt BitVec.slt_iff_toInt_lt.mpr h; omega

theorem toInt_maxsi (a b : BitVec 32) : (Scalar.maxsi a b).toInt = max a.toInt b.toInt := by
  unfold Scalar.maxsi IntOp.maxsi
  by_cases h : b.slt a = true
  · rw [if_pos h]; have := BitVec.slt_iff_toInt_lt.mp h; omega
  · rw [if_neg h]; have := mt BitVec.slt_iff_toInt_lt.mpr h; omega

theorem toNat_of_toInt {a : BitVec 32} {n : ℕ} (h : a.toInt = n) : a.toNat = n := by
  have := BitVec.toInt_eq_toNat_cond a
  have hl := a.isLt
  split at this <;> omega

theorem toInt_ofNat {n : ℕ} (h : n < 2 ^ 31) : (BitVec.ofNat 32 n).toInt = n := by
  rw [BitVec.toInt_eq_toNat_cond, BitVec.toNat_ofNat, Nat.mod_eq_of_lt (by omega), if_pos (by omega)]

/-- The block of a part's rows that tile number `i` is given, among `v` tiles; the part starts at tile `k`. -/
abbrev rowBlock (v i k : BitVec 32) : BitVec 32 :=
  Scalar.minsi 23#32 (Scalar.maxsi 0#32 (Scalar.subi (Scalar.minsi i (Scalar.maxsi (Scalar.subi v 1#32) 0#32)) k))

theorem rowBlock_le (v i k : BitVec 32) : (rowBlock v i k).toNat ≤ 23 := by
  have h := toInt_minsi 23#32 (Scalar.maxsi 0#32 (Scalar.subi (Scalar.minsi i (Scalar.maxsi (Scalar.subi v 1#32) 0#32)) k))
  rw [toInt_maxsi] at h
  have e0 : (0#32).toInt = 0 := by decide
  have e23 : (23#32).toInt = 23 := by decide
  rw [e0, e23] at h
  obtain ⟨n, hn⟩ : ∃ n : ℕ, (rowBlock v i k).toInt = n := Int.eq_ofNat_of_zero_le (by unfold rowBlock; omega)
  rw [toNat_of_toInt hn]; unfold rowBlock at hn; omega

/-- A tile with rows to process, in the part starting at tile `k`, is given its own block. -/
theorem rowBlock_eq (v : BitVec 32) (i k : ℕ) (hi : i < 72) (hk : k ≤ i) (hk' : i < k + 24) (ha : Scalar.cmpi .slt (BitVec.ofNat 32 i) v = 1#1) :
    (rowBlock v (BitVec.ofNat 32 i) (BitVec.ofNat 32 k)).toNat = i - k := by
  have hlt : (BitVec.ofNat 32 i).toInt < v.toInt := by
    unfold Scalar.cmpi IntOp.cmpi at ha
    by_contra hn
    have : (BitVec.ofNat 32 i).slt v = false := Bool.eq_false_iff.mpr fun h' => hn (BitVec.slt_iff_toInt_lt.mp h')
    simp [this] at ha
  rw [toInt_ofNat (by omega)] at hlt
  have hv := BitVec.toInt_lt (x := v)
  have e0 : (0#32).toInt = 0 := by decide
  have e23 : (23#32).toInt = 23 := by decide
  have e1 : (Scalar.subi v 1#32).toInt = v.toInt - 1 := by
    unfold Scalar.subi IntOp.subi
    rw [BitVec.toInt_sub, show (1#32).toInt = 1 from by decide]
    exact Int.bmod_eq_of_le (by omega) (by omega)
  have e2 : (Scalar.minsi (BitVec.ofNat 32 i) (Scalar.maxsi (Scalar.subi v 1#32) 0#32)).toInt = i := by
    rw [toInt_minsi, toInt_maxsi, e1, e0, toInt_ofNat (by omega)]; omega
  have e3 : (Scalar.subi (Scalar.minsi (BitVec.ofNat 32 i) (Scalar.maxsi (Scalar.subi v 1#32) 0#32)) (BitVec.ofNat 32 k)).toInt = (i : ℤ) - k := by
    unfold Scalar.subi IntOp.subi at e2 ⊢
    rw [BitVec.toInt_sub, e2, toInt_ofNat (n := k) (by omega)]
    exact Int.bmod_eq_of_le (by omega) (by omega)
  refine toNat_of_toInt ?_
  unfold rowBlock
  rw [toInt_minsi, toInt_maxsi, e3, e0, e23]; omega

/-- The half of the hidden columns a point is given. -/
abbrev colBlock (v i j : BitVec 32) : BitVec 32 := Scalar.select (Scalar.cmpi .slt i v) j 1#32

theorem colBlock_lt (v i : BitVec 32) (j : ℕ) (hj : j < 2) : (colBlock v i (BitVec.ofNat 32 j)).toNat < 2 := by
  unfold colBlock Scalar.select
  split
  · rw [BitVec.toNat_ofNat, Nat.mod_eq_of_lt (by omega)]; exact hj
  · decide

theorem rowBlock_inb (n : ℕ) (hn : n ≤ 23) : ∀ a, ((![n, (0#32).toNat] : Fin 2 → ℕ) a + 1) * S512x1024.size a ≤ S12288x1024.size a := by
  intro a
  match a with
  | ⟨0, _⟩ => show (n + 1) * 512 ≤ 12288; omega
  | ⟨1, _⟩ => show (0 + 1) * 1024 ≤ 1024; omega

theorem inBlock_inb (e j : ℕ) (he : e < 16) (hj : j < 2) : ∀ a, ((![e, (0#32).toNat, j] : Fin 3 → ℕ) a + 1) * S1x1024x1792.size a ≤ S16x1024x3584.size a := by
  intro a
  match a with
  | ⟨0, _⟩ => show (e + 1) * 1 ≤ 16; omega
  | ⟨1, _⟩ => show (0 + 1) * 1024 ≤ 1024; omega
  | ⟨2, _⟩ => show (j + 1) * 1792 ≤ 3584; omega

theorem outBlock_inb (e j : ℕ) (he : e < 16) (hj : j < 2) : ∀ a, ((![e, j, (0#32).toNat] : Fin 3 → ℕ) a + 1) * S1x1792x1024.size a ≤ S16x3584x1024.size a := by
  intro a
  match a with
  | ⟨0, _⟩ => show (e + 1) * 1 ≤ 16; omega
  | ⟨1, _⟩ => show (j + 1) * 1792 ≤ 3584; omega
  | ⟨2, _⟩ => show (0 + 1) * 1024 ≤ 1024; omega

/-- With every expert's number below sixteen, every block is inside its array. -/
theorem ok_of (pf : pre0.Contents (Elt F)) (h : ∀ j : S72.Idx, (pf 0 j : BitVec 32).toNat < 16) : ok0 pf := by
  have hj : ∀ i : grid0.Coords, (i 1).val < 2 := fun i => (i 1).isLt
  exact ⟨fun i => ⟨rowBlock_inb _ (rowBlock_le _ _ _), .inl rfl⟩, fun i => ⟨rowBlock_inb _ (rowBlock_le _ _ _), .inl rfl⟩, fun i => ⟨rowBlock_inb _ (rowBlock_le _ _ _), .inl rfl⟩,
    fun i => ⟨inBlock_inb _ _ (h _) (colBlock_lt _ _ _ (hj i)), .inr (Affine.block_words_dvd (s := S16x1024x3584) (p := EltTy.packing .bf16) (by decide) (by decide))⟩,
    fun i => ⟨inBlock_inb _ _ (h _) (colBlock_lt _ _ _ (hj i)), .inr (Affine.block_words_dvd (s := S16x1024x3584) (p := EltTy.packing .bf16) (by decide) (by decide))⟩,
    fun i => ⟨outBlock_inb _ _ (h _) (colBlock_lt _ _ _ (hj i)), .inr (Affine.block_words_dvd (s := S16x3584x1024) (p := EltTy.packing .bf16) (by decide) (by decide))⟩⟩

end Cert.MoeIdeal.Tiles

end
-- ==== Proof.ExpertsReference.lean ====
/- The experts' reference: sixteen times the same step, and its result at a row and a column. -/
module
public import proofs.«01_k».proof.Proof.Gen.MoeReferenceIdeal.Read
public import Idealize.ShloMosaic.Lib.Claim
public import Idealize.ShloMosaic.Lib.Tactic
public import Idealize.ShloMosaic.Lib.Pointwise
public import Idealize.ShloMosaic.PureOps.Ideal.Laws

@[expose] public section
set_option maxRecDepth 16384
noncomputable section
open Idealize.ShloMosaic Idealize.ShloMosaic.TcCoe Idealize.SL.Sem Idealize.ShloMosaic.StableHlo Idealize.ShloMosaic.Tactic
namespace Cert.MoeReferenceIdeal.Sparse
open Cert.MoeReferenceIdeal Cert.MoeReferenceIdeal.Gen Cert.MoeReferenceIdeal.Read

abbrev Arr (s : Shape) (e : EltTy) : Type := (⟨s, e⟩ : BufTy).Contents (Elt Ideal)

/-- One expert's feed-forward of all the rows. -/
def swiglu (t : FVec Ideal S36864x1024 .f32) (G U : FVec Ideal S1024x3584 .f32) (D : FVec Ideal S3584x1024 .f32) : FVec Ideal S36864x1024 .f32 :=
  have a : FVec Ideal S36864x3584 .f32 := Host.dotGeneral dot_S36864x1024_S1024x3584_S36864x3584_1_0_0_1_n_n none t G
  have one : FVec Ideal S36864x3584 .f32 := broadcastInDim S36864x3584 ![] bcast_S_S36864x3584 (constant S_ .f32 0x3F800000#32)
  have b : FVec Ideal S36864x3584 .f32 := Host.dotGeneral dot_S36864x1024_S1024x3584_S36864x3584_1_0_0_1_n_n none t U
  Host.dotGeneral dot_S36864x3584_S3584x1024_S36864x1024_1_0_0_1_n_n none (mulf (mulf a (Host.divf one (addf one (Host.exp (Host.negf a))))) b) D

theorem slicesIn (e : ℕ) (he : e < 16) : S16x1024x3584.Slices ![e, 0, 0] S1x1024x3584 :=
  ⟨rfl, fun a => match a with
    | ⟨0, _⟩ => by show e + 1 ≤ 16; omega
    | ⟨1, _⟩ => by show 0 + 1024 ≤ 1024; omega
    | ⟨2, _⟩ => by show 0 + 3584 ≤ 3584; omega⟩
theorem slicesOut (e : ℕ) (he : e < 16) : S16x3584x1024.Slices ![e, 0, 0] S1x3584x1024 :=
  ⟨rfl, fun a => match a with
    | ⟨0, _⟩ => by show e + 1 ≤ 16; omega
    | ⟨1, _⟩ => by show 0 + 3584 ≤ 3584; omega
    | ⟨2, _⟩ => by show 0 + 1024 ≤ 1024; omega⟩

variable (x0 : Arr S72 .i32) (x1 : Arr S1 .i32) (x2 x3 x4 : Arr S12288x1024 .f32)
  (x5 x6 : Arr S16x1024x3584 .bf16) (x7 : Arr S16x3584x1024 .bf16)

/-- One where the row is expert `e`'s and its tile is in use, zero elsewhere; the same in every column. -/
def mine (e : ℕ) : FVec Ideal S36864x1024 .f32 :=
  broadcastInDim S36864x1024 ![0, 1] bcast_S36864x1_S36864x1024_0_1 (broadcastInDim S36864x1 ![0] bcast_S36864_S36864x1_0
    (uitofp .f32 (andi (val_main_v11 (F := Ideal) x1) (cmpi .eq (val_main_v9 (F := Ideal) x0)
      (broadcastInDim S36864 ![] bcast_S_S36864 (constantI S_ 32 (BitVec.ofNat 32 e)))))))

/-- Expert `e`'s weights, taken out of the stack. -/
def weightIn (x : Arr S16x1024x3584 .bf16) (e : ℕ) (he : e < 16) : FVec Ideal S1024x3584 .f32 :=
  shapeCast _ (extractStridedSlice S1x1024x3584 ![e, 0, 0] (extf .f32 x bitsLt_bf16_f32 : FVec Ideal S16x1024x3584 .f32) (slicesIn e he)) shapeCasts_S1x1024x3584_S1024x3584
def weightOut (x : Arr S16x3584x1024 .bf16) (e : ℕ) (he : e < 16) : FVec Ideal S3584x1024 .f32 :=
  shapeCast _ (extractStridedSlice S1x3584x1024 ![e, 0, 0] (extf .f32 x bitsLt_bf16_f32 : FVec Ideal S16x3584x1024 .f32) (slicesOut e he)) shapeCasts_S1x3584x1024_S3584x1024

/-- The first `n` experts' shares of the result, added up. -/
def total : (n : ℕ) → n ≤ 16 → FVec Ideal S36864x1024 .f32
  | 0, _ => val_main_v12 (F := Ideal)
  | n + 1, h => addf (total n (Nat.le_of_lt h)) (mulf (mine x0 x1 n)
      (swiglu (val_main_v3 (F := Ideal) x2 x3 x4) (weightIn x5 n h) (weightIn x6 n h) (weightOut x7 n h)))

/-- The reference's result is all sixteen. -/
theorem result_eq : val_main_v316 (F := Ideal) x0 x1 x2 x3 x4 x5 x6 x7 = total x0 x1 x2 x3 x4 x5 x6 x7 16 le_rfl := by
  sl_kernel_rfl

theorem weightIn_apply (x : Arr S16x1024x3584 .bf16) (e : ℕ) (he : e < 16) (d : Fin 1024) (h : Fin 3584) :
    weightIn x e he (ix2 d h) = x (ix3 (⟨e, he⟩ : Fin 16) d h) := by
  pointwise [weightIn]
theorem weightOut_apply (x : Arr S16x3584x1024 .bf16) (e : ℕ) (he : e < 16) (h : Fin 3584) (k : Fin 1024) :
    weightOut x e he (ix2 h k) = x (ix3 (⟨e, he⟩ : Fin 16) h k) := by
  pointwise [weightOut]
/-- One hidden column of a row's feed-forward: the row's gate product, gated, times its up product. -/
def hidden (T G U : Fin 1024 → EReal) : EReal :=
  (∑ d, T d * G d) * Ideal.logistic (∑ d, T d * G d) * ∑ d, T d * U d

theorem swiglu_apply (t : FVec Ideal S36864x1024 .f32) (G U : FVec Ideal S1024x3584 .f32) (D : FVec Ideal S3584x1024 .f32) (r : Fin 36864) (k : Fin 1024) :
    swiglu t G U D (ix2 r k)
      = ∑ h : Fin 3584, hidden (fun d => t (ix2 r d)) (fun d => G (ix2 d h)) (fun d => U (ix2 d h)) * D (ix2 h k) := by
  pointwise [swiglu]
  rfl

/-- Tile `T` is in use: its number is below the count. -/
def Used (T : ℕ) : Prop := IntOp.cmpi .slt (BitVec.ofNat 32 T) (x1 (ix1 0)) = 1#1
instance (T : ℕ) : Decidable (Used x1 T) := inferInstanceAs (Decidable (_ = _))

theorem used_apply (r : Fin 36864) : val_main_v11 (F := Ideal) x1 (ix1 r) = IntOp.cmpi .slt (BitVec.ofNat 32 (r.val / 512)) (x1 (ix1 0)) := by
  pointwise [val_main_v11, val_main_v10, val_main_v7, val_main_v6, val_main_v5, val_main_v4]

theorem expert_apply (r : Fin 36864) : val_main_v9 (F := Ideal) x0 (ix1 r) = x0 (ix1 (⟨r.val / 512, by omega⟩ : Fin 72)) := by
  pointwise [val_main_v9, val_main_v8]

/-- A mask of two conditions, as a number. -/
theorem mask_apply (a : BitVec 1) (v w : BitVec 32) :
    FloatOps.uitofp (F := Ideal) .f32 (IntOp.andi a (IntOp.cmpi .eq v w)) = if a = 1#1 ∧ v = w then (1 : EReal) else 0 := by
  have one : FloatOps.uitofp (F := Ideal) .f32 1#1 = (1 : EReal) := by simp [FloatOps.uitofp]
  have zero : FloatOps.uitofp (F := Ideal) .f32 0#1 = (0 : EReal) := by simp [FloatOps.uitofp]
  have cases : ∀ a : BitVec 1, a = 0#1 ∨ a = 1#1 := by decide
  by_cases hv : v = w
  · have e : IntOp.cmpi .eq v w = 1#1 := by simp [IntOp.cmpi, hv]
    rw [e]
    rcases cases a with rfl | rfl
    · simpa [IntOp.andi] using zero
    · simpa [IntOp.andi, hv] using one
  · have e : IntOp.cmpi .eq v w = 0#1 := by
      show BitVec.ofBool (v == w) = 0#1
      rw [beq_eq_false_iff_ne.mpr hv]; rfl
    rw [e, if_neg fun h => hv h.2]
    rcases cases a with rfl | rfl <;> simpa [IntOp.andi] using zero

theorem mine_apply (e : ℕ) (r : Fin 36864) (k : Fin 1024) : mine x0 x1 e (ix2 r k)
    = if Used x1 (r.val / 512) ∧ x0 (ix1 (⟨r.val / 512, by omega⟩ : Fin 72)) = BitVec.ofNat 32 e then 1 else 0 := by
  pointwise [mine]
  rw [used_apply, expert_apply]
  exact mask_apply _ _ _

/-- A row of the three parts joined. -/
def row (r : Fin 36864) (d : Fin 1024) : EReal :=
  if h : r.val < 12288 then x2 (ix2 (⟨r.val, h⟩ : Fin 12288) d)
  else if h' : r.val - 12288 < 12288 then x3 (ix2 (⟨r.val - 12288, h'⟩ : Fin 12288) d) else x4 (ix2 (⟨r.val - 12288 - 12288, by omega⟩ : Fin 12288) d)

theorem row_apply (r : Fin 36864) (d : Fin 1024) : val_main_v3 (F := Ideal) x2 x3 x4 (ix2 r d) = row x2 x3 x4 r d := by
  pointwise [val_main_v3]
  rfl

/-- What expert `e` makes of row `r`, at column `k`. -/
def share (e : Fin 16) (r : Fin 36864) (k : Fin 1024) : EReal :=
  ∑ h : Fin 3584, hidden (row x2 x3 x4 r) (fun d => x5 (ix3 e d h)) (fun d => x6 (ix3 e d h)) * x7 (ix3 e h k)

theorem share_eq (n : ℕ) (h : n < 16) (r : Fin 36864) (k : Fin 1024) :
    swiglu (val_main_v3 (F := Ideal) x2 x3 x4) (weightIn x5 n h) (weightIn x6 n h) (weightOut x7 n h) (ix2 r k) = share x2 x3 x4 x5 x6 x7 ⟨n, h⟩ r k := by
  rw [swiglu_apply]
  simp only [row_apply, weightIn_apply, weightOut_apply]
  rfl

theorem total_succ (n : ℕ) (h : n + 1 ≤ 16) (r : Fin 36864) (k : Fin 1024) : total x0 x1 x2 x3 x4 x5 x6 x7 (n + 1) h (ix2 r k)
    = total x0 x1 x2 x3 x4 x5 x6 x7 n (Nat.le_of_lt h) (ix2 r k) + mine x0 x1 n (ix2 r k) * share x2 x3 x4 x5 x6 x7 ⟨n, h⟩ r k := by
  rw [← share_eq]
  pointwise [total]

/-- After `n` experts a used tile's row holds its own expert's share if that expert was among them. -/
theorem total_apply (r : Fin 36864) (k : Fin 1024) (e : Fin 16) (he : x0 (ix1 (⟨r.val / 512, by omega⟩ : Fin 72)) = BitVec.ofNat 32 e.val) :
    ∀ (n : ℕ) (h : n ≤ 16), total x0 x1 x2 x3 x4 x5 x6 x7 n h (ix2 r k)
      = if Used x1 (r.val / 512) ∧ e.val < n then share x2 x3 x4 x5 x6 x7 e r k else 0
  | 0, _ => by
    rw [if_neg (by omega)]
    pointwise [total, val_main_v12, val_main_cst]
  | n + 1, h => by
    rw [total_succ, total_apply r k e he n, mine_apply, he]
    by_cases hu : Used x1 (r.val / 512)
    · by_cases hn : e.val = n
      · obtain rfl : e = ⟨n, h⟩ := Fin.ext hn
        simp [hu]
      · have ne : ¬ BitVec.ofNat 32 e.val = BitVec.ofNat 32 n := fun h' => hn (by
          have := congrArg BitVec.toNat h'
          have := e.isLt
          simp only [BitVec.toNat_ofNat] at *
          omega)
        have iff : e.val < n + 1 ↔ e.val < n := by omega
        simp [hu, ne, iff]
    · simp [hu]

/-- The reference at a row and a column. -/
theorem result_apply (r : Fin 36864) (k : Fin 1024) (e : Fin 16) (he : x0 (ix1 (⟨r.val / 512, by omega⟩ : Fin 72)) = BitVec.ofNat 32 e.val) :
    val_main_v316 (F := Ideal) x0 x1 x2 x3 x4 x5 x6 x7 (ix2 r k) = if Used x1 (r.val / 512) then share x2 x3 x4 x5 x6 x7 e r k else 0 := by
  rw [result_eq, total_apply x0 x1 x2 x3 x4 x5 x6 x7 r k e he]
  simp only [e.isLt, and_true]

end Cert.MoeReferenceIdeal.Sparse
end
-- ==== Proof.ExpertsIdeal.Value.lean ====
/- What the experts call leaves in its result: the blocks it reads, at coordinates, and each tile's output. -/
module
public import proofs.«01_k».proof.Proof.ExpertsIdeal.Bounds
public import proofs.«01_k».proof.Proof.ExpertsReference
public import Idealize.ShloMosaic.Lib.Pipeline.ValueKit
public import Idealize.ShloMosaic.Lib.Pointwise
public import Idealize.ShloMosaic.Lib.ValueIdx

@[expose] public section
set_option maxRecDepth 16384
noncomputable section
namespace Cert.MoeIdeal.Tiles
open Cert.MoeIdeal Cert.MoeIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (hO : Ok (F := Ideal) m) (c : Dev nD)

open Cert.MoeReferenceIdeal.Sparse (hidden)

theorem pay3_apply (T : FVec Ideal S512x1024 .bf16) (G U : FVec Ideal S1x1024x1792 .bf16) (A : FVec Ideal S512x1024 .f32) (D : FVec Ideal S1x1792x1024 .bf16)
    (r : Fin 512) (k : Fin 1024) : k0_pay3 (F := Ideal) T G U A D (ix2 r k)
      = A (ix2 r k) + ∑ h : Fin 1792, hidden (fun d => T (ix2 r d)) (fun d => G (ix3 0 d h)) (fun d => U (ix3 0 d h)) * D (ix3 0 h k) := by
  pointwise [k0_pay3]
  rfl

theorem pay1_apply (T : FVec Ideal S512x1024 .f32) (r : Fin 512) (k : Fin 1024) : k0_pay1 (F := Ideal) T (ix2 r k) = T (ix2 r k) := by
  pointwise [k0_pay1]
theorem pay2_apply (r : Fin 512) (k : Fin 1024) : k0_pay2 (F := Ideal) (ix2 r k) = 0 := by
  pointwise [k0_pay2]
theorem pay4_apply (r : Fin 512) (k : Fin 1024) : k0_pay4 (F := Ideal) (ix2 r k) = 0 := by
  pointwise [k0_pay4]

/-! ## The blocks, at coordinates -/

/-- The expert's number the index maps read for a tile. -/
theorem expert_at (i : grid0.Coords) (T : Fin 72) (hT : (i 0).val = T.val) :
    (tbl m).at 0 (Rect.unit (s := S72) ![(Scalar.indexCast (BitVec.ofNat 32 (i 0).val)).toNat] S1.size (k0_off1_inb i)) numel1_S1 = tbl m 0 (ix1 T) := by
  refine congrArg (tbl m 0) (funext fun a => ?_)
  match a with
  | ⟨0, _⟩ =>
    refine Fin.ext ?_
    show (BitVec.ofNat 32 (i 0).val).toNat + 1 * 0 = T.val
    rw [BitVec.toNat_ofNat]
    have := T.isLt
    omega

theorem index0 (t : Fin (cfgM m hO).N) : ((cfgM m hO).win 0).index t = ![(rowBlock (word 0 (tbl m 1)) (BitVec.ofNat 32 (t.val / 2)) 0#32).toNat, 0] := by
  rw [← coord0 t]; rfl
theorem index1 (t : Fin (cfgM m hO).N) : ((cfgM m hO).win 1).index t = ![(rowBlock (word 0 (tbl m 1)) (BitVec.ofNat 32 (t.val / 2)) 24#32).toNat, 0] := by
  rw [← coord0 t]; rfl
theorem index2 (t : Fin (cfgM m hO).N) : ((cfgM m hO).win 2).index t = ![(rowBlock (word 0 (tbl m 1)) (BitVec.ofNat 32 (t.val / 2)) 48#32).toNat, 0] := by
  rw [← coord0 t]; rfl

variable {m} in
/-- At a used tile the half of the hidden columns is the point's own. -/
theorem colBlock_eq (t : Fin grid0.N) (ha : Active m t) :
    (colBlock (word 0 (tbl m 1)) (BitVec.ofNat 32 (t.val / 2)) (BitVec.ofNat 32 (t.val % 2))).toNat = t.val % 2 := by
  refine (congrArg BitVec.toNat (if_pos ha)).trans ?_
  rw [BitVec.toNat_ofNat]
  omega

/-- A used tile's block of the first weights: its expert's, and the point's half of the hidden columns. -/
theorem index3 (t : Fin (cfgM m hO).N) (ha : Active m t) (T : Fin 72) (hT : t.val / 2 = T.val) (e : Fin 16) (he : tbl m 0 (ix1 T) = BitVec.ofNat 32 e.val) :
    ((cfgM m hO).win 3).index t = ![e.val, 0, t.val % 2] := by
  have h1 := expert_at m (grid0.coords t) T ((coord0 t).trans hT)
  have h2 := colBlock_eq t ha
  have h3 : (BitVec.ofNat 32 e.val).toNat = e.val := by rw [BitVec.toNat_ofNat]; have := e.isLt; omega
  rw [he] at h1
  rw [← coord0 t, ← coord1 t] at h2
  rw [← coord1 t]
  exact (congrArg₂ (fun a b : ℕ => (![a, 0, b] : Fin 3 → ℕ)) ((congrArg BitVec.toNat h1).trans h3) h2)
theorem index4 (t : Fin (cfgM m hO).N) (ha : Active m t) (T : Fin 72) (hT : t.val / 2 = T.val) (e : Fin 16) (he : tbl m 0 (ix1 T) = BitVec.ofNat 32 e.val) :
    ((cfgM m hO).win 4).index t = ![e.val, 0, t.val % 2] := index3 m hO t ha T hT e he
theorem index5 (t : Fin (cfgM m hO).N) (ha : Active m t) (T : Fin 72) (hT : t.val / 2 = T.val) (e : Fin 16) (he : tbl m 0 (ix1 T) = BitVec.ofNat 32 e.val) :
    ((cfgM m hO).win 5).index t = ![e.val, t.val % 2, 0] := by
  have h1 := expert_at m (grid0.coords t) T ((coord0 t).trans hT)
  have h2 := colBlock_eq t ha
  have h3 : (BitVec.ofNat 32 e.val).toNat = e.val := by rw [BitVec.toNat_ofNat]; have := e.isLt; omega
  rw [he] at h1
  rw [← coord0 t, ← coord1 t] at h2
  rw [← coord1 t]
  exact (congrArg₂ (fun a b : ℕ => (![a, b, 0] : Fin 3 → ℕ)) ((congrArg BitVec.toNat h1).trans h3) h2)

/-- A block of rows read at a row and a column. -/
theorem block0 (t : Fin (cfgM m hO).N) (r : Fin 512) (d : Fin 1024) (R : Fin 12288)
    (hR : R.val = (rowBlock (word 0 (tbl m 1)) (BitVec.ofNat 32 (t.val / 2)) 0#32).toNat * 512 + r.val) :
    iblk m hO c 0 t (ix2 r d) = m ((c : Thread nD τ).loc main_arg2) (ix2 R d) := by
  refine congrArg (m ((c : Thread nD τ).loc main_arg2)) ?_
  blk_ext [index0 m hO t]
theorem block1 (t : Fin (cfgM m hO).N) (r : Fin 512) (d : Fin 1024) (R : Fin 12288)
    (hR : R.val = (rowBlock (word 0 (tbl m 1)) (BitVec.ofNat 32 (t.val / 2)) 24#32).toNat * 512 + r.val) :
    iblk m hO c 1 t (ix2 r d) = m ((c : Thread nD τ).loc main_arg3) (ix2 R d) := by
  refine congrArg (m ((c : Thread nD τ).loc main_arg3)) ?_
  blk_ext [index1 m hO t]
theorem block2 (t : Fin (cfgM m hO).N) (r : Fin 512) (d : Fin 1024) (R : Fin 12288)
    (hR : R.val = (rowBlock (word 0 (tbl m 1)) (BitVec.ofNat 32 (t.val / 2)) 48#32).toNat * 512 + r.val) :
    iblk m hO c 2 t (ix2 r d) = m ((c : Thread nD τ).loc main_arg4) (ix2 R d) := by
  refine congrArg (m ((c : Thread nD τ).loc main_arg4)) ?_
  blk_ext [index2 m hO t]

/-- A used tile's block of weights read at coordinates. -/
theorem block3 (t : Fin (cfgM m hO).N) (ha : Active m t) (T : Fin 72) (hT : t.val / 2 = T.val) (e : Fin 16) (he : tbl m 0 (ix1 T) = BitVec.ofNat 32 e.val)
    (d : Fin 1024) (h : Fin 1792) (H : Fin 3584) (hH : H.val = t.val % 2 * 1792 + h.val) :
    iblk m hO c 3 t (ix3 0 d h) = m ((c : Thread nD τ).loc main_arg5) (ix3 e d H) := by
  refine congrArg (m ((c : Thread nD τ).loc main_arg5)) ?_
  blk_ext [index3 m hO t ha T hT e he]
theorem block4 (t : Fin (cfgM m hO).N) (ha : Active m t) (T : Fin 72) (hT : t.val / 2 = T.val) (e : Fin 16) (he : tbl m 0 (ix1 T) = BitVec.ofNat 32 e.val)
    (d : Fin 1024) (h : Fin 1792) (H : Fin 3584) (hH : H.val = t.val % 2 * 1792 + h.val) :
    iblk m hO c 4 t (ix3 0 d h) = m ((c : Thread nD τ).loc main_arg6) (ix3 e d H) := by
  refine congrArg (m ((c : Thread nD τ).loc main_arg6)) ?_
  blk_ext [index4 m hO t ha T hT e he]
theorem block5 (t : Fin (cfgM m hO).N) (ha : Active m t) (T : Fin 72) (hT : t.val / 2 = T.val) (e : Fin 16) (he : tbl m 0 (ix1 T) = BitVec.ofNat 32 e.val)
    (h : Fin 1792) (k : Fin 1024) (H : Fin 3584) (hH : H.val = t.val % 2 * 1792 + h.val) :
    iblk m hO c 5 t (ix3 0 h k) = m ((c : Thread nD τ).loc main_arg7) (ix3 e H k) := by
  refine congrArg (m ((c : Thread nD τ).loc main_arg7)) ?_
  blk_ext [index5 m hO t ha T hT e he]

/-! ## A tile's output -/

open Cert.MoeReferenceIdeal.Sparse (row share Used)

/-- The rows of the three parts joined. -/
abbrev rowOf (R : Fin 36864) (d : Fin 1024) : EReal :=
  row (m ((c : Thread nD τ).loc main_arg2)) (m ((c : Thread nD τ).loc main_arg3)) (m ((c : Thread nD τ).loc main_arg4)) R d

/-- A used tile is given its own rows. -/
theorem rows_apply (t : Fin (cfgM m hO).N) (ha : Active m t) (r : Fin 512) (d : Fin 1024) (R : Fin 36864) (hR : R.val = t.val / 2 * 512 + r.val) :
    rows m hO c t (ix2 r d) = rowOf m c R d := by
  have ht : t.val < 144 := Nat.lt_of_lt_of_eq t.isLt N_0
  have hr := r.isLt
  by_cases h0 : t.val < 48
  · have e : rows m hO c t = iblk m hO c 0 t := if_pos h0
    refine (congrFun e (ix2 r d)).trans ?_
    unfold rowOf row
    rw [dif_pos (by omega)]
    exact block0 m hO c t r d _ (by rw [rowBlock_eq _ (t.val / 2) 0 (by omega) (by omega) (by omega) ha, hR]; omega)
  · by_cases h1 : t.val < 96
    · have e : rows m hO c t = iblk m hO c 1 t := (if_neg h0).trans (if_pos h1)
      refine (congrFun e (ix2 r d)).trans ?_
      unfold rowOf row
      rw [dif_neg (by omega), dif_pos (by omega)]
      exact block1 m hO c t r d _ (by rw [rowBlock_eq _ (t.val / 2) 24 (by omega) (by omega) (by omega) ha]; show R.val - 12288 = _; omega)
    · have e : rows m hO c t = iblk m hO c 2 t := (if_neg h0).trans (if_neg h1)
      refine (congrFun e (ix2 r d)).trans ?_
      unfold rowOf row
      rw [dif_neg (by omega), dif_neg (by omega)]
      exact block2 m hO c t r d _ (by rw [rowBlock_eq _ (t.val / 2) 48 (by omega) (by omega) (by omega) ha]; show R.val - 12288 - 12288 = _; omega)

/-- One hidden column's part of a row's result. -/
def part (e : Fin 16) (R : Fin 36864) (k : Fin 1024) (H : Fin 3584) : EReal :=
  hidden (rowOf m c R) (fun d => m ((c : Thread nD τ).loc main_arg5) (ix3 e d H)) (fun d => m ((c : Thread nD τ).loc main_arg6) (ix3 e d H))
    * m ((c : Thread nD τ).loc main_arg7) (ix3 e H k)

/-- What a used tile's point adds to the accumulator: the sum over the point's half of the hidden columns. -/
theorem half_apply (t s : Fin (cfgM m hO).N) (ha : Active m t) (hs : Active m s) (hst : s.val / 2 = t.val / 2) (T : Fin 72) (hT : t.val / 2 = T.val) (e : Fin 16) (he : tbl m 0 (ix1 T) = BitVec.ofNat 32 e.val)
    (A : FVec Ideal S512x1024 .f32) (r : Fin 512) (k : Fin 1024) (R : Fin 36864) (hR : R.val = t.val / 2 * 512 + r.val) :
    k0_pay3 (F := Ideal) (k0_pay1 (rows m hO c s)) (iblk m hO c 3 t) (iblk m hO c 4 t) A (iblk m hO c 5 t) (ix2 r k)
      = A (ix2 r k) + ∑ h : Fin 1792, part m c e R k (⟨t.val % 2 * 1792 + h.val, by omega⟩ : Fin 3584) := by
  refine (pay3_apply _ _ _ _ _ r k).trans ?_
  refine congrArg (fun z => A (ix2 r k) + z) (Finset.sum_congr rfl fun h _ => ?_)
  unfold part
  refine congrArg₂ (fun a b : EReal => a * b) ?_ (block5 m hO c t ha T hT e he h k _ rfl)
  have e1 : (fun d => k0_pay1 (F := Ideal) (rows m hO c s) (ix2 r d)) = rowOf m c R :=
    funext fun d => (pay1_apply _ r d).trans (rows_apply m hO c s hs r d R (by rw [hst]; exact hR))
  rw [e1]
  exact congrArg₂ (hidden (rowOf m c R)) (funext fun d => block3 m hO c t ha T hT e he d h _ rfl) (funext fun d => block4 m hO c t ha T hT e he d h _ rfl)

/-- A tile's output at a row and a column. -/
theorem outAt_apply (t : Fin (cfgM m hO).N) (ht : t.val % 2 = 1) (T : Fin 72) (hT : t.val / 2 = T.val) (e : Fin 16) (he : tbl m 0 (ix1 T) = BitVec.ofNat 32 e.val)
    (r : Fin 512) (k : Fin 1024) (R : Fin 36864) (hR : R.val = t.val / 2 * 512 + r.val) :
    outAt m hO c t (ix2 r k) = if Active m t then ∑ H : Fin 3584, part m c e R k H else 0 := by
  by_cases ha : Active m t
  · have hp := (active_prev m t ht).mpr ha
    have e1 : (prev t).val / 2 = t.val / 2 := by show (t.val - 1) / 2 = _; omega
    have e2 : (prev t).val % 2 = 0 := by show (t.val - 1) % 2 = _; omega
    have e3 : outAt m hO c t = k0_pay3 (k0_pay1 (rows m hO c (prev t))) (iblk m hO c 3 t) (iblk m hO c 4 t) (acc m hO c (prev t)) (iblk m hO c 5 t) := if_pos ha
    have e4 : acc m hO c (prev t) (ix2 r k) = 0 + ∑ h : Fin 1792, part m c e R k (⟨(prev t).val % 2 * 1792 + h.val, by omega⟩ : Fin 3584) :=
      (half_apply m hO c (prev t) (prev t) hp hp rfl T (e1.trans hT) e he _ r k R (by rw [e1]; exact hR)).trans (by rw [pay2_apply])
    refine (congrFun e3 (ix2 r k)).trans ((half_apply m hO c t (prev t) ha hp e1 T hT e he _ r k R hR).trans ?_)
    rw [e4, zero_add, if_pos ha, Fin.sum_univ_tiles 2 1792 rfl (part m c e R k), Fin.sum_univ_two]
    simp only [ht, e2]
    rfl
  · have e3 : outAt m hO c t = k0_pay4 (F := Ideal) := if_neg ha
    rw [if_neg ha]
    exact (congrFun e3 (ix2 r k)).trans (pay4_apply r k)

/-! ## The whole result -/

/-- The experts' numbers are in range. -/
def InRange : Prop := ∀ j : S72.Idx, (tbl m 0 j : BitVec 32).toNat < 16

/-- Row `R`'s expert. -/
def expert (hR : InRange m) (R : Fin 36864) : Fin 16 := ⟨(tbl m 0 (ix1 (⟨R.val / 512, by omega⟩ : Fin 72)) : BitVec 32).toNat, hR _⟩

theorem expert_eq (hR : InRange m) (R : Fin 36864) : tbl m 0 (ix1 (⟨R.val / 512, by omega⟩ : Fin 72)) = BitVec.ofNat 32 (expert m hR R).val :=
  (BitVec.ofNat_toNat (n := 32) (m := 32) (x := tbl m 0 (ix1 (⟨R.val / 512, by omega⟩ : Fin 72)))).symm ▸ (BitVec.setWidth_eq _).symm

/-- What the call leaves: a used tile's rows hold their expert's share, the other rows zero. -/
def result (hR : InRange m) (R : Fin 36864) (k : Fin 1024) : EReal :=
  if Used (m ((c : Thread nD τ).loc main_arg1)) (R.val / 512)
    then share (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (expert m hR R) R k
    else 0

theorem active_iff (t : Fin grid0.N) : Active m t ↔ Used (m ((c : Thread nD τ).loc main_arg1)) (t.val / 2) := by
  obtain rfl : c = 0 := Subsingleton.elim _ _
  have e : word 0 (tbl m 1) = m (((0 : Dev nD) : Thread nD τ).loc main_arg1) (ix1 0) := congrArg (tbl m 1) (idx1_eq _ _)
  unfold Active Used
  rw [e]
  rfl

theorem outAt_result (hR : InRange m) (t : Fin (cfgM m hO).N) (ht : t.val % 2 = 1) (r : Fin 512) (k : Fin 1024) (R : Fin 36864) (hr : R.val = t.val / 2 * 512 + r.val) :
    outAt m hO c t (ix2 r k) = result m c hR R k := by
  have ht' : t.val < 144 := Nat.lt_of_lt_of_eq t.isLt N_0
  have hr' := r.isLt
  have hT : R.val / 512 = t.val / 2 := by omega
  refine (outAt_apply m hO c t ht (⟨R.val / 512, by omega⟩ : Fin 72) hT.symm (expert m hR R) (expert_eq m hR R) r k R hr).trans ?_
  unfold result
  rw [hT]
  by_cases ha : Active m t
  · rw [if_pos ha, if_pos ((active_iff m c t).mp ha)]; rfl
  · rw [if_neg ha, if_neg (mt (active_iff m c t).mpr ha)]

theorem index6 (t : Fin (cfgM m hO).N) : ((cfgM m hO).win 6).index t = ![t.val / 2, 0] := by
  have h : (BitVec.ofNat 32 (grid0.coords t 0).val).toNat = t.val / 2 := by
    rw [coord0, BitVec.toNat_ofNat]
    have ht : t.val < 144 := Nat.lt_of_lt_of_eq t.isLt N_0
    omega
  exact congrArg (fun a : ℕ => (![a, 0] : Fin 2 → ℕ)) h

theorem covers : ((cfgM m hO).win 6).Covers := by
  refine ⟨fun a => ?_, fun β => ?_⟩
  · match a with
    | ⟨0, _⟩ => exact (by decide : 0 < 512)
    | ⟨1, _⟩ => exact (by decide : 0 < 1024)
  · have h0 : (β (0 : Fin 2)).val < 72 := Nat.lt_of_lt_of_eq (β (0 : Fin 2)).isLt (show (36864 + 512 - 1) / 512 = 72 from by decide)
    have h1 : (β (1 : Fin 2)).val < 1 := Nat.lt_of_lt_of_eq (β (1 : Fin 2)).isLt (show (1024 + 1024 - 1) / 1024 = 1 from by decide)
    have hN : 2 * (β (0 : Fin 2)).val + 1 < (cfgM m hO).N := Nat.lt_of_lt_of_eq (by omega : _ < 144) N_0.symm
    refine ⟨⟨2 * (β (0 : Fin 2)).val + 1, hN⟩, (flush0_6 (adm m hO) _).mpr (by show (2 * _ + 1) % 2 = 1; omega), fun a => ?_⟩
    rw [index6]
    match a with
    | ⟨0, _⟩ => exact ⟨by show (2 * (β (0 : Fin 2)).val + 1) / 2 = (β (0 : Fin 2)).val; omega, .inl rfl⟩
    | ⟨1, _⟩ => exact ⟨by show 0 = (β (1 : Fin 2)).val; omega, .inl rfl⟩

theorem final (hR : InRange m) : (dats m hO 0 c).arrAt 6 (cfgM m hO).N = (fun i : S36864x1024.Idx => result m c hR (i 0) (i 1)) := by
  refine (dats m hO 0 c).arrAt_eq_of_covers 6 _ (covers m hO) fun t hf y => ?_
  blk_simp
  rw [after0_6]
  revert y
  show ∀ y : S512x1024.Idx, outAt m hO c t y = _
  intro y
  idx_vars y
  have ht : t.val < 144 := Nat.lt_of_lt_of_eq t.isLt N_0
  have h0 := y0.isLt
  refine (outAt_result m hO c hR t ((flush0_6 (adm m hO) t).mp hf) y0 y1 (⟨t.val / 2 * 512 + y0.val, by omega⟩ : Fin 36864) rfl).trans ?_
  refine congrArg₂ (result m c hR) (Fin.ext ?_) (Fin.ext ?_)
  · blk_simp [index6 m hO t]
  · blk_simp [index6 m hO t]

end Cert.MoeIdeal.Tiles
end
-- ==== Proof.ExpertsIdeal.Domain.lean ====
/- The precondition of the experts' call read back: every tile's expert is one of the sixteen, so every block the
   call fetches lies inside its array. With it, the whole run: the result array, the arguments kept. -/
module

public import proofs.«01_k».proof.Pre_experts_in_range
public import proofs.«01_k».proof.Proof.ExpertsIdeal.Value
public import proofs.«01_k».proof.Proof.ExpertsIdeal.Bounds
public import proofs.«01_k».proof.Proof.Gen.Moe

@[expose] public section

noncomputable section

namespace Cert.MoeIdeal.Tiles

open Idealize.ShloMosaic Idealize.SL.Sem Cert.MoeIdeal Cert.MoeIdeal.Gen
open scoped Idealize.ShloMosaic.TcCoe

/-- A word between zero and sixteen, as a signed number, is a natural number below sixteen. -/
theorem word_lt (w : BitVec 32) (h : IntOp.andi (IntOp.cmpi .sge w 0#32) (IntOp.cmpi .slt w 16#32) = 1#1) : w.toNat < 16 := by
  simp only [IntOp.cmpi, IntOp.andi] at h
  by_cases h0 : (0#32).sle w = true
  · by_cases h1 : w.slt 16#32 = true
    · rw [BitVec.sle, decide_eq_true_eq] at h0
      rw [BitVec.slt, decide_eq_true_eq] at h1
      have e0 : (0#32).toInt = 0 := by decide
      have e1 : (16#32).toInt = 16 := by decide
      rw [e0] at h0
      rw [e1] at h1
      have := w.isLt
      rw [BitVec.toInt_eq_toNat_cond] at h0 h1
      split at h0 <;> omega
    · simp [h1] at h
  · simp [h0] at h

variable {F : FTy → Type} [FloatOps F]

/-- The precondition gives every tile a number below sixteen. -/
theorem number_lt [Cert.Pre_experts_in_range.Facts] (x0 : IVec S72 32) (x1 : IVec S1 32) (x2 x3 x4 : FVec F S12288x1024 .f32) (x5 x6 : FVec F S16x1024x3584 .bf16)
    (x7 : FVec F S16x3584x1024 .bf16) (h : Cert.Pre_experts_in_range.fn x0 x1 x2 x3 x4 x5 x6 x7 = fun _ => 1#1) (j : S72.Idx) : (x0 j).toNat < 16 :=
  word_lt (x0 j) (congrFun h j)

variable (m : (ℓ : Loc nD τ sig) → Buf (Elt F) ℓ) (ρ : Dev nD → PrngReg)

/-- The precondition, of the memory the call starts from. -/
def Domain [Cert.Pre_experts_in_range.Facts] : Prop := ∀ c : Dev nD,
  Cert.Pre_experts_in_range.fn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) = fun _ => 1#1

variable {m}

theorem tbl_lt [Cert.Pre_experts_in_range.Facts] (h : Domain m) (j : S72.Idx) : (tbl m 0 j : BitVec 32).toNat < 16 :=
  number_lt _ _ _ _ _ _ _ _ (h 0) j

theorem ok_domain [Cert.Pre_experts_in_range.Facts] (h : Domain m) : Ok m := ok_of _ (tbl_lt h)

/-- The two programs of the call are one program. -/
theorem run_eq (m : (ℓ : Loc Cert.Moe.nD Cert.Moe.τ Cert.Moe.sig) → Buf (Elt F) ℓ) (ρ : Dev Cert.Moe.nD → PrngReg) :
    θ_run (Cert.Moe.defs (F := F)) (onTc (τ := Cert.Moe.τ) (Cert.Moe.main (F := F))) ⟨m, fun _ => 0, ρ⟩
      = θ_run (Cert.MoeIdeal.defs (F := F)) (onTc (τ := Cert.MoeIdeal.τ) (Cert.MoeIdeal.main (F := F))) ⟨m, fun _ => 0, ρ⟩ := by sl_kernel_rfl

/-- The run, its result array named. -/
theorem run_value (m : (ℓ : Loc nD τ sig) → Buf (Elt Ideal) ℓ) (ρ : Dev nD → PrngReg) (hO : Ok m) (hR : InRange m) :
    θ_run defs (onTc (τ := τ) (main (F := Ideal))) ⟨m, fun _ => 0, ρ⟩ (fun r => ∀ c : Dev nD,
      r.2.mem ((c.tc : Thread nD τ).loc main_v0) = (fun i : S36864x1024.Idx => result m c hR (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  θ_run_mono (θ_run_and (run_main m ρ hO) (frame m ρ hO)) fun r h c => ⟨((h.1.1 c).1 6).trans (final m hO c hR), h.2.1 c⟩

end Cert.MoeIdeal.Tiles

end
-- ==== Proof.Heads.lean ====
/- One head of the attention call as the kernel computes it, in named stages over the three blocks a grid point
   reads, and the block that a grid point leaves: the eight heads' rows one under another. -/
module
public import proofs.«01_k».proof.Proof.Gen.KernelIdeal.Value
public import Idealize.ShloMosaic.Lib.Pipeline.ValueKit
public import Idealize.ShloMosaic.Lib.Pipeline.ReadBack
public import Idealize.ShloMosaic.Lib.Pipeline.FrameBody

@[expose] public section
set_option pp.maxSteps 300
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The 128 rows of the query block that hold head `h` (two heads share them). -/
def queryRows (x0 : Vec Ideal S512x512 .bf16) (h : ℕ) : Vec Ideal S128x512 .bf16 :=
  fun x => x0 ((Rect.unit (s := S512x512) ![h / 2 % 4 * 128, 0] ![128, 512] (by
    intro a; fin_cases a <;> simp <;> omega)).idx x)

/-- The keys of head `h` in chunk `c`. -/
def keyRows (x1 : Vec Ideal S1x2x4352x128 .bf16) (h c : ℕ) : Vec Ideal S1x1x256x128 .bf16 :=
  fun x => x1 ((Rect.unit (s := S1x2x4352x128) ![0, h / 4 % 2, c % 17 * 256, 0] ![1, 1, 256, 128] (by
    intro a; fin_cases a <;> simp <;> omega)).idx x)

/-- The values of head `h` in chunk `c`, a column a key. -/
def valueCols (x2 : Vec Ideal S1x2x128x4352 .bf16) (h c : ℕ) : Vec Ideal S1x1x128x256 .bf16 :=
  fun x => x2 ((Rect.unit (s := S1x2x128x4352) ![0, h / 4 % 2, 0, c % 17 * 256] ![1, 1, 128, 256] (by
    intro a; fin_cases a <;> simp <;> omega)).idx x)

/-- The rows of an even head. -/
def lowRows : IVec S128x512 1 := cmpi .slt (iota .tc S128x512 32 [0] iota_S128x512_d0_w32) (broadcast S128x512 64#32)

/-- The rows of head `h` among the two heads of its 128. -/
def ownRows (h : ℕ) : IVec S128x512 1 := if h % 2 = 0 then lowRows else xori lowRows (constantI S128x512 1 1#1)

/-- The queries of head `h`, the other head's rows zero. -/
def queries (x0 : Vec Ideal S512x512 .bf16) (h : ℕ) : FVec Ideal S128x512 .bf16 :=
  select (ownRows h) (shapeCast S128x512 (queryRows x0 h) shapeCasts_S128x512_S128x512)
    (broadcast S128x512 (Scalar.ofBits .bf16 0x0000#16))

/-- The scores of chunk `c`'s keys against the queries, over any queries `q`. -/
def scores (q : FVec Ideal S128x512 .bf16) (x1 : Vec Ideal S1x2x4352x128 .bf16) (h c : ℕ) : FVec Ideal S256x512 .f32 :=
  matmul dot_S256x128_S128x512_S256x512_1_0_0_1_n_n none
    (shapeCast S256x128 (keyRows x1 h c) shapeCasts_S1x1x256x128_S256x128 : FVec Ideal S256x128 .bf16) q (constant S256x512 .f32 0x00000000#32)

/-- A chunk's greatest scores, eight partial maxima a query. -/
def chunkMax (s : FVec Ideal S256x512 .f32) : FVec Ideal S8x512 .f32 :=
  multiReduction .maximumf [0] S8x512 (shapeCast S32x8x512 s shapeCasts_S256x512_S32x8x512) 0xFF800000#32
    reduces_S32x8x512_S8x512 (.inl rfl) rfl

/-- The partial maxima over the chunks up to `n`. -/
def runMax (q : FVec Ideal S128x512 .bf16) (x1 : Vec Ideal S1x2x4352x128 .bf16) (h : ℕ) : ℕ → FVec Ideal S8x512 .f32
  | 0 => chunkMax (scores q x1 h 0)
  | n + 1 => maximumf (runMax q x1 h n) (chunkMax (scores q x1 h (n + 1)))

/-- A query's greatest score, from its eight partial maxima. -/
def colMax (r : FVec Ideal S8x512 .f32) : FVec Ideal S1x512 .f32 :=
  shapeCast S1x512 (multiReduction .maximumf [0] S512 r 0xFF800000#32 reduces_S8x512_S512 (.inl rfl) rfl)
    shapeCasts_S512_S1x512

/-- The weights of a chunk's keys: two to the score less the greatest. -/
def weights (s : FVec Ideal S256x512 .f32) (M : FVec Ideal S1x512 .f32) : FVec Ideal S256x512 .bf16 :=
  truncf .bf16 (exp2 (subf (shapeCast S256x512 s shapeCasts_S256x512_S256x512)
    (broadcastTo S256x512 M broadcasts_S1x512_S256x512))) bitsLt_bf16_f32

/-- A chunk's weighted sum of its values. -/
def part (q : FVec Ideal S128x512 .bf16) (x1 : Vec Ideal S1x2x4352x128 .bf16) (x2 : Vec Ideal S1x2x128x4352 .bf16)
    (M : FVec Ideal S1x512 .f32) (h c : ℕ) : FVec Ideal S128x512 .f32 :=
  matmul dot_S128x256_S256x512_S128x512_1_0_0_1_n_n none
    (shapeCast S128x256 (valueCols x2 h c) shapeCasts_S1x1x128x256_S128x256 : FVec Ideal S128x256 .bf16) (weights (scores q x1 h c) M)
    (constant S128x512 .f32 0x00000000#32)

/-- The weighted sum over the chunks up to `n`. -/
def partSum (q : FVec Ideal S128x512 .bf16) (x1 : Vec Ideal S1x2x4352x128 .bf16) (x2 : Vec Ideal S1x2x128x4352 .bf16)
    (M : FVec Ideal S1x512 .f32) (h : ℕ) : ℕ → FVec Ideal S128x512 .f32
  | 0 => part q x1 x2 M h 0
  | n + 1 => addf (partSum q x1 x2 M h n) (part q x1 x2 M h (n + 1))

/-- The rows of values over the row of the weights' sum. -/
def quotient (a : FVec Ideal S128x512 .f32) : FVec Ideal S64x512 .bf16 :=
  truncf .bf16 (divf (extractStridedSlice S64x512 ![0, 0] a slices_S128x512_o0_0_S64x512)
    (broadcastTo S64x512 (extractStridedSlice S1x512 ![64, 0] a slices_S128x512_o64_0_S1x512)
      broadcasts_S1x512_S64x512)) bitsLt_bf16_f32

/-- Head `h` of a grid point, from the point's blocks. -/
def head (x0 : Vec Ideal S512x512 .bf16) (x1 : Vec Ideal S1x2x4352x128 .bf16) (x2 : Vec Ideal S1x2x128x4352 .bf16)
    (h : ℕ) : FVec Ideal S64x512 .bf16 :=
  quotient (partSum (queries x0 h) x1 x2 (colMax (runMax (queries x0 h) x1 h 16)) h 16)

/-- The head and the row of a head that an index of the block belongs to. -/
theorem piece_at {y : S512x512.Idx} {h k : ℕ} {j x : S64x512.Idx} (h0 : (y 0 : ℕ) = h * 64 + j 0) (h1 : (y 1 : ℕ) = j 1)
    (k0 : (y 0 : ℕ) = k * 64 + x 0) (k1 : (y 1 : ℕ) = x 1) : h = k ∧ x = j := by
  have a : (j 0 : ℕ) < 64 := (j 0).isLt
  have b : (x 0 : ℕ) < 64 := (x 0).isLt
  refine ⟨by omega, ?_⟩
  funext e
  match e with
  | ⟨0, _⟩ => exact Fin.ext (show (x 0 : ℕ) = j 0 by omega)
  | ⟨1, _⟩ => exact Fin.ext (show (x 1 : ℕ) = j 1 by omega)

variable (m : (ℓ : Loc nD τ sig) → Buf (Elt Ideal) ℓ)

/-- What a grid point leaves in the result's block, at an index. -/
theorem outsAt0_apply (c : Dev nD) (t : Fin cfg0.N) (y : S512x512.Idx) (h : ℕ) (j : S64x512.Idx) (h0 : (y 0 : ℕ) = h * 64 + j 0)
    (h1 : (y 1 : ℕ) = j 1) : outsAt0 m c t y = head (iblk m c 0 t) (iblk m c 1 t) (iblk m c 2 t) h j := by
  unfold outsAt0
  frame_open
  simp (disch := decide) only [↓ View.readCov_skip, ↓ View.readCov_cons_toLoadRect, ↓ View.readCov_fill, View.read_writes_junk_eq_canon, View.readAt_eq_ld,
        Memref.IsWhole.read_unread]
  canon_tiles x hx
  case piece0 =>
    obtain ⟨rfl, rfl⟩ := piece_at (k := 7) (x := x) h0 h1 (by omega) (by omega)
    refine @congrFun S64x512.Idx (fun _ => EReal) _ (head (iblk m c 0 t) (iblk m c 1 t) (iblk m c 2 t) 7) ?_ x
    sl_kernel_rfl
  case piece1 =>
    obtain ⟨rfl, rfl⟩ := piece_at (k := 6) (x := x) h0 h1 (by omega) (by omega)
    refine @congrFun S64x512.Idx (fun _ => EReal) _ (head (iblk m c 0 t) (iblk m c 1 t) (iblk m c 2 t) 6) ?_ x
    sl_kernel_rfl
  case piece2 =>
    obtain ⟨rfl, rfl⟩ := piece_at (k := 5) (x := x) h0 h1 (by omega) (by omega)
    refine @congrFun S64x512.Idx (fun _ => EReal) _ (head (iblk m c 0 t) (iblk m c 1 t) (iblk m c 2 t) 5) ?_ x
    sl_kernel_rfl
  case piece3 =>
    obtain ⟨rfl, rfl⟩ := piece_at (k := 4) (x := x) h0 h1 (by omega) (by omega)
    refine @congrFun S64x512.Idx (fun _ => EReal) _ (head (iblk m c 0 t) (iblk m c 1 t) (iblk m c 2 t) 4) ?_ x
    sl_kernel_rfl
  case piece4 =>
    obtain ⟨rfl, rfl⟩ := piece_at (k := 3) (x := x) h0 h1 (by omega) (by omega)
    refine @congrFun S64x512.Idx (fun _ => EReal) _ (head (iblk m c 0 t) (iblk m c 1 t) (iblk m c 2 t) 3) ?_ x
    sl_kernel_rfl
  case piece5 =>
    obtain ⟨rfl, rfl⟩ := piece_at (k := 2) (x := x) h0 h1 (by omega) (by omega)
    refine @congrFun S64x512.Idx (fun _ => EReal) _ (head (iblk m c 0 t) (iblk m c 1 t) (iblk m c 2 t) 2) ?_ x
    sl_kernel_rfl
  case piece6 =>
    obtain ⟨rfl, rfl⟩ := piece_at (k := 1) (x := x) h0 h1 (by omega) (by omega)
    refine @congrFun S64x512.Idx (fun _ => EReal) _ (head (iblk m c 0 t) (iblk m c 1 t) (iblk m c 2 t) 1) ?_ x
    sl_kernel_rfl
  case piece7 =>
    obtain ⟨rfl, rfl⟩ := piece_at (k := 0) (x := x) h0 h1 (by omega) (by omega)
    refine @congrFun S64x512.Idx (fun _ => EReal) _ (head (iblk m c 0 t) (iblk m c 1 t) (iblk m c 2 t) 0) ?_ x
    sl_kernel_rfl

end Cert.KernelIdeal.Value
end
-- ==== Proof.Stages.lean ====
/- A head read at an index: its scores, their maximum and its two sums as sums and maxima over all the keys. -/
module
public import proofs.«01_k».proof.Proof.Heads
public import Idealize.ShloMosaic.Lib.Pointwise

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

theorem negInf_f32 : Ideal.ofBits .f32 0xFF800000#32 = ⊥ := by simp [Ideal.ofBits, Ideal.ieee]

/-- Key `k`'s score at query `x` of a block. -/
def score (q : FVec Ideal S128x512 .bf16) (x1 : Vec Ideal S1x2x4352x128 .bf16) (h : ℕ) (x : Fin 512) (k : Fin 4352) : EReal :=
  scores q x1 h (k / 256) (ix2 (⟨k % 256, Nat.mod_lt _ (by decide)⟩ : Fin 256) x)

theorem scores_apply (q : FVec Ideal S128x512 .bf16) (x1 : Vec Ideal S1x2x4352x128 .bf16) (h c : ℕ) (a : Fin 256) (x : Fin 512) :
    scores q x1 h c (ix2 a x) = ∑ l : Fin 128, x1 (ix4 0 (⟨h / 4 % 2, Nat.mod_lt _ (by decide)⟩ : Fin 2)
      (⟨c % 17 * 256 + a, by omega⟩ : Fin 4352) l) * q (ix2 l x) := by
  pointwise [scores, keyRows]

theorem chunkMax_le (s : FVec Ideal S256x512 .f32) (u : Fin 8) (x : Fin 512) (z : EReal) :
    chunkMax s (ix2 u x) ≤ z ↔ ∀ w : Fin 32, s (ix2 (⟨w * 8 + u, by omega⟩ : Fin 256) x) ≤ z := by
  pointwise [chunkMax]
  rw [negInf_f32, Finset.fold_max_le]
  simp

theorem runMax_le (q : FVec Ideal S128x512 .bf16) (x1 : Vec Ideal S1x2x4352x128 .bf16) (h n : ℕ) (u : Fin 8) (x : Fin 512) (z : EReal) :
    runMax q x1 h n (ix2 u x) ≤ z ↔
      ∀ c ≤ n, ∀ w : Fin 32, scores q x1 h c (ix2 (⟨w * 8 + u, by omega⟩ : Fin 256) x) ≤ z := by
  induction n with
  | zero => rw [runMax, chunkMax_le]; simp
  | succ n ih =>
    have e : runMax q x1 h (n + 1) (ix2 u x) = max (runMax q x1 h n (ix2 u x)) (chunkMax (scores q x1 h (n + 1)) (ix2 u x)) := by
      pointwise [runMax]
    rw [e, max_le_iff, ih, chunkMax_le]
    constructor
    · rintro ⟨a, b⟩ c hc w
      rcases Nat.le_succ_iff.1 hc with hc | rfl
      · exact a c hc w
      · exact b w
    · exact fun a => ⟨fun c hc w => a c (by omega) w, fun w => a (n + 1) le_rfl w⟩

theorem colMax_le (r : FVec Ideal S8x512 .f32) (x : Fin 512) (z : EReal) :
    colMax r (ix2 0 x) ≤ z ↔ ∀ u : Fin 8, r (ix2 u x) ≤ z := by
  pointwise [colMax]
  rw [negInf_f32, Finset.fold_max_le]
  simp

/-- The greatest of a query's partial maxima is the greatest of its scores. -/
theorem max_apply (q : FVec Ideal S128x512 .bf16) (x1 : Vec Ideal S1x2x4352x128 .bf16) (h : ℕ) (x : Fin 512) :
    colMax (runMax q x1 h 16) (ix2 0 x) = Finset.univ.fold max ⊥ (score q x1 h x) := by
  refine eq_of_forall_ge_iff fun z => ?_
  rw [colMax_le, Finset.fold_max_le]
  simp only [runMax_le, bot_le, true_and, Finset.mem_univ, forall_const]
  constructor
  · intro a k
    refine le_of_eq_of_le ?_ (a ⟨k % 8, Nat.mod_lt _ (by decide)⟩ (k / 256) (by omega) ⟨k % 256 / 8, by omega⟩)
    unfold score
    refine congrArg (fun i : Fin 256 => scores q x1 h (k / 256) (ix2 i x)) (Fin.ext ?_)
    show (k : ℕ) % 256 = k % 256 / 8 * 8 + k % 8
    omega
  · intro a u c hc w
    refine le_of_eq_of_le ?_ (a ⟨c * 256 + (w * 8 + u), by omega⟩)
    unfold score
    have e : (c * 256 + (w * 8 + u)) / 256 = c := by omega
    show _ = scores q x1 h ((c * 256 + (w * 8 + u)) / 256) _
    rw [e]
    refine congrArg (fun i : Fin 256 => scores q x1 h c (ix2 i x)) (Fin.ext ?_)
    show (w : ℕ) * 8 + u = (c * 256 + (w * 8 + u)) % 256
    omega

/-- The weighted sum over all the keys, at row `a` of the stacked values. -/
theorem partSum_apply (q : FVec Ideal S128x512 .bf16) (x1 : Vec Ideal S1x2x4352x128 .bf16) (x2 : Vec Ideal S1x2x128x4352 .bf16)
    (M : FVec Ideal S1x512 .f32) (h : ℕ) (a : Fin 128) (x : Fin 512) :
    partSum q x1 x2 M h 16 (ix2 a x) = ∑ k : Fin 4352, x2 (ix4 0 (⟨h / 4 % 2, Nat.mod_lt _ (by decide)⟩ : Fin 2) a k)
      * Ideal.exp2 (score q x1 h x k - M (ix2 0 x)) := by
  have e : ∀ n, partSum q x1 x2 M h n (ix2 a x) = ∑ c ∈ Finset.range (n + 1), part q x1 x2 M h c (ix2 a x) := by
    intro n
    induction n with
    | zero => simp [partSum]
    | succ n ih =>
      rw [Finset.sum_range_succ, ← ih]
      pointwise [partSum]
  rw [e, Finset.sum_range, Fin.sum_univ_tiles 17 256 rfl]
  refine Finset.sum_congr rfl fun c _ => ?_
  pointwise [part, valueCols, weights]
  refine Finset.sum_congr rfl fun b _ => ?_
  have hc : ((c : ℕ) * 256 + b) / 256 = c := by omega
  have hb : ((c : ℕ) * 256 + b) % 256 = b := by omega
  have hm : (c : ℕ) % 17 * 256 + b = c * 256 + b := by omega
  simp only [score, hc, hb, hm]
  rfl

theorem quotient_apply (a : FVec Ideal S128x512 .f32) (d : Fin 64) (x : Fin 512) :
    quotient a (ix2 d x) = Ideal.div (a (ix2 (⟨d, by omega⟩ : Fin 128) x)) (a (ix2 (64 : Fin 128) x)) := by
  pointwise [quotient]

theorem lowRows_apply (l : Fin 128) (x : Fin 512) : lowRows (ix2 l x) = if (l : ℕ) < 64 then 1#1 else 0#1 := by
  pointwise [lowRows]
  exact (by decide +kernel : ∀ l : Fin 128, IntOp.cmpi .slt (BitVec.ofNat 32 (l : ℕ)) 64#32 = if (l : ℕ) < 64 then 1#1 else 0#1) l

theorem ownRows_apply (h : ℕ) (l : Fin 128) (x : Fin 512) : ownRows h (ix2 l x) = if (l : ℕ) / 64 = h % 2 then 1#1 else 0#1 := by
  unfold ownRows
  rcases Nat.mod_two_eq_zero_or_one h with e | e
  · rw [if_pos e, lowRows_apply]
    by_cases hl : (l : ℕ) < 64
    · rw [if_pos hl, if_pos (by omega)]
    · rw [if_neg hl, if_neg (by omega)]
  · rw [if_neg (by omega)]
    pointwise
    rw [lowRows_apply]
    by_cases hl : (l : ℕ) < 64
    · rw [if_pos hl, if_neg (by omega)]; rfl
    · rw [if_neg hl, if_pos (by omega)]; rfl

theorem queries_apply (x0 : Vec Ideal S512x512 .bf16) (h : ℕ) (hh : h < 8) (l : Fin 128) (x : Fin 512) :
    queries x0 h (ix2 l x) = if (l : ℕ) / 64 = h % 2 then x0 (ix2 (⟨h / 2 * 128 + l, by omega⟩ : Fin 512) x) else 0 := by
  pointwise [queries, queryRows]
  rw [ownRows_apply]
  have e : h / 2 % 4 = h / 2 := Nat.mod_eq_of_lt (by omega)
  simp only [e]
  split_ifs <;> rfl

/-- A score over the rows of head `h` alone, where the keys' two halves are the same. -/
theorem score_apply (x0 : Vec Ideal S512x512 .bf16) (x1 : Vec Ideal S1x2x4352x128 .bf16) (h : ℕ) (hh : h < 8) (x : Fin 512) (k : Fin 4352)
    (K : Fin 4352 → Fin 64 → EReal)
    (hk : ∀ (n : Fin 4352) (l : Fin 128), x1 (ix4 0 (⟨h / 4 % 2, Nat.mod_lt _ (by decide)⟩ : Fin 2) n l) = K n ⟨l % 64, Nat.mod_lt _ (by decide)⟩) :
    score (queries x0 h) x1 h x k = ∑ d : Fin 64, K k d * x0 (ix2 (⟨h * 64 + d, by omega⟩ : Fin 512) x) := by
  unfold score
  rw [scores_apply]
  have ek : (⟨(k : ℕ) / 256 % 17 * 256 + (⟨k % 256, Nat.mod_lt _ (by decide)⟩ : Fin 256), by simp; omega⟩ : Fin 4352) = k :=
    Fin.ext (by simp only; omega)
  simp only [ek, hk, queries_apply x0 h hh]
  rw [Fin.sum_univ_tiles 2 64 rfl, Fin.sum_univ_two]
  have el : ∀ (j : Fin 2) (d : Fin 64), ((j : ℕ) * 64 + d) / 64 = j := fun j d => by omega
  have em : ∀ (j : Fin 2) (d : Fin 64), ((j : ℕ) * 64 + d) % 64 = d := fun j d => by omega
  simp only [el, em]
  rcases Nat.mod_two_eq_zero_or_one h with e | e
  · rw [e]
    simp only [Fin.val_zero, Fin.val_one, if_true, one_ne_zero, if_false, mul_zero, Finset.sum_const_zero, add_zero]
    refine Finset.sum_congr rfl fun d _ => congrArg (fun i : Fin 512 => K k d * x0 (ix2 i x)) (Fin.ext ?_)
    show h / 2 * 128 + (0 * 64 + (d : ℕ)) = h * 64 + d
    omega
  · rw [e]
    simp only [Fin.val_zero, Fin.val_one, if_true, zero_ne_one, if_false, mul_zero, Finset.sum_const_zero, zero_add]
    refine Finset.sum_congr rfl fun d _ => congrArg (fun i : Fin 512 => K k d * x0 (ix2 i x)) (Fin.ext ?_)
    show h / 2 * 128 + (1 * 64 + (d : ℕ)) = h * 64 + d
    omega

/-- The softmax-weighted values as the kernel spells them: exponentials to the base two, the sum of weights divided out last. -/
def attend (s v : Fin 4352 → EReal) : EReal :=
  Ideal.div (∑ k, v k * Ideal.exp2 (s k - Finset.univ.fold max ⊥ s)) (∑ k, Ideal.exp2 (s k - Finset.univ.fold max ⊥ s))

/-- A head at an index, from keys stored twice over and values with a row of ones below them. -/
theorem head_apply (x0 : Vec Ideal S512x512 .bf16) (x1 : Vec Ideal S1x2x4352x128 .bf16) (x2 : Vec Ideal S1x2x128x4352 .bf16)
    (h : ℕ) (hh : h < 8) (d : Fin 64) (x : Fin 512) (K : Fin 4352 → Fin 64 → EReal)
    (hk : ∀ (n : Fin 4352) (l : Fin 128), x1 (ix4 0 (⟨h / 4 % 2, Nat.mod_lt _ (by decide)⟩ : Fin 2) n l) = K n ⟨l % 64, Nat.mod_lt _ (by decide)⟩)
    (hv : ∀ n : Fin 4352, x2 (ix4 0 (⟨h / 4 % 2, Nat.mod_lt _ (by decide)⟩ : Fin 2) (64 : Fin 128) n) = 1) :
    head x0 x1 x2 h (ix2 d x) = attend (fun k => ∑ e : Fin 64, K k e * x0 (ix2 (⟨h * 64 + e, by omega⟩ : Fin 512) x))
      (fun k => x2 (ix4 0 (⟨h / 4 % 2, Nat.mod_lt _ (by decide)⟩ : Fin 2) (⟨d, by omega⟩ : Fin 128) k)) := by
  have es : score (queries x0 h) x1 h x = fun k => ∑ e : Fin 64, K k e * x0 (ix2 (⟨h * 64 + e, by omega⟩ : Fin 512) x) :=
    funext fun k => score_apply x0 x1 h hh x k K hk
  unfold head attend
  rw [quotient_apply, partSum_apply, partSum_apply, max_apply, es]
  simp only [hv, one_mul]

end Cert.KernelIdeal.Value
end
-- ==== Proof.Operands.lean ====
/- The attention call's result array over its argument: the operands laid out on the host, the blocks a grid
   point reads, and the array the blocks fill. -/
module
public import proofs.«01_k».proof.Proof.Stages
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen

/-- The row of the joint array that holds key `n` of sequence `b`: the context first, then the sequence. -/
def keyRow (b : Fin 4) (n : Fin 4352) : Fin 17408 :=
  if h : (n : ℕ) < 256 then ⟨16384 + (b * 256 + n), by omega⟩ else ⟨b * 4096 + (n - 256), by omega⟩

/-- The attention of row `r / 64`'s head at coordinate `r % 64` and position `p`, over the joint array. -/
def attention (X : FVec Ideal S17408x1536 .bf16) (r : Fin 1024) (p : Fin 16384) : EReal :=
  attend (fun k => ∑ e : Fin 64, X (ix2 (keyRow ⟨p / 4096, by omega⟩ k) (⟨1024 + (r / 256 * 64 + e), by omega⟩ : Fin 1536))
      * X (ix2 (⟨p, by omega⟩ : Fin 17408) (⟨r / 64 * 64 + e, by omega⟩ : Fin 1536)))
    (fun k => X (ix2 (keyRow ⟨p / 4096, by omega⟩ k) (⟨1280 + (r / 256 * 64 + r % 64), by omega⟩ : Fin 1536)))

variable (m : (ℓ : Loc nD τ sig) → Buf (Elt Ideal) ℓ)

theorem queryArray (c : Dev nD) (r : Fin 1024) (p : Fin 16384) :
    V m c main_v20 (ix2 r p) = m ((c : Thread nD τ).loc main_arg0) (ix2 (⟨p, by omega⟩ : Fin 17408) (⟨r, by omega⟩ : Fin 1536)) := by
  entry_read
  pointwise

theorem keyArray (c : Dev nD) (b g : Fin 4) (n : Fin 4352) (l : Fin 128) :
    V m c main_v15 (ix4 b g n l) = m ((c : Thread nD τ).loc main_arg0) (ix2 (keyRow b n) (⟨1024 + (g * 64 + l % 64), by omega⟩ : Fin 1536)) := by
  entry_read
  pointwise
  unfold keyRow
  by_cases hl : (l : ℕ) < 64 <;> by_cases h : (n : ℕ) < 256
  · simp only [dif_pos h, dif_pos hl]
    after_results_simp
    dsimp only [main_v2]
    pointwise
    exact congrArg₂ (fun (a : Fin 17408) (b : Fin 1536) => m ((c : Thread nD τ).loc main_arg0) (ix2 a b)) rfl (Fin.ext (by simp only; omega))
  · simp only [dif_neg h, dif_pos hl]
    after_results_simp
    dsimp only [main_v4]
    pointwise
    exact congrArg₂ (fun (a : Fin 17408) (b : Fin 1536) => m ((c : Thread nD τ).loc main_arg0) (ix2 a b)) rfl (Fin.ext (by simp only; omega))
  · simp only [dif_pos h, dif_neg hl]
    after_results_simp
    dsimp only [main_v2]
    pointwise
    exact congrArg₂ (fun (a : Fin 17408) (b : Fin 1536) => m ((c : Thread nD τ).loc main_arg0) (ix2 a b)) rfl (Fin.ext (by simp only; omega))
  · simp only [dif_neg h, dif_neg hl]
    after_results_simp
    dsimp only [main_v4]
    pointwise
    exact congrArg₂ (fun (a : Fin 17408) (b : Fin 1536) => m ((c : Thread nD τ).loc main_arg0) (ix2 a b)) rfl (Fin.ext (by simp only; omega))

theorem valueArray (c : Dev nD) (b g : Fin 4) (n : Fin 4352) (d : Fin 64) :
    V m c main_v18 (ix4 b g (⟨d, by omega⟩ : Fin 128) n) = m ((c : Thread nD τ).loc main_arg0) (ix2 (keyRow b n) (⟨1280 + (g * 64 + d), by omega⟩ : Fin 1536)) := by
  entry_read
  pointwise
  after_results_simp
  unfold keyRow
  by_cases h : (n : ℕ) < 256
  · simp only [dif_pos h]
    pointwise
  · simp only [dif_neg h]
    dsimp only [main_v11]
    pointwise

theorem onesRow (c : Dev nD) (b g : Fin 4) (n : Fin 4352) : V m c main_v18 (ix4 b g (64 : Fin 128) n) = (1 : EReal) := by
  entry_read
  pointwise

theorem idx : ∀ t : Fin cfg0.N, win0_0.index t = ![t.val / 8 % 2, t.val / 16 * 8 + t.val % 8]
    ∧ win0_1.index t = ![t.val / 16, t.val / 8 % 2, 0, 0] ∧ win0_2.index t = ![t.val / 16, t.val / 8 % 2, 0, 0]
    ∧ win0_3.index t = ![t.val / 8 % 2, t.val / 16 * 8 + t.val % 8] ∧ t.val < 64 :=
  (by decide +kernel : ∀ t : Fin grid0.N, _)

theorem block0 (c : Dev nD) (t : Fin cfg0.N) (r q : Fin 512) (h : t.val < 64) : iblk m c 0 t (ix2 r q)
    = V m c main_v20 (ix2 (⟨t.val / 8 % 2 * 512 + r, by omega⟩ : Fin 1024) (⟨(t.val / 16 * 8 + t.val % 8) * 512 + q, by omega⟩ : Fin 16384)) := by
  blk_ext [iblk, idx t]

theorem block1 (c : Dev nD) (t : Fin cfg0.N) (g : Fin 2) (n : Fin 4352) (l : Fin 128) (h : t.val < 64) : iblk m c 1 t (ix4 0 g n l)
    = V m c main_v15 (ix4 (⟨t.val / 16, by omega⟩ : Fin 4) (⟨t.val / 8 % 2 * 2 + g, by omega⟩ : Fin 4) n l) := by
  blk_ext [iblk, idx t]

theorem block2 (c : Dev nD) (t : Fin cfg0.N) (g : Fin 2) (n : Fin 4352) (l : Fin 128) (h : t.val < 64) : iblk m c 2 t (ix4 0 g l n)
    = V m c main_v18 (ix4 (⟨t.val / 16, by omega⟩ : Fin 4) (⟨t.val / 8 % 2 * 2 + g, by omega⟩ : Fin 4) l n) := by
  blk_ext [iblk, idx t]

/-- What a grid point leaves at row `r` and column `q` of its block is the attention at the place of the array. -/
theorem point (c : Dev nD) (t : Fin cfg0.N) (r q : Fin 512) (R : Fin 1024) (P : Fin 16384)
    (hR : (R : ℕ) = t.val / 8 % 2 * 512 + r) (hP : (P : ℕ) = (t.val / 16 * 8 + t.val % 8) * 512 + q) :
    outsAt0 m c t (ix2 r q) = attention (m ((c : Thread nD τ).loc main_arg0)) R P := by
  have ht : t.val < 64 := (idx t).2.2.2.2
  have hr := r.isLt
  have hq := q.isLt
  have a1 : (R : ℕ) / 256 = t.val / 8 % 2 * 2 + r / 64 / 4 % 2 := by omega
  have a2 : (P : ℕ) / 4096 = t.val / 16 := by omega
  have a3 : (R : ℕ) % 64 = r % 64 := by omega
  rw [outsAt0_apply m c t (ix2 r q) (r / 64) (ix2 (⟨r % 64, Nat.mod_lt _ (by decide)⟩ : Fin 64) q) (by simp; omega) (by simp)]
  rw [head_apply (iblk m c 0 t) (iblk m c 1 t) (iblk m c 2 t) (r / 64) (by omega) (⟨r % 64, Nat.mod_lt _ (by decide)⟩ : Fin 64) q
    (fun n e => m ((c : Thread nD τ).loc main_arg0) (ix2 (keyRow (⟨P / 4096, by omega⟩ : Fin 4) n) (⟨1024 + (R / 256 * 64 + e), by omega⟩ : Fin 1536)))
    (fun n l => by
      rw [block1 m c t _ n l ht, keyArray]
      exact congrArg₂ (fun (a : Fin 4) (b : Fin 1536) => m ((c : Thread nD τ).loc main_arg0) (ix2 (keyRow a n) b))
        (Fin.ext a2.symm) (Fin.ext (by simp only [a1])))
    (fun n => by rw [block2 m c t _ n _ ht, onesRow])]
  unfold attention
  refine congrArg₂ attend (funext fun k => Finset.sum_congr rfl fun e _ => congrArg₂ (fun a b : EReal => a * b) rfl ?_) (funext fun k => ?_)
  · rw [block0 m c t _ q ht, queryArray]
    exact congrArg₂ (fun (a : Fin 17408) (b : Fin 1536) => m ((c : Thread nD τ).loc main_arg0) (ix2 a b))
      (Fin.ext (by simp only; omega)) (Fin.ext (by simp only; omega))
  · rw [block2 m c t _ k _ ht]
    refine (valueArray m c _ _ k (⟨r % 64, Nat.mod_lt _ (by decide)⟩ : Fin 64)).trans ?_
    exact congrArg₂ (fun (a : Fin 4) (b : Fin 1536) => m ((c : Thread nD τ).loc main_arg0) (ix2 (keyRow a k) b))
      (Fin.ext a2.symm) (Fin.ext (by simp only [a1, a3]))

/-- The attention call leaves the attention of its argument. -/
theorem final (c : Dev nD) : (dats m 0 c).arrAt 3 (cfgs 0).N
    = fun i => attention (m ((c : Thread nD τ).loc main_arg0)) (i 0) (i 1) := by
  refine (dats m 0 c).arrAt_eq_of_covers 3 _ (by decide +kernel) fun t hf y => ?_
  blk_simp
  rw [after0_3]
  revert y
  show ∀ y : S512x512.Idx, outsAt0 m c t y = _
  intro y
  idx_vars y
  refine point m c t y0 y1 _ _ ?_ ?_
  · blk_simp [idx t]
  · blk_simp [idx t]

end Cert.KernelIdeal.Value
end
-- ==== Proof.Reference.lean ====
/- The reference's attention at an index: the softmax of the scores at each key times the key's value. -/
module
public import proofs.«01_k».proof.Proof.Gen.ReferenceIdeal.Read
public import Idealize.ShloMosaic.Lib.Pointwise

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.ReferenceIdeal.Read

/-- Column `j` of the joint array at key `n` of sequence `b`: the context's rows first, then the sequence's. -/
def atKey (X : FVec Ideal S17408x1536 .bf16) (b : Fin 4) (n : Fin 4352) (j : Fin 1536) : EReal :=
  if h : (n : ℕ) < 256 then X (ix2 (⟨16384 + (b * 256 + n), by omega⟩ : Fin 17408) j)
  else X (ix2 (⟨b * 4096 + (n - 256), by omega⟩ : Fin 17408) j)

/-- The score of key `k` at head `4 g + h` of position `n` in sequence `b`. -/
def score (X : FVec Ideal S17408x1536 .bf16) (b g h : Fin 4) (n : Fin 4096) (k : Fin 4352) : EReal :=
  ∑ e : Fin 64, atKey X b k (⟨1024 + (g * 64 + e), by omega⟩ : Fin 1536)
    * X (ix2 (⟨b * 4096 + n, by omega⟩ : Fin 17408) (⟨g * 256 + h * 64 + e, by omega⟩ : Fin 1536))

theorem negInf_f32 : Ideal.ofBits .f32 0xFF800000#32 = ⊥ := by simp [Ideal.ofBits, Ideal.ieee]
theorem two_f32 : Ideal.ofBits .f32 0x40000000#32 = ((2 : ℝ) : EReal) := by
  simp [Ideal.ofBits, Ideal.ieee]
  rw [← EReal.coe_mul]
  norm_num

theorem log_two : Ideal.log (Ideal.ofBits .f32 0x40000000#32) = ((Real.log 2 : ℝ) : EReal) := by
  rw [two_f32, Ideal.log_coe, if_neg (by norm_num)]

theorem value_apply (X : FVec Ideal S17408x1536 .bf16) (b g : Fin 4) (n : Fin 4352) (d : Fin 64) :
    val_main_v12 (F := Ideal) X (ix4 b n g d) = atKey X b n (⟨1280 + (g * 64 + d), by omega⟩ : Fin 1536) := by
  pointwise [val_main_v12, val_main_v11, val_main_v10, val_main_v6, val_main_v5, val_main_v0]
  rfl

theorem key_apply (X : FVec Ideal S17408x1536 .bf16) (b g : Fin 4) (n : Fin 4352) (d : Fin 64) :
    val_main_v9 (F := Ideal) X (ix4 b n g d) = atKey X b n (⟨1024 + (g * 64 + d), by omega⟩ : Fin 1536) := by
  pointwise [val_main_v9, val_main_v8, val_main_v7, val_main_v4, val_main_v3, val_main_v0]
  rfl

theorem score_apply (X : FVec Ideal S17408x1536 .bf16) (b g h : Fin 4) (n : Fin 4096) (k : Fin 4352) :
    val_main_v17 (F := Ideal) X (ix5 b g h n k) = score X b g h n k * (Real.log 2 : ℝ) := by
  simp only [val_main_v17_apply, val_main_v16_apply, val_main_v15_apply, val_main_v14_apply, val_main_v13_apply]
  pointwise [val_main_v2, val_main_v1, val_main_v0]
  rw [val_main_cst_apply, Ideal.ofBits_def, log_two]
  refine congrArg (fun a : EReal => a * ((Real.log 2 : ℝ) : EReal)) (Finset.sum_congr rfl fun e _ => ?_)
  refine congrArg (fun a : EReal => a * _) ?_
  rw [← key_apply]
  refine congrArg (val_main_v9 (F := Ideal) X) (funext fun a => ?_)
  match a with
  | ⟨0, _⟩ => rfl
  | ⟨1, _⟩ => rfl
  | ⟨2, _⟩ => rfl
  | ⟨3, _⟩ => rfl

theorem foldMax_apply (x : FVec Ideal S4x4x4x4096x4352 .f32) (b g h : Fin 4) (n : Fin 4096) :
    Host.reduce FloatOps.maximumf x (val_main_cst_0 (F := Ideal)) reducesTo_S4x4x4x4096x4352_S4x4x4x4096_d4 h_S_ (ix4 b g h n)
      = Finset.univ.fold max (Ideal.ofBits .f32 0xFF800000#32) fun k : Fin 4352 => x (ix5 b g h n k) := by
  pointwise [val_main_cst_0]

theorem greatest_apply (X : FVec Ideal S17408x1536 .bf16) (b g h : Fin 4) (n : Fin 4096) :
    val_main_v20 (F := Ideal) X (ix4 b g h n)
      = max ⊥ (Finset.univ.fold max ⊥ fun k => score X b g h n k * (Real.log 2 : ℝ)) := by
  rw [val_main_v20_apply, val_main_v18, foldMax_apply, val_main_v19_apply, val_main_cst_1_apply, Ideal.ofBits_def, negInf_f32]
  simp only [score_apply]
  rfl

/-- The reference's result at row `r` and position `p`. -/
theorem result_apply (X : FVec Ideal S17408x1536 .bf16) (r : Fin 1024) (p : Fin 16384) (b g h : Fin 4) (n : Fin 4096) (d : Fin 64)
    (hb : (b : ℕ) = p / 4096) (hn : (n : ℕ) = p % 4096) (hg : (g : ℕ) = r / 256) (hh : (h : ℕ) = r / 64 % 4) (hd : (d : ℕ) = r % 64) :
    val_main_v33 (F := Ideal) X (ix2 r p)
      = ∑ k : Fin 4352, atKey X b k (⟨1280 + (g * 64 + d), by omega⟩ : Fin 1536)
        * Ideal.div (Ideal.exp (score X b g h n k * (Real.log 2 : ℝ) - max ⊥ (Finset.univ.fold max ⊥ fun j => score X b g h n j * (Real.log 2 : ℝ))))
          (0 + ∑ i, Ideal.exp (score X b g h n i * (Real.log 2 : ℝ) - max ⊥ (Finset.univ.fold max ⊥ fun j => score X b g h n j * (Real.log 2 : ℝ)))) := by
  have ei : idx_main_v30 (idx_main_v31 (idx_main_v32 (ix2 r p))) = ix5 b g d h n := by
    funext a
    match a with
    | ⟨0, _⟩ => exact Fin.ext (show ((p : ℕ) * 1024 + r) / 4194304 = b by omega)
    | ⟨1, _⟩ => exact Fin.ext (show ((p : ℕ) * 1024 + r) / 256 % 4 = g by omega)
    | ⟨2, _⟩ => exact Fin.ext (show ((p : ℕ) * 1024 + r) % 64 = d by omega)
    | ⟨3, _⟩ => exact Fin.ext (show ((p : ℕ) * 1024 + r) / 64 % 4 = h by omega)
    | ⟨4, _⟩ => exact Fin.ext (show ((p : ℕ) * 1024 + r) / 1024 % 4096 = n by omega)
  have el : ∀ k, lidx_main_v29 (ix5 b g d h n) k = ix4 b k g d := fun k => funext fun a => match a with
    | ⟨0, _⟩ => rfl
    | ⟨1, _⟩ => rfl
    | ⟨2, _⟩ => rfl
    | ⟨3, _⟩ => rfl
  have er : ∀ k, ridx_main_v29 (ix5 b g d h n) k = ix5 b g h n k := fun k => funext fun a => match a with
    | ⟨0, _⟩ => rfl
    | ⟨1, _⟩ => rfl
    | ⟨2, _⟩ => rfl
    | ⟨3, _⟩ => rfl
    | ⟨4, _⟩ => rfl
  have e22 : ∀ k, idx_main_v21 (idx_main_v22 (ix5 b g h n k)) = ix4 b g h n := fun k => funext fun a => match a with
    | ⟨0, _⟩ => rfl
    | ⟨1, _⟩ => rfl
    | ⟨2, _⟩ => rfl
    | ⟨3, _⟩ => rfl
  have e27 : ∀ k, idx_main_v26 (idx_main_v27 (ix5 b g h n k)) = ix4 b g h n := fun k => funext fun a => match a with
    | ⟨0, _⟩ => rfl
    | ⟨1, _⟩ => rfl
    | ⟨2, _⟩ => rfl
    | ⟨3, _⟩ => rfl
  have e25 : ∀ k, idx_main_v25 (ix4 b g h n) k = ix5 b g h n k := fun k => funext fun a => match a with
    | ⟨0, _⟩ => rfl
    | ⟨1, _⟩ => rfl
    | ⟨2, _⟩ => rfl
    | ⟨3, _⟩ => rfl
    | ⟨4, _⟩ => rfl
  have ee : ∀ k, val_main_v24 (F := Ideal) X (ix5 b g h n k)
      = Ideal.exp (score X b g h n k * (Real.log 2 : ℝ) - max ⊥ (Finset.univ.fold max ⊥ fun j => score X b g h n j * (Real.log 2 : ℝ))) := fun k => by
    rw [val_main_v24_apply, val_main_v23_apply, val_main_v22_apply, val_main_v21_apply, e22, score_apply, greatest_apply]
    rfl
  rw [val_main_v33_apply, val_main_v32_apply, val_main_v31_apply, val_main_v30_apply, ei, val_main_v29_apply]
  show (∑ k : Fin 4352, _) = _
  refine Finset.sum_congr rfl fun k _ => ?_
  rw [el, er, value_apply, val_main_v28_apply, ee, val_main_v27_apply, val_main_v26_apply, e27, val_main_v25_apply]
  simp only [e25, ee]
  rw [val_main_cst_2_apply, Ideal.ofBits_def, Ideal.ofBits_zero]
  rfl

end Cert.ReferenceIdeal.Value
end
-- ==== Proof.Softmax.lean ====
/- Softmax-weighted sums: the sum of weights divided out of the sum at the end, with exponentials to the base two,
   is the sum of the values times the normalised exponentials. Scores are real; values may be any extended reals. -/
module
public import Idealize.ShloMosaic.PureOps.Ideal.Laws
public import Mathlib.Data.EReal.Operations
public import Mathlib.Analysis.SpecialFunctions.Pow.Real

@[expose] public section
set_option maxRecDepth 16384
noncomputable section
open Idealize.ShloMosaic
namespace Cert.Softmax

/-- A finite sum of extended reals times a real that is not negative. -/
theorem sum_mul_coe {ι : Type} (s : Finset ι) (f : ι → EReal) (r : ℝ) (hr : 0 ≤ r) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

theorem fold_max_eq {n : ℕ} (f : Fin n → EReal) (k₀ : Fin n) (h : ∀ k, f k ≤ f k₀) : Finset.univ.fold max ⊥ f = f k₀ := by
  refine eq_of_forall_ge_iff fun z => ?_
  rw [Finset.fold_max_le]
  simp only [bot_le, true_and, Finset.mem_univ, forall_const]
  exact ⟨fun a => a k₀, fun a k => (h k).trans a⟩

theorem exp2_sub (a b : ℝ) : Ideal.exp2 ((a : EReal) - (b : EReal)) = (Real.exp ((a - b) * Real.log 2) : ℝ) := by
  rw [← EReal.coe_sub, Ideal.exp2_coe]
  show ((2 ^ (a - b) : ℝ) : EReal) = _
  rw [Real.rpow_def_of_pos (by norm_num), mul_comm]

theorem exp_sub (a b : ℝ) : Ideal.exp ((a : EReal) * (Real.log 2 : ℝ) - (b : EReal) * (Real.log 2 : ℝ))
    = (Real.exp ((a - b) * Real.log 2) : ℝ) := by
  rw [← EReal.coe_mul, ← EReal.coe_mul, ← EReal.coe_sub, sub_mul]
  rfl

/-- The two spellings of a softmax-weighted sum agree over real scores. -/
theorem weighted_sum_eq {n : ℕ} [NeZero n] (s v : Fin n → EReal) (hs : ∀ k, ∃ r : ℝ, s k = r) :
    Ideal.div (∑ k, v k * Ideal.exp2 (s k - Finset.univ.fold max ⊥ s)) (∑ k, Ideal.exp2 (s k - Finset.univ.fold max ⊥ s))
      = ∑ k, v k * Ideal.div (Ideal.exp (s k * (Real.log 2 : ℝ) - max ⊥ (Finset.univ.fold max ⊥ fun j => s j * (Real.log 2 : ℝ))))
          (0 + ∑ i, Ideal.exp (s i * (Real.log 2 : ℝ) - max ⊥ (Finset.univ.fold max ⊥ fun j => s j * (Real.log 2 : ℝ)))) := by
  choose σ hσ using hs
  obtain rfl : s = fun k => (σ k : EReal) := funext hσ
  obtain ⟨k₀, -, h₀⟩ := Finset.exists_max_image Finset.univ σ Finset.univ_nonempty
  have hl : 0 < Real.log 2 := Real.log_pos (by norm_num)
  have e1 : Finset.univ.fold max ⊥ (fun k => (σ k : EReal)) = σ k₀ :=
    fold_max_eq _ k₀ fun k => EReal.coe_le_coe_iff.2 (h₀ k (Finset.mem_univ k))
  have e2 : (Finset.univ.fold max ⊥ fun j => (σ j : EReal) * (Real.log 2 : ℝ)) = (σ k₀ : EReal) * (Real.log 2 : ℝ) :=
    fold_max_eq _ k₀ fun k => by
      rw [← EReal.coe_mul, ← EReal.coe_mul, EReal.coe_le_coe_iff]
      exact mul_le_mul_of_nonneg_right (h₀ k (Finset.mem_univ k)) hl.le
  simp only [e1, e2, bot_le, max_eq_right, zero_add, exp2_sub, exp_sub, coe_sum]
  have hW : 0 < ∑ k, Real.exp ((σ k - σ k₀) * Real.log 2) := Finset.sum_pos (fun k _ => Real.exp_pos _) Finset.univ_nonempty
  simp only [Ideal.div_coe hW.ne']
  rw [sum_mul_coe _ _ _ (by positivity)]
  exact Finset.sum_congr rfl fun k _ => mul_assoc _ _ _

end Cert.Softmax
end
-- ==== Proof.Equation.lean ====
/- The attention call and its reference: the same function of the joint array, where its queries and keys are finite. -/
module
public import proofs.«01_k».proof.Proof.Operands
public import proofs.«01_k».proof.Proof.Reference
public import proofs.«01_k».proof.Proof.Softmax
public import proofs.«01_k».proof.Proof.Gen.Pre_finite_queries_and_keys

@[expose] public section
set_option maxRecDepth 16384
noncomputable section
open Idealize.ShloMosaic Idealize.ShloMosaic.TcCoe Idealize.SL.Sem
namespace Cert.Attention
open Cert.KernelIdeal

/-- Under the precondition the queries and keys are real numbers. -/
theorem real_of_pre (X : FVec Ideal S17408x1536 .bf16) (h : Cert.Pre_finite_queries_and_keys.fn (F := Ideal) X = fun _ => 1#1)
    (i : Fin 17408) (j : Fin 1536) (hj : (j : ℕ) < 1280) : ∃ r : ℝ, X (ix2 i j) = r := by
  have e := congrFun h (ix2 i (⟨j, hj⟩ : Fin 1280))
  pointwise [Cert.Pre_finite_queries_and_keys.fn] at e
  have lt : FloatOps.absf (F := Ideal) (φ := .bf16) (X (ix2 i j)) < (⊤ : EReal) := by
    have top : Ideal.ofBits .bf16 0x7F80#16 = ⊤ := by simp [Ideal.ofBits, Ideal.ieee]
    rw [← top]
    by_contra hn
    simp [hn] at e
  generalize (X (ix2 i j) : EReal) = x at lt
  induction x using EReal.rec with
  | bot => exact absurd lt (lt_irrefl _)
  | top => exact absurd lt (lt_irrefl _)
  | coe r => exact ⟨r, rfl⟩

/-- The sum of products of reals is real. -/
theorem real_dot {n : ℕ} (f g : Fin n → EReal) (hf : ∀ k, ∃ r : ℝ, f k = r) (hg : ∀ k, ∃ r : ℝ, g k = r) : ∃ r : ℝ, ∑ k, f k * g k = r := by
  choose a ha using hf
  choose b hb using hg
  refine ⟨∑ k, a k * b k, ?_⟩
  simp only [ha, hb, ← EReal.coe_mul]
  exact Cert.Softmax.coe_sum Finset.univ fun k => a k * b k

/-- A column of the joint array at a key, in the kernel's words and in the reference's. -/
theorem atKey_eq (X : FVec Ideal S17408x1536 .bf16) (b : Fin 4) (n : Fin 4352) (j : Fin 1536) :
    Cert.ReferenceIdeal.Value.atKey X b n j = X (ix2 (Cert.KernelIdeal.Value.keyRow b n) j) := by
  unfold Cert.ReferenceIdeal.Value.atKey Cert.KernelIdeal.Value.keyRow
  split_ifs <;> rfl

/-- The kernel's attention is the reference's result, index by index. -/
theorem attention_eq (X : FVec Ideal S17408x1536 .bf16) (h : Cert.Pre_finite_queries_and_keys.fn (F := Ideal) X = fun _ => 1#1)
    (r : Fin 1024) (p : Fin 16384) :
    Cert.KernelIdeal.Value.attention X r p = Cert.ReferenceIdeal.Read.val_main_v33 (F := Ideal) X (ix2 r p) := by
  rw [Cert.ReferenceIdeal.Value.result_apply X r p ⟨p / 4096, by omega⟩ ⟨r / 256, by omega⟩ ⟨r / 64 % 4, by omega⟩
    ⟨p % 4096, by omega⟩ ⟨r % 64, by omega⟩ rfl rfl rfl rfl rfl]
  have es : Cert.ReferenceIdeal.Value.score X ⟨p / 4096, by omega⟩ ⟨r / 256, by omega⟩ ⟨r / 64 % 4, by omega⟩ ⟨p % 4096, by omega⟩
      = fun k => ∑ e : Fin 64, X (ix2 (Cert.KernelIdeal.Value.keyRow ⟨p / 4096, by omega⟩ k) (⟨1024 + (r / 256 * 64 + e), by omega⟩ : Fin 1536))
        * X (ix2 (⟨p, by omega⟩ : Fin 17408) (⟨r / 64 * 64 + e, by omega⟩ : Fin 1536)) := by
    funext k
    unfold Cert.ReferenceIdeal.Value.score
    refine Finset.sum_congr rfl fun e _ => congrArg₂ (fun a b : EReal => a * b) (atKey_eq _ _ _ _) ?_
    exact congrArg₂ (fun (a : Fin 17408) (b : Fin 1536) => X (ix2 a b)) (Fin.ext (by simp only; omega)) (Fin.ext (by simp only; omega))
  simp only [es, atKey_eq]
  exact Cert.Softmax.weighted_sum_eq _ _ fun k => real_dot _ _ (fun e => real_of_pre X h _ _ (by simp only; omega))
    (fun e => real_of_pre X h _ _ (by simp only; omega))

end Cert.Attention
end
-- ==== Proof.Dense.lean ====
/- The dense feed-forward layer of one row: the row normalised, scaled and shifted, the gated product, and the row
   with its gated result added. -/
module
public import Idealize.ShloMosaic.Lib.Pointwise
public import Idealize.ShloMosaic.PureOps.Ideal.Laws

@[expose] public section
noncomputable section
open Idealize.ShloMosaic
namespace Cert.Dense

/-- A row over its root mean square, times `g`, times one more than `scale`, plus `shift`. -/
def modulated (x g shift scale : Fin 1024 → EReal) (d : Fin 1024) : EReal :=
  x d * Ideal.rsqrt (Ideal.div (∑ e, x e * x e) (Ideal.ofBits FTy.f32 0x44800000#32) + Ideal.ofBits FTy.f32 0x358637BD#32) * g d
    * (1 + scale d) + shift d

/-- One hidden column: the gate's product, gated, times the up product. -/
def hidden {n : ℕ} (T G U : Fin n → EReal) : EReal := (∑ d, T d * G d) * Ideal.logistic (∑ d, T d * G d) * ∑ d, T d * U d

/-- The layer's row at column `k`. -/
def layer {n : ℕ} (x g shift scale gate : Fin 1024 → EReal) (G U : Fin 1024 → Fin n → EReal) (D : Fin n → Fin 1024 → EReal) (k : Fin 1024) : EReal :=
  x k + gate k * ∑ h, hidden (modulated x g shift scale) (fun d => G d h) (fun d => U d h) * D h k

theorem layer_congr {n : ℕ} {x x' g g' sh sh' sc sc' gt gt' : Fin 1024 → EReal} {G G' U U' : Fin 1024 → Fin n → EReal} {D D' : Fin n → Fin 1024 → EReal}
    (hx : x = x') (hg : g = g') (hsh : sh = sh') (hsc : sc = sc') (hgt : gt = gt') (hG : G = G') (hU : U = U') (hD : D = D') (k : Fin 1024) :
    layer x g sh sc gt G U D k = layer x' g' sh' sc' gt' G' U' D' k := by
  subst hx hg hsh hsc hgt hG hU hD
  rfl

/-- The modulation that a row takes: its sequence's, or the fifth for the context's rows. -/
def streamOf (R : Fin 17408) : Fin 8 := if R.val < 16384 then ⟨R.val / 4096, by omega⟩ else 4

end Cert.Dense
end
-- ==== Proof.DenseReference.lean ====
/- The reference's dense feed-forward layer at a row and a column. -/
module
public import proofs.«01_k».proof.Proof.Dense
public import proofs.«01_k».proof.Proof.Gen.FfnReferenceIdeal.Read
public import Idealize.ShloMosaic.Lib.Claim
public import Idealize.ShloMosaic.Lib.Tactic

@[expose] public section
set_option maxRecDepth 16384
noncomputable section
open Idealize.ShloMosaic Idealize.ShloMosaic.TcCoe Idealize.SL.Sem Idealize.ShloMosaic.StableHlo Idealize.ShloMosaic.Tactic
namespace Cert.FfnReferenceIdeal.Dense
open Cert.FfnReferenceIdeal Cert.FfnReferenceIdeal.Gen Cert.FfnReferenceIdeal.Read Cert.Dense

abbrev Arr (s : Shape) (e : EltTy) : Type := (⟨s, e⟩ : BufTy).Contents (Elt Ideal)

variable (x0 : Arr S17408x1024 .f32) (x1 : Arr S6x8x1x1024 .f32) (x2 : Arr S4x2x1024 .f32) (x3 x4 : Arr S2x1024x2816 .f32) (x5 : Arr S2x2816x1024 .f32)

/-- The layer over the arguments, for row `R` under modulation `s`. -/
def layerAt (R : Fin 17408) (s : Fin 8) (k : Fin 1024) : EReal :=
  layer (fun d => x0 (ix2 R d)) (fun d => x2 (ix3 0 1 d)) (fun d => x1 (ix4 3 s 0 d)) (fun d => x1 (ix4 4 s 0 d)) (fun d => x1 (ix4 5 s 0 d))
    (fun d h => x3 (ix3 0 d h)) (fun d h => x4 (ix3 0 d h)) (fun h e => x5 (ix3 0 h e)) k

theorem modulated_latent (b : Fin 4) (l : Fin 4096) (d : Fin 1024) : val_main_v30 (F := Ideal) x0 x1 x2 (ix3 b l d)
    = modulated (fun d => x0 (ix2 (⟨b.val * 4096 + l.val, by omega⟩ : Fin 17408) d)) (fun d => x2 (ix3 0 1 d))
      (fun d => x1 (ix4 3 (⟨b.val, by omega⟩ : Fin 8) 0 d)) (fun d => x1 (ix4 4 (⟨b.val, by omega⟩ : Fin 8) 0 d)) d := by
  pointwise [val_main_v30, val_main_v29, val_main_v28, val_main_v27, val_main_v26, val_main_v25, val_main_cst_2, val_main_v24, val_main_v23,
    val_main_v22, val_main_v21, val_main_v20, val_main_v19, val_main_v18, val_main_v17, val_main_cst_1, val_main_v16, val_main_v15,
    val_main_cst_0, val_main_v14, val_main_v13, val_main_cst, val_main_v12, val_main_v11, val_main_v10, val_main_v7, val_main_v6, val_main_v5,
    val_main_v4, val_main_v1, val_main_v0]
  rfl

theorem latent_apply (b : Fin 4) (l : Fin 4096) (k : Fin 1024) : val_main_v44 (F := Ideal) x0 x1 x2 x3 x4 x5 (ix3 b l k)
    = layerAt x0 x1 x2 x3 x4 x5 (⟨b.val * 4096 + l.val, by omega⟩ : Fin 17408) (⟨b.val, by omega⟩ : Fin 8) k := by
  pointwise [val_main_v44, val_main_v43, val_main_v42, val_main_v41, val_main_v40, val_main_v39, val_main_v38, val_main_call0_v5,
    val_main_call0_v4, val_main_call0_v3, val_main_call0_v2, val_main_call0_v1, val_main_call0_v0, val_main_call0_cst, val_main_call0_cst_0,
    val_main_v37, val_main_v36, val_main_v35, val_main_v34, val_main_v33, val_main_v32, val_main_v31, val_main_v9, val_main_v8, val_main_v1,
    val_main_v0]
  simp only [modulated_latent]
  rfl

theorem modulated_context (b : Fin 4) (l : Fin 256) (d : Fin 1024) : val_main_v71 (F := Ideal) x0 x1 x2 (ix3 b l d)
    = modulated (fun d => x0 (ix2 (⟨16384 + (b.val * 256 + l.val), by omega⟩ : Fin 17408) d)) (fun d => x2 (ix3 0 1 d))
      (fun d => x1 (ix4 3 4 0 d)) (fun d => x1 (ix4 4 4 0 d)) d := by
  pointwise [val_main_v71, val_main_v70, val_main_v69, val_main_v68, val_main_v67, val_main_v66, val_main_cst_6, val_main_v65, val_main_v64,
    val_main_v63, val_main_v62, val_main_v61, val_main_v60, val_main_v59, val_main_v58, val_main_cst_5, val_main_v57, val_main_v56,
    val_main_cst_4, val_main_v55, val_main_v54, val_main_cst_3, val_main_v53, val_main_v52, val_main_v51, val_main_v48, val_main_v47,
    val_main_v46, val_main_v45, val_main_v3, val_main_v2]
  rfl

theorem context_apply (b : Fin 4) (l : Fin 256) (k : Fin 1024) : val_main_v85 (F := Ideal) x0 x1 x2 x3 x4 x5 (ix3 b l k)
    = layerAt x0 x1 x2 x3 x4 x5 (⟨16384 + (b.val * 256 + l.val), by omega⟩ : Fin 17408) 4 k := by
  pointwise [val_main_v85, val_main_v84, val_main_v83, val_main_v82, val_main_v81, val_main_v80, val_main_v79, val_main_call1_v5,
    val_main_call1_v4, val_main_call1_v3, val_main_call1_v2, val_main_call1_v1, val_main_call1_v0, val_main_call1_cst, val_main_call1_cst_0,
    val_main_v78, val_main_v77, val_main_v76, val_main_v75, val_main_v74, val_main_v73, val_main_v72, val_main_v50, val_main_v49, val_main_v3,
    val_main_v2]
  simp only [modulated_context]
  rfl

/-- The reference at a row and a column. -/
theorem result_apply (R : Fin 17408) (k : Fin 1024) : val_main_v88 (F := Ideal) x0 x1 x2 x3 x4 x5 (ix2 R k)
    = layerAt x0 x1 x2 x3 x4 x5 R (streamOf R) k := by
  have hR := R.isLt
  pointwise [val_main_v88]
  by_cases h : R.val < 16384
  · simp only [dif_pos h]
    pointwise [val_main_v86]
    rw [latent_apply]
    exact congrArg₂ (fun a b => layerAt x0 x1 x2 x3 x4 x5 a b k) (Fin.ext (by simp only; omega)) (if_pos h).symm
  · simp only [dif_neg h]
    pointwise [val_main_v87]
    rw [context_apply]
    exact congrArg₂ (fun a b => layerAt x0 x1 x2 x3 x4 x5 a b k) (Fin.ext (by simp only; omega)) (if_neg h).symm

end Cert.FfnReferenceIdeal.Dense
end
-- ==== Proof.FfnIdeal.Value.lean ====
/- The feed-forward call's result array over its arguments. -/
module
public import proofs.«01_k».proof.Proof.DenseReference
public import proofs.«01_k».proof.Proof.Gen.FfnIdeal.Value
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.FfnIdeal.Value
open Cert.FfnIdeal Cert.FfnIdeal.Gen Cert.Dense Cert.FfnReferenceIdeal.Dense

/-- What the body stores, over the blocks it reads. -/
theorem payload_apply (x : FVec Ideal S512x1024 .f32) (g : FVec Ideal S1x1024 .f32) (sh sc gt : FVec Ideal S1x1x1x1024 .f32)
    (G U : FVec Ideal S1x1024x2816 .bf16) (D : FVec Ideal S1x2816x1024 .bf16) (r : Fin 512) (k : Fin 1024) :
    k0_pay1 (F := Ideal) x (k0_pay2 x g sh sc G U) gt D (ix2 r k)
      = layer (fun d => x (ix2 r d)) (fun d => g (ix2 0 d)) (fun d => sh (ix4 0 0 0 d)) (fun d => sc (ix4 0 0 0 d)) (fun d => gt (ix4 0 0 0 d))
        (fun d h => G (ix3 0 d h)) (fun d h => U (ix3 0 d h)) (fun h e => D (ix3 0 h e)) k := by
  pointwise [k0_pay1, k0_pay2]
  rfl

/-- What a grid point writes back. -/
theorem out_apply (x : FVec Ideal S512x1024 .f32) (sh sc gt : FVec Ideal S1x1x1x1024 .f32) (g : FVec Ideal S1x1024 .f32)
    (G U : FVec Ideal S1x1024x2816 .bf16) (D : FVec Ideal S1x2816x1024 .bf16) (r : Fin 512) (k : Fin 1024) :
    out0_8 (F := Ideal) x sh sc gt g G U D (ix2 r k)
      = layer (fun d => x (ix2 r d)) (fun d => g (ix2 0 d)) (fun d => sh (ix4 0 0 0 d)) (fun d => sc (ix4 0 0 0 d)) (fun d => gt (ix4 0 0 0 d))
        (fun d h => G (ix3 0 d h)) (fun d h => U (ix3 0 d h)) (fun h e => D (ix3 0 h e)) k := by
  have whole : out0_8 (F := Ideal) x sh sc gt g G U D = k0_pay1 (F := Ideal) x (k0_pay2 x g sh sc G U) gt D := by
    unfold out0_8
    rw [View.canon_cons_unit_lit _ _ _ (by decide)]
    have lx : View.ld (Val := Elt Ideal) (e' := .f32) x r0_0 = x := View.ld_unit_lit (Val := Elt Ideal) (S := S512x1024) (e := .f32) (off := ![0, 0]) _ x (by decide)
    have lg : View.ld (Val := Elt Ideal) (e' := .f32) g r0_1 = g := View.ld_unit_lit (Val := Elt Ideal) (S := S1x1024) (e := .f32) (off := ![0, 0]) _ g (by decide)
    have lsh : View.ld (Val := Elt Ideal) (e' := .f32) sh r0_2 = sh := View.ld_unit_lit (Val := Elt Ideal) (S := S1x1x1x1024) (e := .f32) (off := ![0, 0, 0, 0]) _ sh (by decide)
    have lsc : View.ld (Val := Elt Ideal) (e' := .f32) sc r0_2 = sc := View.ld_unit_lit (Val := Elt Ideal) (S := S1x1x1x1024) (e := .f32) (off := ![0, 0, 0, 0]) _ sc (by decide)
    have lgt : View.ld (Val := Elt Ideal) (e' := .f32) gt r0_2 = gt := View.ld_unit_lit (Val := Elt Ideal) (S := S1x1x1x1024) (e := .f32) (off := ![0, 0, 0, 0]) _ gt (by decide)
    have lG : View.ld (Val := Elt Ideal) (e' := .bf16) G r0_3 = G := View.ld_unit_lit (Val := Elt Ideal) (S := S1x1024x2816) (e := .bf16) (off := ![0, 0, 0]) _ G (by decide)
    have lU : View.ld (Val := Elt Ideal) (e' := .bf16) U r0_3 = U := View.ld_unit_lit (Val := Elt Ideal) (S := S1x1024x2816) (e := .bf16) (off := ![0, 0, 0]) _ U (by decide)
    have lD : View.ld (Val := Elt Ideal) (e' := .bf16) D r0_4 = D := View.ld_unit_lit (Val := Elt Ideal) (S := S1x2816x1024) (e := .bf16) (off := ![0, 0, 0]) _ D (by decide)
    rw [lx, lg, lsh, lsc, lgt, lG, lU, lD]
  exact (congrFun whole _).trans (payload_apply x g sh sc gt G U D r k)

variable (m : (ℓ : Loc nD τ sig) → Buf (Elt Ideal) ℓ)

theorem gainArray (c : Dev nD) (d : Fin 1024) : V m c main_v5 (ix2 0 d) = m ((c : Thread nD τ).loc main_arg2) (ix3 0 1 d) := by
  entry_read
  pointwise
theorem gateArray (c : Dev nD) (a : Fin 2) (d : Fin 1024) (h : Fin 2816) : V m c main_v0 (ix3 a d h) = m ((c : Thread nD τ).loc main_arg3) (ix3 a d h) := by
  entry_read
  pointwise
theorem upArray (c : Dev nD) (a : Fin 2) (d : Fin 1024) (h : Fin 2816) : V m c main_v1 (ix3 a d h) = m ((c : Thread nD τ).loc main_arg4) (ix3 a d h) := by
  entry_read
  pointwise
theorem downArray (c : Dev nD) (a : Fin 2) (h : Fin 2816) (d : Fin 1024) : V m c main_v2 (ix3 a h d) = m ((c : Thread nD τ).loc main_arg5) (ix3 a h d) := by
  entry_read
  pointwise

/-- Tile `t`'s modulation. -/
abbrev tileSeq (t : ℕ) : ℕ := if t < 32 then t / 8 else 4

theorem idx : ∀ t : Fin cfg0.N, win0_0.index t = ![t.val, 0]
    ∧ win0_1.index t = ![3, tileSeq t.val, 0, 0] ∧ win0_2.index t = ![4, tileSeq t.val, 0, 0] ∧ win0_3.index t = ![5, tileSeq t.val, 0, 0]
    ∧ win0_4.index t = ![0, 0] ∧ win0_5.index t = ![0, 0, 0] ∧ win0_6.index t = ![0, 0, 0] ∧ win0_7.index t = ![0, 0, 0]
    ∧ win0_8.index t = ![t.val, 0] ∧ t.val < 34 :=
  (by decide +kernel : ∀ t : Fin grid0.N, _)

theorem block0 (c : Dev nD) (t : Fin cfg0.N) (r : Fin 512) (d : Fin 1024) (R : Fin 17408) (hR : R.val = t.val * 512 + r.val) :
    iblk m c 0 t (ix2 r d) = V m c main_arg0 (ix2 R d) := by
  blk_ext [iblk, idx t]
theorem block1 (c : Dev nD) (t : Fin cfg0.N) (d : Fin 1024) (s : Fin 8) (hs : s.val = tileSeq t.val) :
    iblk m c 1 t (ix4 0 0 0 d) = V m c main_arg1 (ix4 3 s 0 d) := by
  blk_ext [iblk, idx t]
theorem block2 (c : Dev nD) (t : Fin cfg0.N) (d : Fin 1024) (s : Fin 8) (hs : s.val = tileSeq t.val) :
    iblk m c 2 t (ix4 0 0 0 d) = V m c main_arg1 (ix4 4 s 0 d) := by
  blk_ext [iblk, idx t]
theorem block3 (c : Dev nD) (t : Fin cfg0.N) (d : Fin 1024) (s : Fin 8) (hs : s.val = tileSeq t.val) :
    iblk m c 3 t (ix4 0 0 0 d) = V m c main_arg1 (ix4 5 s 0 d) := by
  blk_ext [iblk, idx t]
theorem block4 (c : Dev nD) (t : Fin cfg0.N) (d : Fin 1024) : iblk m c 4 t (ix2 0 d) = V m c main_v5 (ix2 0 d) := by
  blk_ext [iblk, idx t]
theorem block5 (c : Dev nD) (t : Fin cfg0.N) (d : Fin 1024) (h : Fin 2816) : iblk m c 5 t (ix3 0 d h) = V m c main_v0 (ix3 0 d h) := by
  blk_ext [iblk, idx t]
theorem block6 (c : Dev nD) (t : Fin cfg0.N) (d : Fin 1024) (h : Fin 2816) : iblk m c 6 t (ix3 0 d h) = V m c main_v1 (ix3 0 d h) := by
  blk_ext [iblk, idx t]
theorem block7 (c : Dev nD) (t : Fin cfg0.N) (h : Fin 2816) (d : Fin 1024) : iblk m c 7 t (ix3 0 h d) = V m c main_v2 (ix3 0 h d) := by
  blk_ext [iblk, idx t]

/-- The layer over the launch's arguments. -/
abbrev result (c : Dev nD) (R : Fin 17408) (k : Fin 1024) : EReal :=
  layerAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) R (streamOf R) k

/-- What a grid point leaves at a row and a column of its block. -/
theorem point (c : Dev nD) (t : Fin cfg0.N) (r : Fin 512) (k : Fin 1024) (R : Fin 17408) (hR : R.val = t.val * 512 + r.val) :
    out0_8 (iblk m c 0 t) (iblk m c 1 t) (iblk m c 2 t) (iblk m c 3 t) (iblk m c 4 t) (iblk m c 5 t) (iblk m c 6 t) (iblk m c 7 t) (ix2 r k)
      = result m c R k := by
  have ht : t.val < 34 := (idx t).2.2.2.2.2.2.2.2.2
  have hr := r.isLt
  have hs : (streamOf R).val = tileSeq t.val := by
    unfold streamOf tileSeq
    by_cases h : t.val < 32
    · rw [if_pos h, if_pos (by omega)]; show R.val / 4096 = _; omega
    · rw [if_neg h, if_neg (by omega)]; rfl
  refine (out_apply _ _ _ _ _ _ _ _ r k).trans ?_
  have e0 := funext fun d => (block0 m c t r d R hR).trans (congrFun (V_main_arg0 m c) _)
  have e1 := funext fun d => (block1 m c t d (streamOf R) hs).trans (congrFun (V_main_arg1 m c) _)
  have e2 := funext fun d => (block2 m c t d (streamOf R) hs).trans (congrFun (V_main_arg1 m c) _)
  have e3 := funext fun d => (block3 m c t d (streamOf R) hs).trans (congrFun (V_main_arg1 m c) _)
  have e4 := funext fun d => (block4 m c t d).trans (gainArray m c d)
  have e5 := funext fun d => funext fun h => (block5 m c t d h).trans (gateArray m c 0 d h)
  have e6 := funext fun d => funext fun h => (block6 m c t d h).trans (upArray m c 0 d h)
  have e7 := funext fun h => funext fun d => (block7 m c t h d).trans (downArray m c 0 h d)
  exact layer_congr e0 e4 e1 e2 e3 e5 e6 e7 k

/-- The feed-forward call leaves the layer of its arguments. -/
theorem final (c : Dev nD) : (dats m 0 c).arrAt 8 (cfgs 0).N = fun i => result m c (i 0) (i 1) := by
  refine (dats m 0 c).arrAt_eq_of_covers 8 _ (by decide +kernel) fun t hf y => ?_
  blk_simp
  rw [after0_8]
  revert y
  show ∀ y : S512x1024.Idx, out0_8 (iblk m c 0 t) (iblk m c 1 t) (iblk m c 2 t) (iblk m c 3 t) (iblk m c 4 t) (iblk m c 5 t) (iblk m c 6 t) (iblk m c 7 t) y = _
  intro y
  idx_vars y
  have ht : t.val < 34 := (idx t).2.2.2.2.2.2.2.2.2
  refine (point m c t y0 y1 (⟨t.val * 512 + y0.val, by omega⟩ : Fin 17408) rfl).trans ?_
  refine congrArg₂ (result m c) (Fin.ext ?_) (Fin.ext ?_)
  · blk_simp [idx t]
  · blk_simp [idx t]

end Cert.FfnIdeal.Value
end
-- ==== Proof.Gelu.lean ====
/- The smooth gate of the gated chunk mixer: the hyperbolic tangent's form and the quotient's form are one function. -/
module
public import Idealize.ShloMosaic.PureOps.Ideal.Laws

@[expose] public section
noncomputable section
open Idealize.ShloMosaic
namespace Cert.Mixer

/-- The factor of the tangent's argument. -/
def root : ℝ := 6693141 / 8388608
/-- The factor of the cube in it. -/
def cubic : ℝ := 12003091 / 268435456
/-- The exponent's linear factor, to the base two. -/
def rate : ℝ := -2 * (root * (Real.log 2)⁻¹)

/-- The gate by the hyperbolic tangent. -/
def gelu (z : EReal) : EReal :=
  z * (((1 / 2 : ℝ) : EReal) * (1 + Ideal.tanh ((root : EReal) * (z + (cubic : EReal) * (z * z * z)))))

theorem root_word : Ideal.ofBits .f32 0x3F4C422A#32 = (root : EReal) := by
  simp [Ideal.ofBits, Ideal.ieee, root]
  norm_cast
  norm_num
theorem cubic_word : Ideal.ofBits .f32 0x3D372713#32 = (cubic : EReal) := by
  simp [Ideal.ofBits, Ideal.ieee, cubic]
  norm_cast
theorem half_word : Ideal.ofBits .f32 0x3F000000#32 = ((1 / 2 : ℝ) : EReal) := by
  simp [Ideal.ofBits, Ideal.ieee]
  norm_cast
  norm_num
theorem one_word : Ideal.ofBits .f32 0x3F800000#32 = (1 : EReal) := by
  simp [Ideal.ofBits, Ideal.ieee]
  norm_cast
  norm_num

/-- Over the reals: one over one more than an exponential is half of one more than a tangent. -/
theorem half_tanh (w : ℝ) : (1 + Real.exp (-2 * w))⁻¹ = 1 / 2 * (1 + Real.tanh w) := by
  rw [Real.tanh_eq_sinh_div_cosh, Real.sinh_eq, Real.cosh_eq]
  have h1 := Real.exp_pos w
  have h2 := Real.exp_pos (-w)
  have h3 : Real.exp (-2 * w) = Real.exp (-w) * Real.exp (-w) := by rw [← Real.exp_add]; ring_nf
  have h4 : Real.exp w * Real.exp (-w) = 1 := by rw [← Real.exp_add]; simp
  rw [h3]
  field_simp
  nlinarith [h4]

theorem exponent (r : ℝ) : (2 : ℝ) ^ (r * (r * r * (rate * cubic) + rate)) = Real.exp (-2 * (root * (r + cubic * (r * r * r)))) := by
  rw [Real.rpow_def_of_pos (by norm_num)]
  have h : Real.log 2 ≠ 0 := (Real.log_pos (by norm_num)).ne'
  congr 1
  unfold rate
  field_simp
  ring

/-- The quotient's form of the gate. -/
theorem gelu_quotient (z : EReal) :
    Ideal.div z (1 + Ideal.exp2 (z * (z * z * ((rate * cubic : ℝ) : EReal) + ((rate : ℝ) : EReal)))) = gelu z := by
  have hl : 0 < (Real.log 2)⁻¹ := inv_pos.mpr (Real.log_pos (by norm_num))
  have hr : rate < 0 := by unfold rate root; nlinarith
  have hc : 0 < cubic := by unfold cubic; norm_num
  have ho : 0 < root := by unfold root; norm_num
  have hrc : rate * cubic < 0 := mul_neg_of_neg_of_pos hr hc
  induction z using EReal.rec with
  | bot =>
    have a : (⊥ : EReal) * (⊥ * ⊥ * ((rate * cubic : ℝ) : EReal) + ((rate : ℝ) : EReal)) = ⊤ := by
      rw [EReal.bot_mul_bot, EReal.top_mul_coe_of_neg hrc, EReal.bot_add, EReal.bot_mul_bot]
    have b : (root : EReal) * ((⊥ : EReal) + (cubic : EReal) * (⊥ * ⊥ * ⊥)) = ⊥ := by
      rw [EReal.bot_add, EReal.coe_mul_bot_of_pos ho]
    rw [a]
    unfold gelu
    rw [b, Ideal.tanh_bot, Ideal.exp2_top]
    have c : (1 : EReal) + ⊤ = ⊤ := rfl
    have d : (1 : EReal) + -1 = 0 := by rw [← EReal.coe_one, ← EReal.coe_neg, ← EReal.coe_add]; simp
    rw [c, d, mul_zero, mul_zero, Ideal.div, if_neg (by decide), EReal.inv_top, mul_zero]
  | top =>
    have a : (⊤ : EReal) * (⊤ * ⊤ * ((rate * cubic : ℝ) : EReal) + ((rate : ℝ) : EReal)) = ⊥ := by
      rw [EReal.top_mul_top, EReal.top_mul_coe_of_neg hrc, EReal.bot_add, EReal.top_mul_bot]
    have b : (root : EReal) * ((⊤ : EReal) + (cubic : EReal) * (⊤ * ⊤ * ⊤)) = ⊤ := by
      rw [EReal.top_mul_top, EReal.top_mul_top, EReal.coe_mul_top_of_pos hc, EReal.top_add_top, EReal.coe_mul_top_of_pos ho]
    rw [a]
    unfold gelu
    rw [b, Ideal.tanh_top, Ideal.exp2_bot, add_zero]
    have d : ((1 / 2 : ℝ) : EReal) * (1 + 1) = 1 := by
      rw [← EReal.coe_one, ← EReal.coe_add, ← EReal.coe_mul]; norm_num
    rw [d, Ideal.div, if_neg one_ne_zero, inv_one]
  | coe r =>
    have a : (r : EReal) * ((r : EReal) * r * ((rate * cubic : ℝ) : EReal) + ((rate : ℝ) : EReal)) = ((r * (r * r * (rate * cubic) + rate) : ℝ) : EReal) := by
      push_cast; rfl
    have b : (root : EReal) * ((r : EReal) + (cubic : EReal) * ((r : EReal) * r * r)) = ((root * (r + cubic * (r * r * r)) : ℝ) : EReal) := by
      push_cast; rfl
    rw [a]
    unfold gelu
    rw [b, Ideal.tanh_coe, Ideal.exp2_coe]
    have e := exponent r
    have p := Real.exp_pos (-2 * (root * (r + cubic * (r * r * r))))
    have q : (1 : EReal) + ((Real.rpow 2 (r * (r * r * (rate * cubic) + rate)) : ℝ) : EReal)
        = ((1 + Real.exp (-2 * (root * (r + cubic * (r * r * r)))) : ℝ) : EReal) := by
      rw [← e]; push_cast; rfl
    rw [q, Ideal.div_coe (by linarith), one_div, half_tanh]
    push_cast
    rfl

end Cert.Mixer
end
-- ==== Proof.Mixer.lean ====
/- The gated chunk mixer: the rows of a chunk normalised and modulated, gated, their second halves normalised and mixed
   across the chunk's rows group by group, times their first halves, and the row with its gated result added. -/
module
public import proofs.«01_k».proof.Proof.Gelu
public import proofs.«01_k».proof.Proof.Dense

@[expose] public section
noncomputable section
open Idealize.ShloMosaic
namespace Cert.Mixer
open Cert.Dense (modulated)

/-- A row's gated column `a`. -/
def gated (T : Fin 1024 → EReal) (W : Fin 1024 → Fin 4096 → EReal) (a : Fin 4096) : EReal := gelu (∑ d, T d * W d a)

/-- A column of the row's first half. -/
def first (T : Fin 1024 → EReal) (W : Fin 1024 → Fin 4096 → EReal) (j : Fin 2048) : EReal := gated T W (⟨j, by omega⟩ : Fin 4096)

/-- A column of the row's second half. -/
def second (T : Fin 1024 → EReal) (W : Fin 1024 → Fin 4096 → EReal) (j : Fin 2048) : EReal := gated T W (⟨2048 + j, by omega⟩ : Fin 4096)

/-- The second half over its root mean square, times `q`. -/
def normed (T : Fin 1024 → EReal) (W : Fin 1024 → Fin 4096 → EReal) (q : Fin 2048 → EReal) (j : Fin 2048) : EReal :=
  second T W j * Ideal.rsqrt (Ideal.div (∑ e, second T W e * second T W e) (Ideal.ofBits FTy.f32 0x45000000#32) + Ideal.ofBits FTy.f32 0x358637BD#32) * q j

/-- The group of a column. -/
def groupOf (j : Fin 2048) : Fin 8 := ⟨j / 256, by omega⟩

/-- Row `t` of a chunk, column `j`: the second halves mixed by the group's weights, and the group's addend. -/
def mixed (T : Fin 128 → Fin 1024 → EReal) (W : Fin 1024 → Fin 4096 → EReal) (q : Fin 2048 → EReal) (S : Fin 8 → Fin 128 → Fin 128 → EReal)
    (B : Fin 8 → Fin 128 → EReal) (t : Fin 128) (j : Fin 2048) : EReal :=
  (∑ s, S (groupOf j) t s * normed (T s) W q j) + B (groupOf j) t

/-- Row `t` of a chunk after the mixer, column `k`. -/
def mixer (x : Fin 128 → Fin 1024 → EReal) (g shift scale gate : Fin 1024 → EReal) (W : Fin 1024 → Fin 4096 → EReal) (q : Fin 2048 → EReal)
    (S : Fin 8 → Fin 128 → Fin 128 → EReal) (B : Fin 8 → Fin 128 → EReal) (D : Fin 2048 → Fin 1024 → EReal) (t : Fin 128) (k : Fin 1024) : EReal :=
  x t k + gate k * ∑ j, first (modulated (x t) g shift scale) W j * mixed (fun s => modulated (x s) g shift scale) W q S B t j * D j k

theorem mixer_congr {x x' : Fin 128 → Fin 1024 → EReal} {g g' sh sh' sc sc' gt gt' : Fin 1024 → EReal} {W W' : Fin 1024 → Fin 4096 → EReal}
    {q q' : Fin 2048 → EReal} {S S' : Fin 8 → Fin 128 → Fin 128 → EReal} {B B' : Fin 8 → Fin 128 → EReal} {D D' : Fin 2048 → Fin 1024 → EReal}
    (hx : x = x') (hg : g = g') (hsh : sh = sh') (hsc : sc = sc') (hgt : gt = gt') (hW : W = W') (hq : q = q') (hS : S = S') (hB : B = B')
    (hD : D = D') (t : Fin 128) (k : Fin 1024) :
    mixer x g sh sc gt W q S B D t k = mixer x' g' sh' sc' gt' W' q' S' B' D' t k := by
  subst hx hg hsh hsc hgt hW hq hS hB hD
  rfl

/-- Row `R` of the sequences' rows followed by the context's. -/
def rowOf (x : Fin 16384 → Fin 1024 → EReal) (xc : Fin 1024 → Fin 1024 → EReal) (R : Fin 17408) : Fin 1024 → EReal :=
  if h : R.val < 16384 then x ⟨R, h⟩ else xc ⟨R - 16384, by omega⟩

/-- Row `s` of the chunk of row `R`. -/
def chunkRow (R : Fin 17408) (s : Fin 128) : Fin 17408 := ⟨R / 128 * 128 + s, by omega⟩

/-- Row `R`'s place in its chunk. -/
def placeOf (R : Fin 17408) : Fin 128 := ⟨R % 128, by omega⟩

end Cert.Mixer
end
-- ==== Proof.MixerReference.lean ====
/- The reference's gated chunk mixer at a row and a column. -/
module
public import proofs.«01_k».proof.Proof.Mixer
public import proofs.«01_k».proof.Proof.Gen.GmlpReferenceIdeal.Read
public import Idealize.ShloMosaic.Lib.Claim
public import Idealize.ShloMosaic.Lib.Tactic

@[expose] public section
set_option maxRecDepth 16384
noncomputable section
open Idealize.ShloMosaic Idealize.ShloMosaic.TcCoe Idealize.SL.Sem Idealize.ShloMosaic.StableHlo Idealize.ShloMosaic.Tactic
namespace Cert.GmlpReferenceIdeal.Mixer
open Cert.GmlpReferenceIdeal Cert.GmlpReferenceIdeal.Gen Cert.GmlpReferenceIdeal.Read Cert.Mixer Cert.Dense

abbrev Arr (s : Shape) (e : EltTy) : Type := (⟨s, e⟩ : BufTy).Contents (Elt Ideal)

variable (x0 : Arr S16384x1024 .f32) (x1 : Arr S1024x1024 .f32) (x2 : Arr S6x8x1x1024 .f32) (x3 : Arr S4x2x1024 .f32) (x4 : Arr S2x1024x4096 .f32)
  (x5 : Arr S2x2048 .f32) (x6 : Arr S2x8x128x128 .f32) (x7 : Arr S2x8x128 .f32) (x8 : Arr S2x2048x1024 .f32)

/-- The mixer over the arguments, for a chunk's rows `x` under modulation `s`. -/
def mixerAt (x : Fin 128 → Fin 1024 → EReal) (s : Fin 8) (t : Fin 128) (k : Fin 1024) : EReal :=
  mixer x (fun d => x3 (ix3 0 0 d)) (fun d => x2 (ix4 0 s 0 d)) (fun d => x2 (ix4 1 s 0 d)) (fun d => x2 (ix4 2 s 0 d))
    (fun d a => x4 (ix3 0 d a)) (fun j => x5 (ix2 0 j)) (fun g a b => x6 (ix4 0 g a b)) (fun g a => x7 (ix3 0 g a)) (fun j e => x8 (ix3 0 j e)) t k

/-- Row `l` of sequence `b`, modulated. -/
def latentRow (b : Fin 4) (l : Fin 4096) : Fin 1024 → EReal :=
  modulated (fun d => x0 (ix2 (⟨b.val * 4096 + l.val, by omega⟩ : Fin 16384) d)) (fun d => x3 (ix3 0 0 d))
      (fun d => x2 (ix4 0 (⟨b.val, by omega⟩ : Fin 8) 0 d)) (fun d => x2 (ix4 1 (⟨b.val, by omega⟩ : Fin 8) 0 d))

theorem modulated_latent (b : Fin 4) (l : Fin 4096) (d : Fin 1024) : val_main_v27 (F := Ideal) x0 x2 x3 (ix3 b l d) = latentRow x0 x2 x3 b l d := by
  pointwise [val_main_v27, val_main_v26, val_main_v25, val_main_v24, val_main_v23,
    val_main_v22, val_main_cst_2, val_main_v21, val_main_v20, val_main_v19, val_main_v18, val_main_v17, val_main_v16, val_main_v15,
    val_main_v14, val_main_cst_1, val_main_v13, val_main_v12, val_main_cst_0, val_main_v11, val_main_v10, val_main_cst, val_main_v9,
    val_main_v8, val_main_v7, val_main_v4, val_main_v3, val_main_v2, val_main_v1, val_main_v0]
  rfl

theorem gated_latent (b : Fin 4) (l : Fin 4096) (a : Fin 4096) : val_main_v51 (F := Ideal) x0 x2 x3 x4 (ix3 b l a)
    = gated (latentRow x0 x2 x3 b l) (fun d a => x4 (ix3 0 d a)) a := by
  have h : val_main_v38 (F := Ideal) x0 x2 x3 x4 (ix3 b l a) = ∑ d, latentRow x0 x2 x3 b l d * x4 (ix3 0 d a) := by
    pointwise [val_main_v38, val_main_v29, val_main_v28]
    simp only [modulated_latent]
  pointwise [val_main_v51, val_main_v50, val_main_v49, val_main_cst_6, val_main_v48, val_main_v47, val_main_cst_5, val_main_v46, val_main_v45,
    val_main_v44, val_main_cst_4, val_main_v43, val_main_v42, val_main_v41, val_main_cst_3, val_main_v40, val_main_v39]
  rw [h, root_word, cubic_word, half_word]
  rfl

theorem normed_latent (b : Fin 4) (l : Fin 4096) (j : Fin 2048) : val_main_v66 (F := Ideal) x0 x2 x3 x4 x5 (ix3 b l j)
    = normed (latentRow x0 x2 x3 b l) (fun d a => x4 (ix3 0 d a)) (fun j => x5 (ix2 0 j)) j := by
  pointwise [val_main_v66, val_main_v65, val_main_v64, val_main_v63, val_main_v62, val_main_v61, val_main_v60, val_main_v59, val_main_cst_9,
    val_main_v58, val_main_v57, val_main_cst_8, val_main_v56, val_main_v55, val_main_cst_7, val_main_v54, val_main_v53, val_main_v31, val_main_v30]
  simp only [gated_latent]
  rfl

theorem mixed_latent (b : Fin 4) (l : Fin 4096) (j : Fin 2048) : val_main_v75 (F := Ideal) x0 x2 x3 x4 x5 x6 x7 (ix3 b l j)
    = mixed (fun s => latentRow x0 x2 x3 b (⟨l / 128 * 128 + s, by omega⟩ : Fin 4096)) (fun d a => x4 (ix3 0 d a)) (fun j => x5 (ix2 0 j))
      (fun g a b => x6 (ix4 0 g a b)) (fun g a => x7 (ix3 0 g a)) (⟨l % 128, by omega⟩ : Fin 128) j := by
  pointwise [val_main_v75, val_main_v74, val_main_v73, val_main_v72, val_main_v71, val_main_v70, val_main_v69, val_main_v68, val_main_v67,
    val_main_v35, val_main_v34, val_main_v33, val_main_v32]
  simp only [normed_latent]
  unfold mixed groupOf
  exact congrArg (· + _) (Finset.sum_congr rfl fun s _ => mul_comm _ _)

theorem latent_apply (b : Fin 4) (l : Fin 4096) (k : Fin 1024) : val_main_v80 (F := Ideal) x0 x2 x3 x4 x5 x6 x7 x8 (ix3 b l k)
    = mixerAt x2 x3 x4 x5 x6 x7 x8 (fun s d => x0 (ix2 (⟨b.val * 4096 + (l.val / 128 * 128 + s.val), by omega⟩ : Fin 16384) d))
      (⟨b.val, by omega⟩ : Fin 8) (⟨l % 128, by omega⟩ : Fin 128) k := by
  pointwise [val_main_v80, val_main_v79, val_main_v78, val_main_v77, val_main_v76, val_main_v52, val_main_v37, val_main_v36, val_main_v6, val_main_v5,
    val_main_v0]
  simp only [gated_latent, mixed_latent]
  have e : (⟨l / 128 * 128 + l % 128, by omega⟩ : Fin 4096) = l := Fin.ext (by simp only; omega)
  exact congrArg (fun r : Fin 4096 => x0 (ix2 (⟨b.val * 4096 + r.val, by omega⟩ : Fin 16384) k) + x2 (ix4 2 (⟨b.val, by omega⟩ : Fin 8) 0 k)
    * ∑ j, first (latentRow x0 x2 x3 b r) (fun d a => x4 (ix3 0 d a)) j
      * mixed (fun s => latentRow x0 x2 x3 b (⟨l / 128 * 128 + s, by omega⟩ : Fin 4096)) (fun d a => x4 (ix3 0 d a)) (fun j => x5 (ix2 0 j))
        (fun g a b => x6 (ix4 0 g a b)) (fun g a => x7 (ix3 0 g a)) (⟨l % 128, by omega⟩ : Fin 128) j * x8 (ix3 0 j k)) e.symm

/-- Row `l` of context `b`, modulated. -/
def contextRow (b : Fin 4) (l : Fin 256) : Fin 1024 → EReal :=
  modulated (fun d => x1 (ix2 (⟨b.val * 256 + l.val, by omega⟩ : Fin 1024) d)) (fun d => x3 (ix3 0 0 d))
      (fun d => x2 (ix4 0 4 0 d)) (fun d => x2 (ix4 1 4 0 d))

theorem modulated_context (b : Fin 4) (l : Fin 256) (d : Fin 1024) : val_main_v108 (F := Ideal) x1 x2 x3 (ix3 b l d) = contextRow x1 x2 x3 b l d := by
  pointwise [val_main_v108, val_main_v107, val_main_v106, val_main_v105, val_main_v104,
    val_main_v103, val_main_cst_13, val_main_v102, val_main_v101, val_main_v100, val_main_v99, val_main_v98, val_main_v97, val_main_v96,
    val_main_v95, val_main_cst_12, val_main_v94, val_main_v93, val_main_cst_11, val_main_v92, val_main_v91, val_main_cst_10, val_main_v90,
    val_main_v89, val_main_v88, val_main_v85, val_main_v84, val_main_v83, val_main_v82, val_main_v81]
  rfl

theorem gated_context (b : Fin 4) (l : Fin 256) (a : Fin 4096) : val_main_v132 (F := Ideal) x1 x2 x3 x4 (ix3 b l a)
    = gated (contextRow x1 x2 x3 b l) (fun d a => x4 (ix3 0 d a)) a := by
  have h : val_main_v119 (F := Ideal) x1 x2 x3 x4 (ix3 b l a) = ∑ d, contextRow x1 x2 x3 b l d * x4 (ix3 0 d a) := by
    pointwise [val_main_v119, val_main_v110, val_main_v109]
    simp only [modulated_context]
  pointwise [val_main_v132, val_main_v131, val_main_v130, val_main_cst_17, val_main_v129, val_main_v128, val_main_cst_16, val_main_v127, val_main_v126,
    val_main_v125, val_main_cst_15, val_main_v124, val_main_v123, val_main_v122, val_main_cst_14, val_main_v121, val_main_v120]
  rw [h, root_word, cubic_word, half_word]
  rfl

theorem normed_context (b : Fin 4) (l : Fin 256) (j : Fin 2048) : val_main_v147 (F := Ideal) x1 x2 x3 x4 x5 (ix3 b l j)
    = normed (contextRow x1 x2 x3 b l) (fun d a => x4 (ix3 0 d a)) (fun j => x5 (ix2 0 j)) j := by
  pointwise [val_main_v147, val_main_v146, val_main_v145, val_main_v144, val_main_v143, val_main_v142, val_main_v141, val_main_v140, val_main_cst_20,
    val_main_v139, val_main_v138, val_main_cst_19, val_main_v137, val_main_v136, val_main_cst_18, val_main_v135, val_main_v134, val_main_v112, val_main_v111]
  simp only [gated_context]
  rfl

theorem mixed_context (b : Fin 4) (l : Fin 256) (j : Fin 2048) : val_main_v156 (F := Ideal) x1 x2 x3 x4 x5 x6 x7 (ix3 b l j)
    = mixed (fun s => contextRow x1 x2 x3 b (⟨l / 128 * 128 + s, by omega⟩ : Fin 256)) (fun d a => x4 (ix3 0 d a)) (fun j => x5 (ix2 0 j))
      (fun g a b => x6 (ix4 0 g a b)) (fun g a => x7 (ix3 0 g a)) (⟨l % 128, by omega⟩ : Fin 128) j := by
  pointwise [val_main_v156, val_main_v155, val_main_v154, val_main_v153, val_main_v152, val_main_v151, val_main_v150, val_main_v149, val_main_v148,
    val_main_v116, val_main_v115, val_main_v114, val_main_v113]
  simp only [normed_context]
  unfold mixed groupOf
  exact congrArg (· + _) (Finset.sum_congr rfl fun s _ => mul_comm _ _)

theorem context_apply (b : Fin 4) (l : Fin 256) (k : Fin 1024) : val_main_v161 (F := Ideal) x1 x2 x3 x4 x5 x6 x7 x8 (ix3 b l k)
    = mixerAt x2 x3 x4 x5 x6 x7 x8 (fun s d => x1 (ix2 (⟨b.val * 256 + (l.val / 128 * 128 + s.val), by omega⟩ : Fin 1024) d))
      4 (⟨l % 128, by omega⟩ : Fin 128) k := by
  pointwise [val_main_v161, val_main_v160, val_main_v159, val_main_v158, val_main_v157, val_main_v133, val_main_v118, val_main_v117, val_main_v87, val_main_v86,
    val_main_v81]
  simp only [gated_context, mixed_context]
  have e : (⟨l / 128 * 128 + l % 128, by omega⟩ : Fin 256) = l := Fin.ext (by simp only; omega)
  exact congrArg (fun r : Fin 256 => x1 (ix2 (⟨b.val * 256 + r.val, by omega⟩ : Fin 1024) k) + x2 (ix4 2 4 0 k)
    * ∑ j, first (contextRow x1 x2 x3 b r) (fun d a => x4 (ix3 0 d a)) j
      * mixed (fun s => contextRow x1 x2 x3 b (⟨l / 128 * 128 + s, by omega⟩ : Fin 256)) (fun d a => x4 (ix3 0 d a)) (fun j => x5 (ix2 0 j))
        (fun g a b => x6 (ix4 0 g a b)) (fun g a => x7 (ix3 0 g a)) (⟨l % 128, by omega⟩ : Fin 128) j * x8 (ix3 0 j k)) e.symm

/-- The mixer over the arguments at row `R`. -/
def resultAt (R : Fin 17408) (k : Fin 1024) : EReal :=
  mixerAt x2 x3 x4 x5 x6 x7 x8 (fun s => rowOf (fun r d => x0 (ix2 r d)) (fun r d => x1 (ix2 r d)) (chunkRow R s)) (streamOf R) (placeOf R) k

/-- The reference at a row and a column. -/
theorem result_apply (R : Fin 17408) (k : Fin 1024) : val_main_v164 (F := Ideal) x0 x1 x2 x3 x4 x5 x6 x7 x8 (ix2 R k)
    = resultAt x0 x1 x2 x3 x4 x5 x6 x7 x8 R k := by
  have hR := R.isLt
  unfold resultAt
  pointwise [val_main_v164]
  by_cases h : R.val < 16384
  · simp only [dif_pos h]
    pointwise [val_main_v162]
    rw [latent_apply]
    have e : ∀ s : Fin 128, rowOf (fun r d => x0 (ix2 r d)) (fun r d => x1 (ix2 r d)) (chunkRow R s)
        = fun d => x0 (ix2 (⟨R.val / 4096 * 4096 + (R.val % 4096 / 128 * 128 + s.val), by omega⟩ : Fin 16384) d) := by
      intro s
      refine (dif_pos (show R.val / 128 * 128 + s.val < 16384 by omega)).trans ?_
      exact funext fun d => congrArg (fun r => x0 (ix2 r d)) (Fin.ext (show R.val / 128 * 128 + s.val = _ by simp only; omega))
    have p : placeOf R = (⟨R.val % 4096 % 128, by omega⟩ : Fin 128) := Fin.ext (show R.val % 128 = R.val % 4096 % 128 by omega)
    have q : streamOf R = (⟨R.val / 4096, by omega⟩ : Fin 8) := if_pos h
    rw [funext e, p, q]
  · simp only [dif_neg h]
    pointwise [val_main_v163]
    rw [context_apply]
    have e : ∀ s : Fin 128, rowOf (fun r d => x0 (ix2 r d)) (fun r d => x1 (ix2 r d)) (chunkRow R s)
        = fun d => x1 (ix2 (⟨(R.val - 16384) / 256 * 256 + ((R.val - 16384) % 256 / 128 * 128 + s.val), by omega⟩ : Fin 1024) d) := by
      intro s
      refine (dif_neg (show ¬ R.val / 128 * 128 + s.val < 16384 by omega)).trans ?_
      exact funext fun d => congrArg (fun r => x1 (ix2 r d)) (Fin.ext (show R.val / 128 * 128 + s.val - 16384 = _ by simp only; omega))
    have p : placeOf R = (⟨(R.val - 16384) % 256 % 128, by omega⟩ : Fin 128) := Fin.ext (show R.val % 128 = (R.val - 16384) % 256 % 128 by omega)
    have q : streamOf R = 4 := if_neg h
    rw [funext e, p, q]

end Cert.GmlpReferenceIdeal.Mixer
end
-- ==== Proof.Cells.lean ====
/- What a grid point of the gated chunk mixer leaves: the array of its 32 products, one for each chunk of rows and each
   group of columns, and the block made of it. -/
module
public import proofs.«01_k».proof.Proof.Gen.GmlpIdeal.Value
public import Idealize.ShloMosaic.Lib.Pipeline.ValueKit
public import Idealize.ShloMosaic.Lib.Pipeline.ReadBack
public import Idealize.ShloMosaic.Lib.Pipeline.FrameBody

@[expose] public section
set_option pp.maxSteps 300
set_option maxRecDepth 16384
noncomputable section
open Idealize.ShloMosaic Idealize.ShloMosaic.TcCoe Idealize.SL.Sem
open Idealize.ShloMosaic.Pipeline (Dat)
namespace Cert.GmlpIdeal.Value
open Cert.GmlpIdeal Cert.GmlpIdeal.Gen

theorem cellInb (n : ℕ) (a : Fin 2) : ![n / 8 % 4 * 128, n % 8 * 256] a + ![128, 256] a ≤ S512x2048.size a := by
  fin_cases a <;> simp <;> omega

/-- Where cell `n` lies: chunk `n / 8` of the rows, group `n % 8` of the columns. -/
def cellRect (n : ℕ) : Rect S512x2048 := Rect.unit (s := S512x2048) ![n / 8 % 4 * 128, n % 8 * 256] ![128, 256] (cellInb n)

/-- The mixing weights of cell `n`'s group. -/
def cellWeights (w : Vec Ideal S8x128x128 .bf16) (n : ℕ) : Vec Ideal S1x128x128 .bf16 :=
  View.ld (Val := Elt Ideal) (e' := .bf16) w (Rect.unit (s := S8x128x128) ![n % 8, 0, 0] ![1, 128, 128] (by intro a; fin_cases a <;> simp <;> omega))

/-- The addend of cell `n`'s group. -/
def cellAddend (b : Vec Ideal S128x2048 .f32) (n : ℕ) : Vec Ideal S128x256 .f32 :=
  View.ld (Val := Elt Ideal) (e' := .f32) b (Rect.unit (s := S128x2048) ![0, n % 8 * 256] ![128, 256] (by intro a; fin_cases a <;> simp <;> omega))

theorem cellSlices (n : ℕ) : S512x2048.Slices ![n / 8 % 4 * 128, n % 8 * 256] S128x256 := by
  refine ⟨rfl, ?_⟩
  intro a; fin_cases a <;> simp <;> omega

/-- Cell `n`: the first halves times the second halves mixed over the chunk. -/
def cell (u : FVec Ideal S512x2048 .f32) (v : FVec Ideal S512x2048 .bf16) (w : Vec Ideal S8x128x128 .bf16) (b : Vec Ideal S128x2048 .f32) (n : ℕ) :
    FVec Ideal S128x256 .bf16 :=
  shapeCast S128x256 (truncf .bf16 (mulf (extractStridedSlice S128x256 ![n / 8 % 4 * 128, n % 8 * 256] u (cellSlices n))
    (addf (matmul dot_S128x128_S128x256_S128x256_1_0_0_1_n_n none
        (shapeCast S128x128 (cellWeights w n) shapeCasts_S1x128x128_S128x128 : FVec Ideal S128x128 .bf16)
        (extractStridedSlice S128x256 ![n / 8 % 4 * 128, n % 8 * 256] v (cellSlices n)) (constant S128x256 .f32 0x00000000#32))
      (shapeCast S128x256 (cellAddend b n) shapeCasts_S128x256_S128x256 : FVec Ideal S128x256 .f32))) bitsLt_bf16_f32) shapeCasts_S128x256_S128x256

/-- The cells before cell `n`, the last first. -/
def cells (u : FVec Ideal S512x2048 .f32) (v : FVec Ideal S512x2048 .bf16) (w : Vec Ideal S8x128x128 .bf16) (b : Vec Ideal S128x2048 .f32) :
    ℕ → List (View.Piece (Elt Ideal) S512x2048 .bf16)
  | 0 => []
  | n + 1 => ⟨cellRect n, cell u v w b n⟩ :: cells u v w b n

theorem mem_cells (u : FVec Ideal S512x2048 .f32) (v : FVec Ideal S512x2048 .bf16) (w : Vec Ideal S8x128x128 .bf16) (b : Vec Ideal S128x2048 .f32)
    (N n : ℕ) (h : n < N) : (⟨cellRect n, cell u v w b n⟩ : View.Piece (Elt Ideal) S512x2048 .bf16) ∈ cells u v w b N := by
  induction N with
  | zero => omega
  | succ N ih =>
    rcases Nat.lt_succ_iff_lt_or_eq.mp h with h | rfl
    · exact List.mem_cons_of_mem _ (ih h)
    · exact List.mem_cons_self

theorem of_mem_cells (u : FVec Ideal S512x2048 .f32) (v : FVec Ideal S512x2048 .bf16) (w : Vec Ideal S8x128x128 .bf16) (b : Vec Ideal S128x2048 .f32)
    (N : ℕ) (p : View.Piece (Elt Ideal) S512x2048 .bf16) (h : p ∈ cells u v w b N) : ∃ n, p = ⟨cellRect n, cell u v w b n⟩ := by
  induction N with
  | zero => exact absurd h List.not_mem_nil
  | succ N ih =>
    rcases List.mem_cons.mp h with h | h
    · exact ⟨N, h⟩
    · exact ih h

/-- The 32 cells' array at a row and a column. -/
def product (u : FVec Ideal S512x2048 .f32) (v : FVec Ideal S512x2048 .bf16) (w : Vec Ideal S8x128x128 .bf16) (b : Vec Ideal S128x2048 .f32)
    (y : S512x2048.Idx) : EReal :=
  u y * ((∑ s : Fin 128, w (ix3 (⟨(y 1).val / 256, by have h : (y 1 : ℕ) < 2048 := (y 1).isLt; omega⟩ : Fin 8) (⟨(y 0).val % 128, by omega⟩ : Fin 128) s)
      * v (ix2 (⟨(y 0).val / 128 * 128 + s.val, by have h : (y 0 : ℕ) < 512 := (y 0).isLt; omega⟩ : Fin 512) (y 1)))
    + b (ix2 (⟨(y 0).val % 128, by omega⟩ : Fin 128) (y 1)))

/-- The place of a cell's row and column in the array. -/
theorem cellRect_emb (n : ℕ) (x0 : Fin 128) (x1 : Fin 256) : (cellRect n).emb (ix2 x0 x1 : S128x256.Idx)
    = (ix2 (⟨n / 8 % 4 * 128 + x0.val, by omega⟩ : Fin 512) (⟨n % 8 * 256 + x1.val, by omega⟩ : Fin 2048) : S512x2048.Idx) := by
  funext a
  match a with
  | ⟨0, _⟩ => exact Fin.ext (show n / 8 % 4 * 128 + 1 * x0.val = n / 8 % 4 * 128 + x0.val by omega)
  | ⟨1, _⟩ => exact Fin.ext (show n % 8 * 256 + 1 * x1.val = n % 8 * 256 + x1.val by omega)

theorem cell_at (u : FVec Ideal S512x2048 .f32) (v : FVec Ideal S512x2048 .bf16) (w : Vec Ideal S8x128x128 .bf16) (b : Vec Ideal S128x2048 .f32)
    (n : ℕ) (x0 : Fin 128) (x1 : Fin 256) : cell u v w b n (ix2 x0 x1)
      = product u v w b (ix2 (⟨n / 8 % 4 * 128 + x0.val, by omega⟩ : Fin 512) (⟨n % 8 * 256 + x1.val, by omega⟩ : Fin 2048)) := by
  unfold cell product
  pointwise [cellWeights, cellAddend, View.ld]
  have hg : ∀ h, (⟨(n % 8 * 256 + x1.val) / 256, h⟩ : Fin 8) = ⟨n % 8, by omega⟩ := fun h => Fin.ext (by simp only; omega)
  have hp : ∀ h, (⟨(n / 8 % 4 * 128 + x0.val) % 128, h⟩ : Fin 128) = x0 := fun h => Fin.ext (by simp only; omega)
  have hr : ∀ (s : Fin 128) h, (⟨(n / 8 % 4 * 128 + x0.val) / 128 * 128 + s.val, h⟩ : Fin 512) = ⟨n / 8 % 4 * 128 + s.val, by omega⟩ :=
    fun s h => Fin.ext (by simp only; omega)
  simp only [hg, hp, hr]

theorem cell_apply (u : FVec Ideal S512x2048 .f32) (v : FVec Ideal S512x2048 .bf16) (w : Vec Ideal S8x128x128 .bf16) (b : Vec Ideal S128x2048 .f32)
    (n : ℕ) (x : S128x256.Idx) : cell u v w b n x = product u v w b ((cellRect n).emb x) := by
  idx_vars x
  exact (cell_at u v w b n x0 x1).trans (congrArg (product u v w b) (cellRect_emb n x0 x1).symm)

theorem cells_canon (u : FVec Ideal S512x2048 .f32) (v : FVec Ideal S512x2048 .bf16) (w : Vec Ideal S8x128x128 .bf16) (b : Vec Ideal S128x2048 .f32)
    (y : S512x2048.Idx) : View.canon (cells u v w b 32) y = product u v w b y := by
  refine View.canon_apply_of_pieces (Val := Elt Ideal) (S := S512x2048) (e := .bf16) (product u v w b) _ ?_ y ?_
  · intro p hp x
    obtain ⟨n, rfl⟩ := of_mem_cells u v w b 32 p hp
    exact cell_apply u v w b n x
  · have h0 : (y 0 : ℕ) < 512 := (y 0).isLt
    have h1 : (y 1 : ℕ) < 2048 := (y 1).isLt
    refine ⟨_, mem_cells u v w b 32 ((y 0 : ℕ) / 128 * 8 + (y 1 : ℕ) / 256) (by omega), ?_⟩
    refine (Rect.mem_set_unit (inb := cellInb _)).mpr fun a => ?_
    match a with
    | ⟨0, _⟩ =>
      show ((y 0 : ℕ) / 128 * 8 + (y 1 : ℕ) / 256) / 8 % 4 * 128 ≤ (y 0 : ℕ) ∧ (y 0 : ℕ) < ((y 0 : ℕ) / 128 * 8 + (y 1 : ℕ) / 256) / 8 % 4 * 128 + 128
      omega
    | ⟨1, _⟩ =>
      show ((y 0 : ℕ) / 128 * 8 + (y 1 : ℕ) / 256) % 8 * 256 ≤ (y 1 : ℕ) ∧ (y 1 : ℕ) < ((y 0 : ℕ) / 128 * 8 + (y 1 : ℕ) / 256) % 8 * 256 + 256
      omega

variable (m : (ℓ : Loc nD τ sig) → Buf (Elt Ideal) ℓ)

/-- The columns a grid point gates. -/
def gateArg (c : Dev nD) (t : Fin cfg0.N) : FVec Ideal S512x4096 .f32 :=
  k0_pay4 (F := Ideal) (grid0.coords t)
    (View.ld (Val := Elt Ideal) (e' := .f32) (iblk m c 0 t) (Rect.unit ![0, 0] ![512, 1024] inb_S512x1024_S512x1024_0_0))
    (View.ld (Val := Elt Ideal) (e' := .f32) (iblk m c 1 t) (Rect.unit ![0, 0] ![512, 1024] inb_S512x1024_S512x1024_0_0))
    (View.ld (Val := Elt Ideal) (e' := .f32) (iblk m c 5 t) (Rect.unit ![0, 0] ![1, 1024] inb_S1x1024_S1x1024_0_0))
    (View.ld (Val := Elt Ideal) (e' := .f32) (iblk m c 2 t) (Rect.unit ![0, 0, 0, 0] ![1, 1, 1, 1024] inb_S1x1x1x1024_S1x1x1x1024_0_0_0_0))
    (View.ld (Val := Elt Ideal) (e' := .f32) (iblk m c 3 t) (Rect.unit ![0, 0, 0, 0] ![1, 1, 1, 1024] inb_S1x1x1x1024_S1x1x1x1024_0_0_0_0))
    (View.ld (Val := Elt Ideal) (e' := .bf16) (iblk m c 6 t) (Rect.unit ![0, 0, 0] ![1, 1024, 4096] inb_S1x1024x4096_S1x1024x4096_0_0_0))

/-- Their squares times the cube's factor. -/
def gateSquare (c : Dev nD) (t : Fin cfg0.N) : FVec Ideal S512x4096 .f32 :=
  k0_pay5 (F := Ideal) (grid0.coords t)
    (View.ld (Val := Elt Ideal) (e' := .f32) (iblk m c 0 t) (Rect.unit ![0, 0] ![512, 1024] inb_S512x1024_S512x1024_0_0))
    (View.ld (Val := Elt Ideal) (e' := .f32) (iblk m c 1 t) (Rect.unit ![0, 0] ![512, 1024] inb_S512x1024_S512x1024_0_0))
    (View.ld (Val := Elt Ideal) (e' := .f32) (iblk m c 5 t) (Rect.unit ![0, 0] ![1, 1024] inb_S1x1024_S1x1024_0_0))
    (View.ld (Val := Elt Ideal) (e' := .f32) (iblk m c 2 t) (Rect.unit ![0, 0, 0, 0] ![1, 1, 1, 1024] inb_S1x1x1x1024_S1x1x1x1024_0_0_0_0))
    (View.ld (Val := Elt Ideal) (e' := .f32) (iblk m c 3 t) (Rect.unit ![0, 0, 0, 0] ![1, 1, 1, 1024] inb_S1x1x1x1024_S1x1x1x1024_0_0_0_0))
    (View.ld (Val := Elt Ideal) (e' := .bf16) (iblk m c 6 t) (Rect.unit ![0, 0, 0] ![1, 1024, 4096] inb_S1x1024x4096_S1x1024x4096_0_0_0))

theorem outsAt0_cells (c : Dev nD) (t : Fin cfg0.N) : outsAt0 m c t = k0_pay2 (F := Ideal) (k0_pay3 (F := Ideal) (grid0.coords t)
      (View.ld (Val := Elt Ideal) (e' := .f32) (iblk m c 0 t) (Rect.unit ![0, 0] ![512, 1024] inb_S512x1024_S512x1024_0_0))
      (View.ld (Val := Elt Ideal) (e' := .f32) (iblk m c 1 t) (Rect.unit ![0, 0] ![512, 1024] inb_S512x1024_S512x1024_0_0)))
    (fun j => View.canon (cells (k0_pay7 (F := Ideal) (gateArg m c t) (gateSquare m c t))
        (k0_pay8 (F := Ideal) (gateArg m c t) (gateSquare m c t)
          (View.ld (Val := Elt Ideal) (e' := .f32) (iblk m c 7 t) (Rect.unit ![0, 0] ![1, 2048] inb_S1x2048_S1x2048_0_0)))
        (iblk m c 8 t) (iblk m c 9 t) 32) ((Rect.unit (s := S512x2048) ![0, 0] ![512, 2048] inb_S512x2048_S512x2048_0_0).idx j))
    (View.ld (Val := Elt Ideal) (e' := .bf16) (iblk m c 10 t) (Rect.unit ![0, 0, 0] ![1, 2048, 1024] inb_S1x2048x1024_S1x2048x1024_0_0_0))
    (View.ld (Val := Elt Ideal) (e' := .f32) (iblk m c 4 t) (Rect.unit ![0, 0, 0, 0] ![1, 1, 1, 1024] inb_S1x1x1x1024_S1x1x1x1024_0_0_0_0)) := by
  unfold outsAt0
  frame_open
  simp (disch := decide) only [↓ View.readCov_skip, ↓ View.readCov_cons_toLoadRect, ↓ View.readCov_fill, View.read_writes_junk_eq_canon, View.readAt_eq_ld,
        Memref.IsWhole.read_unread, View.readCov_eq_canon']
  rw [View.canon_cons_unit_lit _ _ _ (by decide)]
  sl_kernel_rfl

end Cert.GmlpIdeal.Value
end
-- ==== Proof.GmlpIdeal.Value.lean ====
/- The gated chunk mixer's result array over its arguments. -/
module
public import proofs.«01_k».proof.Proof.MixerReference
public import proofs.«01_k».proof.Proof.Cells
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.GmlpIdeal.Value
open Cert.GmlpIdeal Cert.GmlpIdeal.Gen Cert.Mixer Cert.Dense Cert.GmlpReferenceIdeal.Mixer

theorem cubic_named : Named.named (F := Ideal) κ "cubic" (φ := .f32) 0xBDD2D3E8#32 = ((rate * cubic : ℝ) : EReal) := by
  show (κ "cubic").getD _ = _
  rfl
theorem rate_named : Named.named (F := Ideal) κ "rate" (φ := .f32) 0xC0135761#32 = ((rate : ℝ) : EReal) := by
  show (κ "rate").getD _ = _
  rfl

section Payloads
variable (i : grid0.Coords) (x xc : FVec Ideal S512x1024 .f32) (g : FVec Ideal S1x1024 .f32) (sh sc gt : FVec Ideal S1x1x1x1024 .f32)
  (W : FVec Ideal S1x1024x4096 .bf16) (q : FVec Ideal S1x2048 .f32) (w : FVec Ideal S8x128x128 .bf16) (b : FVec Ideal S128x2048 .f32)
  (D : FVec Ideal S1x2048x1024 .bf16)

/-- Row `r` of the block, modulated. -/
def blockRow (r : Fin 512) : Fin 1024 → EReal :=
  modulated (fun d => k0_pay3 (F := Ideal) i x xc (ix2 r d)) (fun d => g (ix2 0 d)) (fun d => sh (ix4 0 0 0 d)) (fun d => sc (ix4 0 0 0 d))

theorem argument_apply (r : Fin 512) (a : Fin 4096) : k0_pay4 (F := Ideal) i x xc g sh sc W (ix2 r a)
    = ∑ d, blockRow i x xc g sh sc r d * W (ix3 0 d a) := by
  pointwise [k0_pay4]
  rfl

theorem gated_apply (r : Fin 512) (a : Fin 4096) :
    k0_pay6 (F := Ideal) (k0_pay4 i x xc g sh sc W) (k0_pay5 i x xc g sh sc W) (ix2 r a)
      = gated (blockRow i x xc g sh sc r) (fun d a => W (ix3 0 d a)) a := by
  pointwise [k0_pay6, k0_pay5]
  simp only [argument_apply, cubic_named, rate_named]
  exact gelu_quotient _

theorem first_apply (r : Fin 512) (j : Fin 2048) :
    k0_pay7 (F := Ideal) (k0_pay4 i x xc g sh sc W) (k0_pay5 i x xc g sh sc W) (ix2 r j)
      = first (blockRow i x xc g sh sc r) (fun d a => W (ix3 0 d a)) j := by
  pointwise [k0_pay7]
  simp only [gated_apply]
  rfl

theorem normed_apply (r : Fin 512) (j : Fin 2048) :
    k0_pay8 (F := Ideal) (k0_pay4 i x xc g sh sc W) (k0_pay5 i x xc g sh sc W) q (ix2 r j)
      = normed (blockRow i x xc g sh sc r) (fun d a => W (ix3 0 d a)) (fun j => q (ix2 0 j)) j := by
  pointwise [k0_pay8]
  simp only [gated_apply]
  rfl

theorem product_apply (B : Fin 8 → Fin 128 → EReal) (hB : ∀ (a : Fin 128) (j : Fin 2048), b (ix2 a j) = B (groupOf j) a) (r : Fin 512) (j : Fin 2048) :
    product (k0_pay7 (F := Ideal) (k0_pay4 i x xc g sh sc W) (k0_pay5 i x xc g sh sc W))
        (k0_pay8 (F := Ideal) (k0_pay4 i x xc g sh sc W) (k0_pay5 i x xc g sh sc W) q) w b (ix2 r j)
      = first (blockRow i x xc g sh sc r) (fun d a => W (ix3 0 d a)) j
        * mixed (fun s => blockRow i x xc g sh sc (⟨r / 128 * 128 + s, by omega⟩ : Fin 512)) (fun d a => W (ix3 0 d a)) (fun j => q (ix2 0 j))
          (fun g a c => w (ix3 g a c)) B (⟨r % 128, by omega⟩ : Fin 128) j := by
  unfold product
  refine congrArg₂ (· * ·) (first_apply i x xc g sh sc W r j) (congrArg₂ (· + ·) ?_ (hB _ j))
  exact Finset.sum_congr rfl fun s _ => congrArg (_ * ·) (normed_apply i x xc g sh sc W q _ j)

/-- What a grid point leaves, over the blocks it reads. -/
theorem payload_apply (B : Fin 8 → Fin 128 → EReal) (hB : ∀ (a : Fin 128) (j : Fin 2048), b (ix2 a j) = B (groupOf j) a) (r : Fin 512) (k : Fin 1024) :
    k0_pay2 (F := Ideal) (k0_pay3 i x xc) (fun y => product (k0_pay7 (F := Ideal) (k0_pay4 i x xc g sh sc W) (k0_pay5 i x xc g sh sc W))
        (k0_pay8 (F := Ideal) (k0_pay4 i x xc g sh sc W) (k0_pay5 i x xc g sh sc W) q) w b y) D gt (ix2 r k)
      = mixer (fun s d => k0_pay3 (F := Ideal) i x xc (ix2 (⟨r / 128 * 128 + s, by omega⟩ : Fin 512) d)) (fun d => g (ix2 0 d)) (fun d => sh (ix4 0 0 0 d))
        (fun d => sc (ix4 0 0 0 d)) (fun d => gt (ix4 0 0 0 d)) (fun d a => W (ix3 0 d a)) (fun j => q (ix2 0 j)) (fun g a c => w (ix3 g a c)) B
        (fun j e => D (ix3 0 j e)) (⟨r % 128, by omega⟩ : Fin 128) k := by
  pointwise [k0_pay2]
  simp only [product_apply i x xc g sh sc W q w b B hB]
  have e : (⟨r / 128 * 128 + r % 128, by omega⟩ : Fin 512) = r := Fin.ext (by simp only; omega)
  exact congrArg (fun l : Fin 512 => k0_pay3 (F := Ideal) i x xc (ix2 l k) + gt (ix4 0 0 0 k)
    * ∑ j, first (blockRow i x xc g sh sc l) (fun d a => W (ix3 0 d a)) j
      * mixed (fun s => blockRow i x xc g sh sc (⟨r / 128 * 128 + s, by omega⟩ : Fin 512)) (fun d a => W (ix3 0 d a)) (fun j => q (ix2 0 j))
        (fun g a c => w (ix3 g a c)) B (⟨r % 128, by omega⟩ : Fin 128) j * D (ix3 0 j k)) e.symm

end Payloads

variable (m : (ℓ : Loc nD τ sig) → Buf (Elt Ideal) ℓ)

/-- What a grid point writes back, without the loads. -/
theorem outsAt0_eq (c : Dev nD) (t : Fin cfg0.N) : outsAt0 m c t = k0_pay2 (F := Ideal) (k0_pay3 (F := Ideal) (grid0.coords t) (iblk m c 0 t) (iblk m c 1 t))
    (fun y => product (k0_pay7 (F := Ideal) (k0_pay4 (grid0.coords t) (iblk m c 0 t) (iblk m c 1 t) (iblk m c 5 t) (iblk m c 2 t) (iblk m c 3 t) (iblk m c 6 t))
          (k0_pay5 (grid0.coords t) (iblk m c 0 t) (iblk m c 1 t) (iblk m c 5 t) (iblk m c 2 t) (iblk m c 3 t) (iblk m c 6 t)))
        (k0_pay8 (F := Ideal) (k0_pay4 (grid0.coords t) (iblk m c 0 t) (iblk m c 1 t) (iblk m c 5 t) (iblk m c 2 t) (iblk m c 3 t) (iblk m c 6 t))
          (k0_pay5 (grid0.coords t) (iblk m c 0 t) (iblk m c 1 t) (iblk m c 5 t) (iblk m c 2 t) (iblk m c 3 t) (iblk m c 6 t)) (iblk m c 7 t))
        (iblk m c 8 t) (iblk m c 9 t) y) (iblk m c 10 t) (iblk m c 4 t) := by
  refine (outsAt0_cells m c t).trans ?_
  have l0 : View.ld (Val := Elt Ideal) (e' := .f32) (iblk m c 0 t) (Rect.unit ![0, 0] ![512, 1024] inb_S512x1024_S512x1024_0_0) = iblk m c 0 t :=
    View.ld_unit_lit (Val := Elt Ideal) (S := S512x1024) (e := .f32) (off := ![0, 0]) _ _ (by decide)
  have l1 : View.ld (Val := Elt Ideal) (e' := .f32) (iblk m c 1 t) (Rect.unit ![0, 0] ![512, 1024] inb_S512x1024_S512x1024_0_0) = iblk m c 1 t :=
    View.ld_unit_lit (Val := Elt Ideal) (S := S512x1024) (e := .f32) (off := ![0, 0]) _ _ (by decide)
  have l5 : View.ld (Val := Elt Ideal) (e' := .f32) (iblk m c 5 t) (Rect.unit ![0, 0] ![1, 1024] inb_S1x1024_S1x1024_0_0) = iblk m c 5 t :=
    View.ld_unit_lit (Val := Elt Ideal) (S := S1x1024) (e := .f32) (off := ![0, 0]) _ _ (by decide)
  have l2 : View.ld (Val := Elt Ideal) (e' := .f32) (iblk m c 2 t) (Rect.unit ![0, 0, 0, 0] ![1, 1, 1, 1024] inb_S1x1x1x1024_S1x1x1x1024_0_0_0_0) = iblk m c 2 t :=
    View.ld_unit_lit (Val := Elt Ideal) (S := S1x1x1x1024) (e := .f32) (off := ![0, 0, 0, 0]) _ _ (by decide)
  have l3 : View.ld (Val := Elt Ideal) (e' := .f32) (iblk m c 3 t) (Rect.unit ![0, 0, 0, 0] ![1, 1, 1, 1024] inb_S1x1x1x1024_S1x1x1x1024_0_0_0_0) = iblk m c 3 t :=
    View.ld_unit_lit (Val := Elt Ideal) (S := S1x1x1x1024) (e := .f32) (off := ![0, 0, 0, 0]) _ _ (by decide)
  have l4 : View.ld (Val := Elt Ideal) (e' := .f32) (iblk m c 4 t) (Rect.unit ![0, 0, 0, 0] ![1, 1, 1, 1024] inb_S1x1x1x1024_S1x1x1x1024_0_0_0_0) = iblk m c 4 t :=
    View.ld_unit_lit (Val := Elt Ideal) (S := S1x1x1x1024) (e := .f32) (off := ![0, 0, 0, 0]) _ _ (by decide)
  have l6 : View.ld (Val := Elt Ideal) (e' := .bf16) (iblk m c 6 t) (Rect.unit ![0, 0, 0] ![1, 1024, 4096] inb_S1x1024x4096_S1x1024x4096_0_0_0) = iblk m c 6 t :=
    View.ld_unit_lit (Val := Elt Ideal) (S := S1x1024x4096) (e := .bf16) (off := ![0, 0, 0]) _ _ (by decide)
  have l7 : View.ld (Val := Elt Ideal) (e' := .f32) (iblk m c 7 t) (Rect.unit ![0, 0] ![1, 2048] inb_S1x2048_S1x2048_0_0) = iblk m c 7 t :=
    View.ld_unit_lit (Val := Elt Ideal) (S := S1x2048) (e := .f32) (off := ![0, 0]) _ _ (by decide)
  have l10 : View.ld (Val := Elt Ideal) (e' := .bf16) (iblk m c 10 t) (Rect.unit ![0, 0, 0] ![1, 2048, 1024] inb_S1x2048x1024_S1x2048x1024_0_0_0) = iblk m c 10 t :=
    View.ld_unit_lit (Val := Elt Ideal) (S := S1x2048x1024) (e := .bf16) (off := ![0, 0, 0]) _ _ (by decide)
  have whole : ∀ (z : S512x2048.Idx → EReal), (fun j => z ((Rect.unit (s := S512x2048) ![0, 0] ![512, 2048] inb_S512x2048_S512x2048_0_0).idx j)) = z := fun z =>
    View.ld_unit_lit (Val := Elt Ideal) (S := S512x2048) (e := .bf16) (off := ![0, 0]) _ z (by decide)
  unfold gateArg gateSquare
  rw [l0, l1, l2, l3, l4, l5, l6, l7, l10]
  refine congrArg (fun z => k0_pay2 (F := Ideal) (k0_pay3 (F := Ideal) (grid0.coords t) (iblk m c 0 t) (iblk m c 1 t)) z (iblk m c 10 t) (iblk m c 4 t)) ?_
  refine (whole _).trans ?_
  exact funext fun y => cells_canon _ _ _ _ y

theorem gainArray (c : Dev nD) (d : Fin 1024) : V m c main_v4 (ix2 0 d) = m ((c : Thread nD τ).loc main_arg3) (ix3 0 0 d) := by
  entry_read
  pointwise
theorem inArray (c : Dev nD) (a : Fin 2) (d : Fin 1024) (h : Fin 4096) : V m c main_v0 (ix3 a d h) = m ((c : Thread nD τ).loc main_arg4) (ix3 a d h) := by
  entry_read
  pointwise
theorem scaleArray (c : Dev nD) (j : Fin 2048) : V m c main_v12 (ix2 0 j) = m ((c : Thread nD τ).loc main_arg5) (ix2 0 j) := by
  entry_read
  pointwise
theorem mixArray (c : Dev nD) (g : Fin 8) (a s : Fin 128) : V m c main_v15 (ix3 g a s) = m ((c : Thread nD τ).loc main_arg6) (ix4 0 g a s) := by
  entry_read
  pointwise
theorem addendArray (c : Dev nD) (a : Fin 128) (j : Fin 2048) : V m c main_v9 (ix2 a j) = m ((c : Thread nD τ).loc main_arg7) (ix3 0 (groupOf j) a) := by
  entry_read
  pointwise
  rfl
theorem outArray (c : Dev nD) (a : Fin 2) (j : Fin 2048) (d : Fin 1024) : V m c main_v1 (ix3 a j d) = m ((c : Thread nD τ).loc main_arg8) (ix3 a j d) := by
  entry_read
  pointwise

/-- Tile `t`'s modulation. -/
abbrev tileSeq (t : ℕ) : ℕ := if t < 32 then t / 8 else 4

theorem idx : ∀ t : Fin cfg0.N, win0_0.index t = ![min t.val 31, 0] ∧ win0_1.index t = ![t.val - 32, 0]
    ∧ win0_2.index t = ![0, tileSeq t.val, 0, 0] ∧ win0_3.index t = ![1, tileSeq t.val, 0, 0] ∧ win0_4.index t = ![2, tileSeq t.val, 0, 0]
    ∧ win0_5.index t = ![0, 0] ∧ win0_6.index t = ![0, 0, 0] ∧ win0_7.index t = ![0, 0] ∧ win0_8.index t = ![0, 0, 0]
    ∧ win0_9.index t = ![0, 0] ∧ win0_10.index t = ![0, 0, 0] ∧ win0_11.index t = ![t.val, 0] ∧ t.val < 34 :=
  (by decide +kernel : ∀ t : Fin grid0.N, _)

theorem early : ∀ t : Fin cfg0.N, Scalar.cmpi .slt (BitVec.ofNat 32 (grid0.coords t 0).val) 32#32 = if t.val < 32 then 1#1 else 0#1 :=
  (by decide +kernel : ∀ t : Fin grid0.N, _)

theorem block0 (c : Dev nD) (t : Fin cfg0.N) (r : Fin 512) (d : Fin 1024) (R : Fin 16384) (hR : R.val = min t.val 31 * 512 + r.val) :
    iblk m c 0 t (ix2 r d) = V m c main_arg0 (ix2 R d) := by
  blk_ext [iblk, idx t]
theorem block1 (c : Dev nD) (t : Fin cfg0.N) (r : Fin 512) (d : Fin 1024) (R : Fin 1024) (hR : R.val = (t.val - 32) * 512 + r.val) :
    iblk m c 1 t (ix2 r d) = V m c main_arg1 (ix2 R d) := by
  blk_ext [iblk, idx t]
theorem block2 (c : Dev nD) (t : Fin cfg0.N) (d : Fin 1024) (s : Fin 8) (hs : s.val = tileSeq t.val) :
    iblk m c 2 t (ix4 0 0 0 d) = V m c main_arg2 (ix4 0 s 0 d) := by
  blk_ext [iblk, idx t]
theorem block3 (c : Dev nD) (t : Fin cfg0.N) (d : Fin 1024) (s : Fin 8) (hs : s.val = tileSeq t.val) :
    iblk m c 3 t (ix4 0 0 0 d) = V m c main_arg2 (ix4 1 s 0 d) := by
  blk_ext [iblk, idx t]
theorem block4 (c : Dev nD) (t : Fin cfg0.N) (d : Fin 1024) (s : Fin 8) (hs : s.val = tileSeq t.val) :
    iblk m c 4 t (ix4 0 0 0 d) = V m c main_arg2 (ix4 2 s 0 d) := by
  blk_ext [iblk, idx t]
theorem block5 (c : Dev nD) (t : Fin cfg0.N) (d : Fin 1024) : iblk m c 5 t (ix2 0 d) = V m c main_v4 (ix2 0 d) := by
  blk_ext [iblk, idx t]
theorem block6 (c : Dev nD) (t : Fin cfg0.N) (d : Fin 1024) (a : Fin 4096) : iblk m c 6 t (ix3 0 d a) = V m c main_v0 (ix3 0 d a) := by
  blk_ext [iblk, idx t]
theorem block7 (c : Dev nD) (t : Fin cfg0.N) (j : Fin 2048) : iblk m c 7 t (ix2 0 j) = V m c main_v12 (ix2 0 j) := by
  blk_ext [iblk, idx t]
theorem block8 (c : Dev nD) (t : Fin cfg0.N) (g : Fin 8) (a s : Fin 128) : iblk m c 8 t (ix3 g a s) = V m c main_v15 (ix3 g a s) := by
  blk_ext [iblk, idx t]
theorem block9 (c : Dev nD) (t : Fin cfg0.N) (a : Fin 128) (j : Fin 2048) : iblk m c 9 t (ix2 a j) = V m c main_v9 (ix2 a j) := by
  blk_ext [iblk, idx t]
theorem block10 (c : Dev nD) (t : Fin cfg0.N) (j : Fin 2048) (d : Fin 1024) : iblk m c 10 t (ix3 0 j d) = V m c main_v1 (ix3 0 j d) := by
  blk_ext [iblk, idx t]

/-- The mixer over the launch's arguments. -/
abbrev result (c : Dev nD) (R : Fin 17408) (k : Fin 1024) : EReal :=
  resultAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) R k

/-- The row a grid point takes. -/
theorem rows (c : Dev nD) (t : Fin cfg0.N) (r : Fin 512) (d : Fin 1024) (R : Fin 17408) (hR : R.val = t.val * 512 + r.val) :
    k0_pay3 (F := Ideal) (grid0.coords t) (iblk m c 0 t) (iblk m c 1 t) (ix2 r d)
      = rowOf (fun r d => m ((c : Thread nD τ).loc main_arg0) (ix2 r d)) (fun r d => m ((c : Thread nD τ).loc main_arg1) (ix2 r d)) R d := by
  have ht : t.val < 34 := (idx t).2.2.2.2.2.2.2.2.2.2.2.2
  have hr := r.isLt
  change (if Scalar.cmpi .slt (BitVec.ofNat 32 (grid0.coords t 0).val) 32#32 = 1 then iblk m c 0 t else iblk m c 1 t) (ix2 r d) = _
  rw [early]
  unfold rowOf
  by_cases h : t.val < 32
  · rw [if_pos h, dif_pos (by omega)]
    exact (block0 m c t r d (⟨R.val, by omega⟩ : Fin 16384) (by simp only; omega)).trans (congrFun (V_main_arg0 m c) _)
  · rw [if_neg h, dif_neg (by omega)]
    exact (block1 m c t r d (⟨R.val - 16384, by omega⟩ : Fin 1024) (by simp only; omega)).trans (congrFun (V_main_arg1 m c) _)

/-- What a grid point leaves at a row and a column of its block. -/
theorem point (c : Dev nD) (t : Fin cfg0.N) (r : Fin 512) (k : Fin 1024) (R : Fin 17408) (hR : R.val = t.val * 512 + r.val) :
    outsAt0 m c t (ix2 r k) = result m c R k := by
  have ht : t.val < 34 := (idx t).2.2.2.2.2.2.2.2.2.2.2.2
  have hr := r.isLt
  have hs : (streamOf R).val = tileSeq t.val := by
    unfold streamOf tileSeq
    by_cases h : t.val < 32
    · rw [if_pos h, if_pos (by omega)]; show R.val / 4096 = _; omega
    · rw [if_neg h, if_neg (by omega)]; rfl
  refine (congrFun (outsAt0_eq m c t) _).trans ?_
  refine (payload_apply _ _ _ _ _ _ _ _ _ _ _ _ (fun g a => m ((c : Thread nD τ).loc main_arg7) (ix3 0 g a))
    (fun a j => (block9 m c t a j).trans (addendArray m c a j)) r k).trans ?_
  have e0 : (fun (s : Fin 128) (d : Fin 1024) => k0_pay3 (F := Ideal) (grid0.coords t) (iblk m c 0 t) (iblk m c 1 t) (ix2 (⟨r / 128 * 128 + s, by omega⟩ : Fin 512) d))
      = fun s => rowOf (fun r d => m ((c : Thread nD τ).loc main_arg0) (ix2 r d)) (fun r d => m ((c : Thread nD τ).loc main_arg1) (ix2 r d)) (chunkRow R s) :=
    funext fun s => funext fun d => rows m c t _ d (chunkRow R s) (show R.val / 128 * 128 + s.val = t.val * 512 + (r.val / 128 * 128 + s.val) by omega)
  have e2 := funext fun d => (block2 m c t d (streamOf R) hs).trans (congrFun (V_main_arg2 m c) _)
  have e3 := funext fun d => (block3 m c t d (streamOf R) hs).trans (congrFun (V_main_arg2 m c) _)
  have e4 := funext fun d => (block4 m c t d (streamOf R) hs).trans (congrFun (V_main_arg2 m c) _)
  have e5 := funext fun d => (block5 m c t d).trans (gainArray m c d)
  have e6 := funext fun d => funext fun a => (block6 m c t d a).trans (inArray m c 0 d a)
  have e7 := funext fun j => (block7 m c t j).trans (scaleArray m c j)
  have e8 := funext fun g => funext fun a => funext fun s => (block8 m c t g a s).trans (mixArray m c g a s)
  have e10 := funext fun j => funext fun d => (block10 m c t j d).trans (outArray m c 0 j d)
  have p : (⟨r.val % 128, by omega⟩ : Fin 128) = placeOf R := Fin.ext (show r.val % 128 = R.val % 128 by omega)
  rw [p]
  exact mixer_congr e0 e5 e2 e3 e4 e6 e7 e8 rfl e10 (placeOf R) k

/-- The mixer call leaves the mixer of its arguments. -/
theorem final (c : Dev nD) : (dats m 0 c).arrAt 11 (cfgs 0).N = fun i => result m c (i 0) (i 1) := by
  refine (dats m 0 c).arrAt_eq_of_covers 11 _ (by decide +kernel) fun t hf y => ?_
  blk_simp
  rw [after0_11]
  revert y
  show ∀ y : S512x1024.Idx, outsAt0 m c t y = _
  intro y
  idx_vars y
  have ht : t.val < 34 := (idx t).2.2.2.2.2.2.2.2.2.2.2.2
  refine (point m c t y0 y1 (⟨t.val * 512 + y0.val, by omega⟩ : Fin 17408) rfl).trans ?_
  refine congrArg₂ (result m c) (Fin.ext ?_) (Fin.ext ?_)
  · blk_simp [idx t]
  · blk_simp [idx t]

end Cert.GmlpIdeal.Value
end
-- ==== Proof.ProjIdeal.Value.lean ====
/- The output projection's result array over its arguments, and the reference's. -/
module
public import proofs.«01_k».proof.Proof.Gen.ProjReferenceIdeal.Read
public import proofs.«01_k».proof.Proof.Gen.ProjIdeal.Value
public import Idealize.ShloMosaic.Lib.Pipeline.ValueKit
public import Idealize.ShloMosaic.Lib.Claim
public import Idealize.ShloMosaic.Lib.Tactic

@[expose] public section
set_option maxRecDepth 16384
noncomputable section
open Idealize.ShloMosaic Idealize.ShloMosaic.TcCoe Idealize.SL.Sem Idealize.ShloMosaic.Tactic
open Idealize.ShloMosaic.Pipeline (Dat)

namespace Cert.ProjReferenceIdeal.Projection
open Cert.ProjReferenceIdeal Cert.ProjReferenceIdeal.Gen Cert.ProjReferenceIdeal.Read

abbrev Arr (s : Shape) (e : EltTy) : Type := (⟨s, e⟩ : BufTy).Contents (Elt Ideal)

/-- A latent row plus its gate times its attention row through the weights. -/
def projected (o : Arr S1024x16384 .bf16) (x : Arr S17408x1024 .f32) (mods : Arr S6x8x1x1024 .f32) (w : Arr S1x1024x1024 .f32)
    (R : Fin 16384) (k : Fin 1024) : EReal :=
  x (ix2 (⟨R.val, by omega⟩ : Fin 17408) k) + mods (ix4 2 (⟨R.val / 4096, by omega⟩ : Fin 8) 0 k) * ∑ d : Fin 1024, o (ix2 d R) * w (ix3 0 d k)

/-- The reference at a row and a column. -/
theorem result_apply (o : Arr S1024x16384 .bf16) (x : Arr S17408x1024 .f32) (mods : Arr S6x8x1x1024 .f32) (w : Arr S1x1024x1024 .f32)
    (R : Fin 16384) (k : Fin 1024) : val_main_v12 (F := Ideal) o x mods w (ix2 R k) = projected o x mods w R k := by
  pointwise [val_main_v12, val_main_v11, val_main_v10, val_main_v9, val_main_v8, val_main_v7, val_main_v6, val_main_v5, val_main_v4, val_main_v3,
    val_main_v2, val_main_v1, val_main_v0]
  rfl

end Cert.ProjReferenceIdeal.Projection

namespace Cert.ProjIdeal.Value
open Cert.ProjIdeal Cert.ProjIdeal.Gen Cert.ProjReferenceIdeal.Projection

/-- What a grid point writes back. -/
theorem out_apply (o : FVec Ideal S512x1024 .bf16) (x : FVec Ideal S512x1024 .f32) (gt : FVec Ideal S1x1x1x1024 .f32) (w : FVec Ideal S1024x1024 .bf16)
    (r : Fin 512) (k : Fin 1024) :
    out0_4 (F := Ideal) o x gt w (ix2 r k) = x (ix2 r k) + gt (ix4 0 0 0 k) * ∑ d : Fin 1024, o (ix2 r d) * w (ix2 d k) := by
  have whole : out0_4 (F := Ideal) o x gt w = k0_pay1 (F := Ideal) x gt o w := by
    unfold out0_4
    rw [View.canon_cons_unit_lit _ _ _ (by decide)]
    have lo : View.ld (Val := Elt Ideal) (e' := .bf16) o r0_0 = o := View.ld_unit_lit (Val := Elt Ideal) (S := S512x1024) (e := .bf16) (off := ![0, 0]) _ o (by decide)
    have lx : View.ld (Val := Elt Ideal) (e' := .f32) x r0_0 = x := View.ld_unit_lit (Val := Elt Ideal) (S := S512x1024) (e := .f32) (off := ![0, 0]) _ x (by decide)
    have lgt : View.ld (Val := Elt Ideal) (e' := .f32) gt r0_1 = gt := View.ld_unit_lit (Val := Elt Ideal) (S := S1x1x1x1024) (e := .f32) (off := ![0, 0, 0, 0]) _ gt (by decide)
    have lw : View.ld (Val := Elt Ideal) (e' := .bf16) w r0_2 = w := View.ld_unit_lit (Val := Elt Ideal) (S := S1024x1024) (e := .bf16) (off := ![0, 0]) _ w (by decide)
    rw [lo, lx, lgt, lw]
  refine (congrFun whole _).trans ?_
  pointwise [k0_pay1]

variable (m : (ℓ : Loc nD τ sig) → Buf (Elt Ideal) ℓ)

theorem rowsArray (c : Dev nD) (R : Fin 16384) (d : Fin 1024) : V m c main_v0 (ix2 R d) = m ((c : Thread nD τ).loc main_arg0) (ix2 d R) := by
  entry_read
  pointwise
theorem weightArray (c : Dev nD) (d k : Fin 1024) : V m c main_v2 (ix2 d k) = m ((c : Thread nD τ).loc main_arg3) (ix3 0 d k) := by
  entry_read
  pointwise

theorem idx : ∀ t : Fin cfg0.N, win0_0.index t = ![t.val, 0] ∧ win0_1.index t = ![t.val, 0] ∧ win0_2.index t = ![2, t.val / 8, 0, 0]
    ∧ win0_3.index t = ![0, 0] ∧ win0_4.index t = ![t.val, 0] ∧ t.val < 32 :=
  (by decide +kernel : ∀ t : Fin grid0.N, _)

theorem block0 (c : Dev nD) (t : Fin cfg0.N) (r : Fin 512) (d : Fin 1024) (R : Fin 16384) (hR : R.val = t.val * 512 + r.val) :
    iblk m c 0 t (ix2 r d) = V m c main_v0 (ix2 R d) := by
  blk_ext [iblk, idx t]
theorem block1 (c : Dev nD) (t : Fin cfg0.N) (r : Fin 512) (d : Fin 1024) (R : Fin 17408) (hR : R.val = t.val * 512 + r.val) :
    iblk m c 1 t (ix2 r d) = V m c main_arg1 (ix2 R d) := by
  blk_ext [iblk, idx t]
theorem block2 (c : Dev nD) (t : Fin cfg0.N) (d : Fin 1024) (s : Fin 8) (hs : s.val = t.val / 8) :
    iblk m c 2 t (ix4 0 0 0 d) = V m c main_arg2 (ix4 2 s 0 d) := by
  blk_ext [iblk, idx t]
theorem block3 (c : Dev nD) (t : Fin cfg0.N) (d k : Fin 1024) : iblk m c 3 t (ix2 d k) = V m c main_v2 (ix2 d k) := by
  blk_ext [iblk, idx t]

/-- The projection over the launch's arguments. -/
abbrev result (c : Dev nD) (R : Fin 16384) (k : Fin 1024) : EReal :=
  projected (m ((c : Thread nD τ).loc main_arg0)) (m ((c : Thread nD τ).loc main_arg1)) (m ((c : Thread nD τ).loc main_arg2))
    (m ((c : Thread nD τ).loc main_arg3)) R k

/-- What a grid point leaves at a row and a column of its block. -/
theorem point (c : Dev nD) (t : Fin cfg0.N) (r : Fin 512) (k : Fin 1024) (R : Fin 16384) (hR : R.val = t.val * 512 + r.val) :
    out0_4 (iblk m c 0 t) (iblk m c 1 t) (iblk m c 2 t) (iblk m c 3 t) (ix2 r k) = result m c R k := by
  have ht : t.val < 32 := (idx t).2.2.2.2.2
  have hr := r.isLt
  refine (out_apply _ _ _ _ r k).trans ?_
  refine congrArg₂ (· + ·) ((block1 m c t r k (⟨R.val, by omega⟩ : Fin 17408) hR).trans (congrFun (V_main_arg1 m c) _)) ?_
  refine congrArg₂ (· * ·) ((block2 m c t k (⟨R.val / 4096, by omega⟩ : Fin 8) (show R.val / 4096 = t.val / 8 by omega)).trans (congrFun (V_main_arg2 m c) _)) ?_
  exact Finset.sum_congr rfl fun d _ => congrArg₂ (· * ·) ((block0 m c t r d R hR).trans (rowsArray m c R d))
    ((block3 m c t d k).trans (weightArray m c d k))

/-- The call leaves the projection of its arguments. -/
theorem final (c : Dev nD) : (dats m 0 c).arrAt 4 (cfgs 0).N = fun i => result m c (i 0) (i 1) := by
  refine (dats m 0 c).arrAt_eq_of_covers 4 _ (by decide +kernel) fun t hf y => ?_
  blk_simp
  rw [after0_4]
  revert y
  show ∀ y : S512x1024.Idx, out0_4 (iblk m c 0 t) (iblk m c 1 t) (iblk m c 2 t) (iblk m c 3 t) y = _
  intro y
  idx_vars y
  have ht : t.val < 32 := (idx t).2.2.2.2.2
  refine (point m c t y0 y1 (⟨t.val * 512 + y0.val, by omega⟩ : Fin 16384) rfl).trans ?_
  refine congrArg₂ (result m c) (Fin.ext ?_) (Fin.ext ?_)
  · blk_simp [idx t]
  · blk_simp [idx t]

end Cert.ProjIdeal.Value
end
-- ==== Proof.Queries.lean ====
/- The queries, keys and values of one row: the projection cut into heads, the heads of the queries and the keys
   normalised and rotated. -/
module
public import proofs.«01_k».proof.Proof.Dense

@[expose] public section
noncomputable section
open Idealize.ShloMosaic
namespace Cert.Queries

/-- The row through the weights. -/
def projected (h : Fin 1024 → EReal) (w : Fin 1024 → Fin 1536 → EReal) (j : Fin 1536) : EReal := ∑ d, h d * w d j

/-- A head over its root mean square, times its gains. -/
def headNormed (u g : Fin 64 → EReal) (i : Fin 64) : EReal :=
  u i * Ideal.rsqrt (Ideal.div (∑ e, u e * u e) (Ideal.ofBits FTy.f32 0x42800000#32) + Ideal.ofBits FTy.f32 0x358637BD#32) * g i

/-- A head with each of its halves rotated by that half's angles, of which `C` and `S` are the cosines and sines. -/
def rotated (C S : Fin 2 → Fin 16 → EReal) (y : Fin 64 → EReal) (i : Fin 64) : EReal :=
  if h : i.val % 32 < 16 then
    y i * C ⟨i.val / 32, by omega⟩ ⟨i.val % 16, by omega⟩
      - y ⟨i.val + 16, by omega⟩ * S ⟨i.val / 32, by omega⟩ ⟨i.val % 16, by omega⟩
  else y i * C ⟨i.val / 32, by omega⟩ ⟨i.val % 16, by omega⟩
      + y ⟨i.val - 16, by omega⟩ * S ⟨i.val / 32, by omega⟩ ⟨i.val % 16, by omega⟩

/-- The rotation part by part: the two halves' first sixteen lanes and their last sixteen. -/
theorem rotated_parts (C S : Fin 2 → Fin 16 → EReal) (y : Fin 64 → EReal) (i : Fin 64) :
    (if h : i.val < 16 then y i * C 0 ⟨i.val, h⟩ - y ⟨16 + i.val, by omega⟩ * S 0 ⟨i.val, h⟩
      else if h : i.val - 16 < 16 then
        y ⟨16 + (i.val - 16), by omega⟩ * C 0 ⟨i.val - 16, h⟩ + y ⟨i.val - 16, by omega⟩ * S 0 ⟨i.val - 16, h⟩
      else if h : i.val - 16 - 16 < 16 then
        y ⟨32 + (i.val - 16 - 16), by omega⟩ * C 1 ⟨i.val - 16 - 16, h⟩ - y ⟨48 + (i.val - 16 - 16), by omega⟩ * S 1 ⟨i.val - 16 - 16, h⟩
      else y ⟨48 + (i.val - 16 - 16 - 16), by omega⟩ * C 1 ⟨i.val - 16 - 16 - 16, by omega⟩
        + y ⟨32 + (i.val - 16 - 16 - 16), by omega⟩ * S 1 ⟨i.val - 16 - 16 - 16, by omega⟩) = rotated C S y i := by
  have hi := i.isLt
  have same : ∀ {a a' b b' : Fin 64} {p p' : Fin 2} {f f' : Fin 16} (op : EReal → EReal → EReal), a.val = a'.val → b.val = b'.val → p.val = p'.val →
      f.val = f'.val → op (y a * C p f) (y b * S p f) = op (y a' * C p' f') (y b' * S p' f') := by
    intro a a' b b' p p' f f' op ha hb hp hf
    rw [Fin.ext ha, Fin.ext hb, Fin.ext hp, Fin.ext hf]
  unfold rotated
  by_cases h1 : i.val < 16
  · rw [dif_pos h1, dif_pos (by omega)]
    exact same (· - ·) (by simp only) (by simp only; omega) (by simp only [Fin.val_zero]; omega) (by simp only; omega)
  rw [dif_neg h1]
  by_cases h2 : i.val - 16 < 16
  · rw [dif_pos h2, dif_neg (by omega)]
    exact same (· + ·) (by simp only; omega) (by simp only) (by simp only [Fin.val_zero]; omega) (by simp only; omega)
  rw [dif_neg h2]
  by_cases h3 : i.val - 16 - 16 < 16
  · rw [dif_pos h3, dif_pos (by omega)]
    exact same (· - ·) (by simp only; omega) (by simp only; omega) (by simp only [Fin.val_one]; omega) (by simp only; omega)
  rw [dif_neg h3, dif_neg (by omega)]
  exact same (· + ·) (by simp only; omega) (by simp only; omega) (by simp only [Fin.val_one]; omega) (by simp only; omega)

/-- Log2 e over the root of a head's width. -/
def rate : ℝ := 1 / 8 * (Real.log 2)⁻¹

/-- The head a column lies in, for the columns of the queries and the keys. -/
def headOf (p : Fin 1536 → EReal) (j : ℕ) (h : j < 1536) (e : Fin 64) : EReal := p ⟨j / 64 * 64 + e.val, by omega⟩

/-- The row's queries, keys and values side by side. -/
def entry (p : Fin 1536 → EReal) (qg kg : Fin 64 → EReal) (T : (Fin 64 → EReal) → Fin 64 → EReal) (j : Fin 1536) : EReal :=
  if j.val < 1024 then T (headNormed (headOf p j j.isLt) qg) ⟨j.val % 64, by omega⟩ * (rate : EReal)
  else if j.val < 1280 then T (headNormed (headOf p j j.isLt) kg) ⟨j.val % 64, by omega⟩
  else p j

/-- Over the eighth's reciprocal and the logarithm of two is times the rate. -/
theorem over_log (z : EReal) : Ideal.div (z * Ideal.ofBits FTy.f32 0x3E000000#32) (Ideal.log (Ideal.ofBits FTy.f32 0x40000000#32)) = z * (rate : EReal) := by
  have h8 : Ideal.ofBits FTy.f32 0x3E000000#32 = ((1 / 8 : ℝ) : EReal) := by
    simp [Ideal.ofBits, Ideal.ieee]
    norm_cast
    norm_num
  have h2 : Ideal.ofBits FTy.f32 0x40000000#32 = ((2 : ℝ) : EReal) := by
    have e : ((8388608 : ℝ) : EReal) * ((2 ^ 22 : ℝ) : EReal)⁻¹ = ((2 : ℝ) : EReal) := by
      rw [← EReal.coe_inv, ← EReal.coe_mul]
      norm_num
    simp [Ideal.ofBits, Ideal.ieee]
    exact e
  have hl : Ideal.log ((2 : ℝ) : EReal) = ((Real.log 2 : ℝ) : EReal) := if_neg (by norm_num)
  have pos : 0 < Real.log 2 := Real.log_pos (by norm_num)
  rw [h8, h2, hl, Ideal.div_coe pos.ne', mul_assoc, ← EReal.coe_mul]
  unfold rate
  rw [one_div (Real.log 2)]

/-- Head `h` of the queries. -/
abbrev queryHead (p : Fin 1536 → EReal) (h : Fin 16) : Fin 64 → EReal := fun e => p ⟨h.val * 64 + e.val, by omega⟩
/-- Head `h` of the keys. -/
abbrev keyHead (p : Fin 1536 → EReal) (h : Fin 4) : Fin 64 → EReal := fun e => p ⟨1024 + (h.val * 64 + e.val), by omega⟩

/-- The three parts side by side, head by head. -/
theorem entry_parts (p : Fin 1536 → EReal) (qg kg : Fin 64 → EReal) (T : (Fin 64 → EReal) → Fin 64 → EReal) (j : Fin 1536) :
    (if h : j.val < 1024 then
        Ideal.div (T (headNormed (queryHead p ⟨j.val / 64, by omega⟩) qg) ⟨j.val % 64, by omega⟩ * Ideal.ofBits FTy.f32 0x3E000000#32)
          (Ideal.log (Ideal.ofBits FTy.f32 0x40000000#32))
      else if h : j.val - 1024 < 256 then T (headNormed (keyHead p ⟨(j.val - 1024) / 64, by omega⟩) kg) ⟨(j.val - 1024) % 64, by omega⟩
      else p ⟨1280 + (j.val - 1024 - 256), by omega⟩) = entry p qg kg T j := by
  have hj := j.isLt
  unfold entry
  by_cases h : j.val < 1024
  · rw [dif_pos h, if_pos h, over_log]
    rfl
  rw [dif_neg h, if_neg h]
  by_cases h' : j.val - 1024 < 256
  · rw [dif_pos h', if_pos (by omega)]
    have e : keyHead p ⟨(j.val - 1024) / 64, by omega⟩ = headOf p j hj :=
      funext fun e => congrArg p (Fin.ext (show 1024 + ((j.val - 1024) / 64 * 64 + e.val) = j.val / 64 * 64 + e.val by omega))
    rw [e]
    exact congrArg _ (Fin.ext (show (j.val - 1024) % 64 = j.val % 64 by omega))
  rw [dif_neg h', if_neg (by omega)]
  exact congrArg p (Fin.ext (show 1280 + (j.val - 1024 - 256) = j.val by omega))

end Cert.Queries
end
-- ==== Proof.QueriesReference.lean ====
/- The reference's queries, keys and values at a row and a column. -/
module
public import proofs.«01_k».proof.Proof.Queries
public import proofs.«01_k».proof.Proof.Gen.QkvReferenceIdeal.Read
public import Idealize.ShloMosaic.Lib.Claim
public import Idealize.ShloMosaic.Lib.Tactic

@[expose] public section
set_option maxRecDepth 16384
noncomputable section
open Idealize.ShloMosaic Idealize.ShloMosaic.TcCoe Idealize.SL.Sem Idealize.ShloMosaic.StableHlo Idealize.ShloMosaic.Tactic
namespace Cert.QkvReferenceIdeal.Queries
open Cert.QkvReferenceIdeal Cert.QkvReferenceIdeal.Gen Cert.QkvReferenceIdeal.Read Cert.Queries Cert.Dense

abbrev Arr (s : Shape) (e : EltTy) : Type := (⟨s, e⟩ : BufTy).Contents (Elt Ideal)

variable (x0 : Arr S17408x1024 .f32) (x1 : Arr S6x8x1x1024 .f32) (x2 : Arr S4x2x1024 .f32) (x3 : Arr S1x1024x1536 .f32)
  (x4 x5 : Arr S1x64 .f32) (x6 x7 : Arr S4096x2x16 .f32)

/-- Row `R` under modulation `s`, projected. -/
def rowProjected (R : Fin 17408) (s : Fin 8) : Fin 1536 → EReal :=
  projected (modulated (fun d => x0 (ix2 R d)) (fun d => x2 (ix3 1 0 d)) (fun d => x1 (ix4 0 s 0 d)) (fun d => x1 (ix4 1 s 0 d))) (fun d j => x3 (ix3 0 d j))

/-- Row `l` of sequence `b`, projected. -/
abbrev latent (b : Fin 4) (l : Fin 4096) : Fin 1536 → EReal :=
  rowProjected x0 x1 x2 x3 (⟨b.val * 4096 + l.val, by omega⟩ : Fin 17408) (⟨b.val, by omega⟩ : Fin 8)

/-- Row `l` of context `b`, projected. -/
abbrev context (b : Fin 4) (l : Fin 256) : Fin 1536 → EReal :=
  rowProjected x0 x1 x2 x3 (⟨16384 + (b.val * 256 + l.val), by omega⟩ : Fin 17408) 4

theorem latent_apply (b : Fin 4) (l : Fin 4096) (j : Fin 1536) : val_main_v55 (F := Ideal) x0 x1 x2 x3 (ix3 b l j) = latent x0 x1 x2 x3 b l j := by
  have h : ∀ d, val_main_v28 (F := Ideal) x0 x1 x2 (ix3 b l d) = modulated (fun d => x0 (ix2 (⟨b.val * 4096 + l.val, by omega⟩ : Fin 17408) d))
      (fun d => x2 (ix3 1 0 d)) (fun d => x1 (ix4 0 (⟨b.val, by omega⟩ : Fin 8) 0 d)) (fun d => x1 (ix4 1 (⟨b.val, by omega⟩ : Fin 8) 0 d)) d := by
    intro d
    pointwise [val_main_v28, val_main_v27, val_main_v26, val_main_v25, val_main_v24, val_main_v23, val_main_cst_2, val_main_v22, val_main_v21,
      val_main_v20, val_main_v19, val_main_v18, val_main_v17, val_main_v16, val_main_v15, val_main_cst_1, val_main_v14, val_main_v13, val_main_cst_0,
      val_main_v12, val_main_v11, val_main_cst, val_main_v10, val_main_v9, val_main_v8, val_main_v7, val_main_v6, val_main_v5, val_main_v4, val_main_v1,
      val_main_v0]
    rfl
  pointwise [val_main_v55, val_main_v54]
  simp only [h]
  rfl

theorem context_apply (b : Fin 4) (l : Fin 256) (j : Fin 1536) : val_main_v173 (F := Ideal) x0 x1 x2 x3 (ix3 b l j) = context x0 x1 x2 x3 b l j := by
  have h : ∀ d, val_main_v53 (F := Ideal) x0 x1 x2 (ix3 b l d) = modulated (fun d => x0 (ix2 (⟨16384 + (b.val * 256 + l.val), by omega⟩ : Fin 17408) d))
      (fun d => x2 (ix3 1 0 d)) (fun d => x1 (ix4 0 4 0 d)) (fun d => x1 (ix4 1 4 0 d)) d := by
    intro d
    pointwise [val_main_v53, val_main_v52, val_main_v51, val_main_v50, val_main_v49, val_main_v48, val_main_cst_6, val_main_v47, val_main_v46,
      val_main_v45, val_main_v44, val_main_v43, val_main_v42, val_main_v41, val_main_v40, val_main_cst_5, val_main_v39, val_main_v38, val_main_cst_4,
      val_main_v37, val_main_v36, val_main_cst_3, val_main_v35, val_main_v34, val_main_v33, val_main_v32, val_main_v31, val_main_v30, val_main_v29,
      val_main_v3, val_main_v2]
    rfl
  pointwise [val_main_v173, val_main_v172]
  simp only [h]
  rfl

theorem latent_query (b : Fin 4) (l : Fin 4096) (h : Fin 16) (i : Fin 64) : val_main_v71 (F := Ideal) x0 x1 x2 x3 x4 (ix4 b l h i)
    = headNormed (queryHead (latent x0 x1 x2 x3 b l) h) (fun e => x4 (ix2 0 e)) i := by
  pointwise [val_main_v71, val_main_v70, val_main_v69, val_main_v68, val_main_v67, val_main_v66, val_main_v65, val_main_v64, val_main_cst_9,
    val_main_v63, val_main_v62, val_main_cst_8, val_main_v61, val_main_v60, val_main_cst_7, val_main_v59, val_main_v58, val_main_v57, val_main_v56]
  simp only [latent_apply]
  rfl

theorem latent_key (b : Fin 4) (l : Fin 4096) (h : Fin 4) (i : Fin 64) : val_main_v124 (F := Ideal) x0 x1 x2 x3 x5 (ix4 b l h i)
    = headNormed (keyHead (latent x0 x1 x2 x3 b l) h) (fun e => x5 (ix2 0 e)) i := by
  pointwise [val_main_v124, val_main_v123, val_main_v122, val_main_v121, val_main_v120, val_main_v119, val_main_v118, val_main_v117, val_main_cst_12,
    val_main_v116, val_main_v115, val_main_cst_11, val_main_v114, val_main_v113, val_main_cst_10, val_main_v112, val_main_v111, val_main_v110, val_main_v109]
  simp only [latent_apply]
  rfl

theorem context_query (b : Fin 4) (l : Fin 256) (h : Fin 16) (i : Fin 64) : val_main_v189 (F := Ideal) x0 x1 x2 x3 x4 (ix4 b l h i)
    = headNormed (queryHead (context x0 x1 x2 x3 b l) h) (fun e => x4 (ix2 0 e)) i := by
  pointwise [val_main_v189, val_main_v188, val_main_v187, val_main_v186, val_main_v185, val_main_v184, val_main_v183, val_main_v182, val_main_cst_17,
    val_main_v181, val_main_v180, val_main_cst_16, val_main_v179, val_main_v178, val_main_cst_15, val_main_v177, val_main_v176, val_main_v175, val_main_v174]
  simp only [context_apply]
  rfl

theorem context_key (b : Fin 4) (l : Fin 256) (h : Fin 4) (i : Fin 64) : val_main_v205 (F := Ideal) x0 x1 x2 x3 x5 (ix4 b l h i)
    = headNormed (keyHead (context x0 x1 x2 x3 b l) h) (fun e => x5 (ix2 0 e)) i := by
  pointwise [val_main_v205, val_main_v204, val_main_v203, val_main_v202, val_main_v201, val_main_v200, val_main_v199, val_main_v198, val_main_cst_20,
    val_main_v197, val_main_v196, val_main_cst_19, val_main_v195, val_main_v194, val_main_cst_18, val_main_v193, val_main_v192, val_main_v191, val_main_v190]
  simp only [context_apply]
  rfl

/-- The angles' table at position `l`. -/
abbrev table (x : Arr S4096x2x16 .f32) (l : Fin 4096) : Fin 2 → Fin 16 → EReal := fun a f => x (ix3 l a f)

theorem rotated_query (b : Fin 4) (l : Fin 4096) (h : Fin 16) (i : Fin 64) : val_main_v108 (F := Ideal) x0 x1 x2 x3 x4 x6 x7 (ix4 b l h i)
    = rotated (table x6 l) (table x7 l) (headNormed (queryHead (latent x0 x1 x2 x3 b l) h) (fun e => x4 (ix2 0 e))) i := by
  pointwise [val_main_v108, val_main_v107, val_main_v106, val_main_v105, val_main_v104, val_main_v103, val_main_v102, val_main_v101, val_main_v100,
    val_main_v99, val_main_v98, val_main_v97, val_main_v96, val_main_v95, val_main_v94, val_main_v93, val_main_v92, val_main_v91, val_main_v90,
    val_main_v89, val_main_v88, val_main_v87, val_main_v86, val_main_v85, val_main_v84, val_main_v83, val_main_v82, val_main_v81, val_main_v80,
    val_main_v79, val_main_v78, val_main_v77, val_main_v76, val_main_v75, val_main_v74, val_main_v73, val_main_v72]
  simp only [latent_query]
  exact rotated_parts (table x6 l) (table x7 l) (headNormed (queryHead (latent x0 x1 x2 x3 b l) h) (fun e => x4 (ix2 0 e))) i

theorem rotated_key (b : Fin 4) (l : Fin 4096) (h : Fin 4) (i : Fin 64) : val_main_v161 (F := Ideal) x0 x1 x2 x3 x5 x6 x7 (ix4 b l h i)
    = rotated (table x6 l) (table x7 l) (headNormed (keyHead (latent x0 x1 x2 x3 b l) h) (fun e => x5 (ix2 0 e))) i := by
  pointwise [val_main_v161, val_main_v160, val_main_v159, val_main_v158, val_main_v157, val_main_v156, val_main_v155, val_main_v154, val_main_v153,
    val_main_v152, val_main_v151, val_main_v150, val_main_v149, val_main_v148, val_main_v147, val_main_v146, val_main_v145, val_main_v144, val_main_v143,
    val_main_v142, val_main_v141, val_main_v140, val_main_v139, val_main_v138, val_main_v137, val_main_v136, val_main_v135, val_main_v134, val_main_v133,
    val_main_v132, val_main_v131, val_main_v130, val_main_v129, val_main_v128, val_main_v127, val_main_v126, val_main_v125]
  simp only [latent_key]
  exact rotated_parts (table x6 l) (table x7 l) (headNormed (keyHead (latent x0 x1 x2 x3 b l) h) (fun e => x5 (ix2 0 e))) i

/-- The queries, keys and values over the arguments at row `R`: the latents' heads rotated, the context's not. -/
def resultAt (R : Fin 17408) (j : Fin 1536) : EReal :=
  entry (rowProjected x0 x1 x2 x3 R (streamOf R)) (fun e => x4 (ix2 0 e)) (fun e => x5 (ix2 0 e))
    (if R.val < 16384 then rotated (table x6 ⟨R.val % 4096, by omega⟩) (table x7 ⟨R.val % 4096, by omega⟩) else id) j

theorem latent_result (b : Fin 16384) (j : Fin 1536) : val_main_v171 (F := Ideal) x0 x1 x2 x3 x4 x5 x6 x7 (ix2 b j)
    = entry (latent x0 x1 x2 x3 ⟨b.val / 4096, by omega⟩ ⟨b.val % 4096, by omega⟩) (fun e => x4 (ix2 0 e)) (fun e => x5 (ix2 0 e))
      (rotated (table x6 ⟨b.val % 4096, by omega⟩) (table x7 ⟨b.val % 4096, by omega⟩)) j := by
  pointwise [val_main_v171, val_main_v170, val_main_v169, val_main_v168, val_main_v167, val_main_v166, val_main_v165, val_main_v164, val_main_cst_14,
    val_main_v163, val_main_v162, val_main_cst_13]
  simp only [rotated_query, rotated_key, latent_apply]
  exact entry_parts _ _ _ _ j

theorem context_result (b : Fin 1024) (j : Fin 1536) : val_main_v215 (F := Ideal) x0 x1 x2 x3 x4 x5 (ix2 b j)
    = entry (context x0 x1 x2 x3 ⟨b.val / 256, by omega⟩ ⟨b.val % 256, by omega⟩) (fun e => x4 (ix2 0 e)) (fun e => x5 (ix2 0 e)) id j := by
  pointwise [val_main_v215, val_main_v214, val_main_v213, val_main_v212, val_main_v211, val_main_v210, val_main_v209, val_main_v208, val_main_cst_22,
    val_main_v207, val_main_v206, val_main_cst_21]
  simp only [context_query, context_key, context_apply]
  exact entry_parts _ _ _ id j

/-- The reference at a row and a column. -/
theorem result_apply (R : Fin 17408) (j : Fin 1536) : val_main_v217 (F := Ideal) x0 x1 x2 x3 x4 x5 x6 x7 (ix2 R j)
    = resultAt x0 x1 x2 x3 x4 x5 x6 x7 R j := by
  have hR := R.isLt
  unfold resultAt
  pointwise [val_main_v217, val_main_v216]
  by_cases h : R.val < 16384
  · rw [dif_pos h, if_pos h, latent_result]
    have e : (⟨R.val / 4096 * 4096 + R.val % 4096, by omega⟩ : Fin 17408) = R := Fin.ext (show R.val / 4096 * 4096 + R.val % 4096 = R.val by omega)
    have s : streamOf R = (⟨R.val / 4096, by omega⟩ : Fin 8) := if_pos h
    have q : latent x0 x1 x2 x3 ⟨R.val / 4096, by omega⟩ ⟨R.val % 4096, by omega⟩ = rowProjected x0 x1 x2 x3 R (streamOf R) := by
      rw [s]
      exact congrArg (rowProjected x0 x1 x2 x3 · _) e
    exact congrArg (fun p => entry p _ _ _ j) q
  · rw [dif_neg h, if_neg h, context_result]
    have e : (⟨16384 + ((R.val - 16384) / 256 * 256 + (R.val - 16384) % 256), by omega⟩ : Fin 17408) = R :=
      Fin.ext (show 16384 + ((R.val - 16384) / 256 * 256 + (R.val - 16384) % 256) = R.val by omega)
    have s : streamOf R = 4 := if_neg h
    have q : context x0 x1 x2 x3 ⟨(R.val - 16384) / 256, by omega⟩ ⟨(R.val - 16384) % 256, by omega⟩ = rowProjected x0 x1 x2 x3 R (streamOf R) := by
      rw [s]
      exact congrArg (rowProjected x0 x1 x2 x3 · _) e
    exact congrArg (fun p => entry p _ _ _ j) q

end Cert.QkvReferenceIdeal.Queries
end
-- ==== Proof.Reals.lean ====
/- Real values: a normalised row is real whatever the row, and so is its projection through real weights; two heads'
   sums of squares by a mask. -/
module
public import proofs.«01_k».proof.Proof.Queries
public import proofs.«01_k».proof.Proof.Softmax

@[expose] public section
noncomputable section
open Idealize.ShloMosaic
namespace Cert.Queries
open Cert.Dense

theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem real_add {a b : EReal} (ha : ∃ r : ℝ, a = r) (hb : ∃ r : ℝ, b = r) : ∃ r : ℝ, a + b = r := by
  obtain ⟨x, rfl⟩ := ha
  obtain ⟨y, rfl⟩ := hb
  exact ⟨x + y, (EReal.coe_add x y).symm⟩

theorem real_sum {n : ℕ} {f : Fin n → EReal} (hf : ∀ k, ∃ r : ℝ, f k = r) : ∃ r : ℝ, ∑ k, f k = r := by
  choose a ha using hf
  exact ⟨∑ k, a k, by simp only [ha]; exact Cert.Softmax.coe_sum Finset.univ a⟩

theorem width_word : Ideal.ofBits FTy.f32 0x44800000#32 = ((1024 : ℝ) : EReal) := by
  have e : ((8388608 : ℝ) : EReal) * ((2 ^ 13 : ℝ) : EReal)⁻¹ = ((1024 : ℝ) : EReal) := by
    rw [← EReal.coe_inv, ← EReal.coe_mul]
    norm_num
  simp [Ideal.ofBits, Ideal.ieee]
  exact e

theorem head_word : Ideal.ofBits FTy.f32 0x42800000#32 = ((64 : ℝ) : EReal) := by
  have e : ((8388608 : ℝ) : EReal) * ((2 ^ 17 : ℝ) : EReal)⁻¹ = ((64 : ℝ) : EReal) := by
    rw [← EReal.coe_inv, ← EReal.coe_mul]
    norm_num
  simp [Ideal.ofBits, Ideal.ieee]
  exact e

theorem part_word : Ideal.ofBits FTy.f32 0x3C800000#32 = ((1 / 64 : ℝ) : EReal) := by
  simp [Ideal.ofBits, Ideal.ieee]
  norm_cast
  norm_num

theorem small_word : ∃ r : ℝ, 0 < r ∧ Ideal.ofBits FTy.f32 0x358637BD#32 = (r : EReal) := by
  have e : ((8796093 : ℝ) : EReal) * ((2 ^ 43 : ℝ) : EReal)⁻¹ = ((8796093 * (2 ^ 43)⁻¹ : ℝ) : EReal) := by
    rw [← EReal.coe_inv, ← EReal.coe_mul]
  refine ⟨8796093 * (2 ^ 43)⁻¹, by positivity, ?_⟩
  refine Eq.trans ?_ e
  simp [Ideal.ofBits, Ideal.ieee]
  rfl

theorem square_nonneg (a : EReal) : 0 ≤ a * a := by
  induction a using EReal.rec with
  | bot => simp
  | top => simp
  | coe r => rw [← EReal.coe_mul]; exact_mod_cast mul_self_nonneg r

/-- A row over its root mean square is real: over an infinite one it is zero. -/
theorem real_normed (x : Fin 1024 → EReal) (d : Fin 1024) :
    ∃ r : ℝ, x d * Ideal.rsqrt (Ideal.div (∑ e, x e * x e) (Ideal.ofBits FTy.f32 0x44800000#32) + Ideal.ofBits FTy.f32 0x358637BD#32) = r := by
  obtain ⟨ε, pos, hε⟩ := small_word
  rw [width_word, hε, Ideal.div_coe (by norm_num)]
  by_cases h : ∀ e, ∃ r : ℝ, x e = r
  · choose a ha using h
    have s : ∑ e, x e * x e = ((∑ e, a e * a e : ℝ) : EReal) := by
      simp only [ha, ← EReal.coe_mul]
      exact Cert.Softmax.coe_sum Finset.univ fun e => a e * a e
    have p : 0 < (∑ e, a e * a e) * (1 / 1024) + ε := by
      have := Finset.sum_nonneg fun e (_ : e ∈ Finset.univ) => mul_self_nonneg (a e)
      positivity
    rw [s, ← EReal.coe_mul, ← EReal.coe_add]
    refine real_mul ⟨a d, ha d⟩ ⟨(Real.sqrt ((∑ e, a e * a e) * (1 / 1024) + ε))⁻¹, ?_⟩
    show (if _ then _ else _) = _
    rw [if_neg (by linarith), if_neg p.ne']
  · push Not at h
    obtain ⟨e, he⟩ := h
    have big : x e * x e = ⊤ := by
      generalize x e = y at he
      induction y using EReal.rec with
      | bot => simp
      | top => simp
      | coe r => exact absurd rfl (he r)
    have s : ∑ e, x e * x e = ⊤ := top_le_iff.mp (big ▸ Finset.single_le_sum (f := fun e => x e * x e) (fun e _ => square_nonneg (x e)) (Finset.mem_univ e))
    rw [s, EReal.top_mul_coe_of_pos (by norm_num), EReal.top_add_coe]
    exact ⟨0, (mul_zero (x d)).trans EReal.coe_zero.symm⟩

theorem one_real : ∃ r : ℝ, (1 : EReal) = r := ⟨1, EReal.coe_one.symm⟩

/-- A row normalised, scaled by reals and projected through reals is real. -/
theorem real_projected (x g sh sc : Fin 1024 → EReal) (w : Fin 1024 → Fin 1536 → EReal) (hg : ∀ d, ∃ r : ℝ, g d = r) (hsh : ∀ d, ∃ r : ℝ, sh d = r)
    (hsc : ∀ d, ∃ r : ℝ, sc d = r) (hw : ∀ d j, ∃ r : ℝ, w d j = r) (j : Fin 1536) : ∃ r : ℝ, projected (modulated x g sh sc) w j = r :=
  real_sum fun d => real_mul (real_add (real_mul (real_mul (real_normed x d) (hg d)) (real_add one_real (hsc d))) (hsh d)) (hw d j)

/-- The sum over the lanes of one head of two. -/
theorem sum_head (f : Fin 128 → EReal) (l : Fin 128) :
    ∑ k : Fin 128, f k * (if k.val / 64 = l.val / 64 then 1 else 0) = ∑ e : Fin 64, f ⟨l.val / 64 * 64 + e.val, by omega⟩ := by
  have hl := l.isLt
  refine (Fin.sum_univ_add (a := 64) (b := 64) fun k : Fin 128 => f k * (if k.val / 64 = l.val / 64 then 1 else 0)).trans ?_
  have lo : ∀ e : Fin 64, (Fin.castAdd 64 e : Fin 128).val / 64 = 0 := fun e => by rw [Fin.val_castAdd]; omega
  have hi : ∀ e : Fin 64, (Fin.natAdd 64 e : Fin 128).val / 64 = 1 := fun e => by rw [Fin.val_natAdd]; omega
  simp only [lo, hi]
  by_cases h : l.val < 64
  · have e0 : l.val / 64 = 0 := by omega
    simp only [e0, if_true, one_ne_zero, if_false, mul_one, mul_zero, Finset.sum_const_zero, add_zero]
    exact Finset.sum_congr rfl fun e _ => congrArg f (Fin.ext (show e.val = 0 * 64 + e.val by omega))
  · have e1 : l.val / 64 = 1 := by omega
    simp only [e1, if_true, zero_ne_one, if_false, mul_one, mul_zero, Finset.sum_const_zero, zero_add]
    exact Finset.sum_congr rfl fun e _ => congrArg f (Fin.ext (show 64 + e.val = 1 * 64 + e.val by omega))

/-- A lane over its head's root mean square, the squares summed by the heads' mask and what they leave over added. -/
def raw (q g : Fin 128 → EReal) (B : Fin 128 → Fin 128 → EReal) (l : Fin 128) : EReal :=
  q l * Ideal.rsqrt ((∑ k, q k * q k * B k l + ∑ k, (q k * q k - q k * q k) * B k l) * Ideal.ofBits FTy.f32 0x3C800000#32
    + Ideal.ofBits FTy.f32 0x358637BD#32) * g l

/-- Real lanes' squares leave nothing over, and the lane is its head's. -/
theorem raw_eq (q g : Fin 128 → EReal) (B : Fin 128 → Fin 128 → EReal) (hB : ∀ k l, B k l = if k.val / 64 = l.val / 64 then 1 else 0)
    (hq : ∀ k, ∃ r : ℝ, q k = r) (u γ : Fin 64 → EReal) (l : Fin 128) (i : Fin 64) (hi : i.val = l.val % 64)
    (hu : ∀ e : Fin 64, q ⟨l.val / 64 * 64 + e.val, by omega⟩ = u e) (hγ : g l = γ i) : raw q g B l = headNormed u γ i := by
  have zero : ∀ k, q k * q k - q k * q k = 0 := by
    intro k
    obtain ⟨r, hr⟩ := hq k
    rw [hr, ← EReal.coe_mul, ← EReal.coe_sub, sub_self, EReal.coe_zero]
  have ql : q l = u i := by
    rw [← hu i]
    exact congrArg q (Fin.ext (show l.val = l.val / 64 * 64 + i.val by omega))
  unfold raw headNormed
  simp only [zero, zero_mul, Finset.sum_const_zero, add_zero, hB]
  rw [sum_head (fun k => q k * q k) l, head_word, part_word, Ideal.div_coe (by norm_num), ql, hγ]
  simp only [hu]

end Cert.Queries
end
-- ==== Proof.QkvIdeal.Blocks.lean ====
/- What a grid point of the projection leaves: twelve blocks of columns side by side, eight of queries, two of keys and
   two of values. -/
module
public import proofs.«01_k».proof.Proof.Reals
public import proofs.«01_k».proof.Proof.Gen.QkvIdeal.Value
public import Idealize.ShloMosaic.Lib.Pipeline.ValueKit
public import Idealize.ShloMosaic.Lib.Pipeline.ReadBack
public import Idealize.ShloMosaic.Lib.Pipeline.FrameBody

@[expose] public section
set_option pp.maxSteps 300
set_option maxRecDepth 16384
noncomputable section
open Idealize.ShloMosaic Idealize.ShloMosaic.TcCoe Idealize.SL.Sem
open Idealize.ShloMosaic.Pipeline (Dat)
namespace Cert.QkvIdeal.Value
open Cert.QkvIdeal Cert.QkvIdeal.Gen Cert.Queries

theorem columnInb (n : ℕ) (a : Fin 2) : ![0, n % 12 * 128] a + ![512, 128] a ≤ S512x1536.size a := by
  fin_cases a <;> simp <;> omega

/-- Where column block `n` lies. -/
def columnRect (n : ℕ) : Rect S512x1536 := Rect.unit (s := S512x1536) ![0, n % 12 * 128] ![512, 128] (columnInb n)

theorem columnSlices (n : ℕ) : S512x1536.Slices ![0, n % 12 * 128] S512x128 := by
  refine ⟨rfl, ?_⟩
  intro a; fin_cases a <;> simp <;> omega

/-- Column block `n` of the projection. -/
def columnOf (v : FVec Ideal S512x1536 .f32) (n : ℕ) : FVec Ideal S512x128 .f32 :=
  extractStridedSlice S512x128 ![0, n % 12 * 128] v (columnSlices n)

/-- The gains of column block `n`. -/
def columnGain (g : Vec Ideal S1x1280 .f32) (n : ℕ) : Vec Ideal S1x128 .f32 :=
  View.ld (Val := Elt Ideal) (e' := .f32) g (Rect.unit (s := S1x1280) ![0, n % 10 * 128] ![1, 128] (by intro a; fin_cases a <;> simp <;> omega))

/-- Two heads normalised: the sums of squares by a product with the mask of the lanes of one head, in two parts. -/
def normedBlock (q : FVec Ideal S512x128 .f32) (bd : FVec Ideal S128x128 .bf16) (g : Vec Ideal S1x128 .f32) : FVec Ideal S512x128 .f32 :=
  mulf (mulf q (rsqrt (addf (mulf (addf
        (matmul dot_S512x128_S128x128_S512x128_1_0_0_1_n_n none (truncf .bf16 (mulf q q) bitsLt_bf16_f32) bd (constant S512x128 .f32 0x00000000#32))
        (matmul dot_S512x128_S128x128_S512x128_1_0_0_1_n_n none
          (truncf .bf16 (subf (mulf q q) (extf .f32 (truncf .bf16 (mulf q q) bitsLt_bf16_f32) bitsLt_bf16_f32)) bitsLt_bf16_f32)
          bd (constant S512x128 .f32 0x00000000#32)))
      (broadcast S512x128 (Scalar.ofBits .f32 0x3C800000#32))) (broadcast S512x128 (Scalar.ofBits .f32 0x358637BD#32)))))
    (broadcastTo S512x128 (shapeCast S1x128 g shapeCasts_S1x128_S1x128 : FVec Ideal S1x128 .f32) broadcasts_S1x128_S512x128)

/-- Two heads rotated: each lane times the cosine, its partner sixteen lanes on or back times the sine. -/
def turnedBlock (mask : IVec S512x128 1) (c s y : FVec Ideal S512x128 .f32) : FVec Ideal S512x128 .f32 :=
  addf (mulf y c) (mulf (select mask (dynamicRotate 1 112#32 none y rotates_S512x128_d1) (dynamicRotate 1 16#32 none y rotates_S512x128_d1)) s)

/-- Column block `n` as it is stored. -/
def column (v : FVec Ideal S512x1536 .f32) (mask : IVec S512x128 1) (c s : FVec Ideal S512x128 .f32) (bd : FVec Ideal S128x128 .bf16)
    (g : Vec Ideal S1x1280 .f32) (n : ℕ) : FVec Ideal S512x128 .bf16 :=
  if n < 8 then truncf .bf16 (mulf (turnedBlock mask c s (normedBlock (columnOf v n) bd (columnGain g n)))
      (broadcast S512x128 (Named.named κ "query" 0x3E38AA3B#32))) bitsLt_bf16_f32
  else if n < 10 then truncf .bf16 (turnedBlock mask c s (normedBlock (columnOf v n) bd (columnGain g n))) bitsLt_bf16_f32
  else truncf .bf16 (columnOf v n) bitsLt_bf16_f32

/-- The column blocks before block `n`, the last first. -/
def columns (v : FVec Ideal S512x1536 .f32) (mask : IVec S512x128 1) (c s : FVec Ideal S512x128 .f32) (bd : FVec Ideal S128x128 .bf16)
    (g : Vec Ideal S1x1280 .f32) : ℕ → List (View.Piece (Elt Ideal) S512x1536 .bf16)
  | 0 => []
  | n + 1 => ⟨columnRect n, column v mask c s bd g n⟩ :: columns v mask c s bd g n

section Columns
variable (v : FVec Ideal S512x1536 .f32) (mask : IVec S512x128 1) (c s : FVec Ideal S512x128 .f32) (bd : FVec Ideal S128x128 .bf16)
    (g : Vec Ideal S1x1280 .f32)

theorem mem_columns (N n : ℕ) (h : n < N) :
    (⟨columnRect n, column v mask c s bd g n⟩ : View.Piece (Elt Ideal) S512x1536 .bf16) ∈ columns v mask c s bd g N := by
  induction N with
  | zero => omega
  | succ N ih =>
    rcases Nat.lt_succ_iff_lt_or_eq.mp h with h | rfl
    · exact List.mem_cons_of_mem _ (ih h)
    · exact List.mem_cons_self

theorem of_mem_columns (N : ℕ) (p : View.Piece (Elt Ideal) S512x1536 .bf16) (h : p ∈ columns v mask c s bd g N) :
    ∃ n, n < N ∧ p = ⟨columnRect n, column v mask c s bd g n⟩ := by
  induction N with
  | zero => exact absurd h List.not_mem_nil
  | succ N ih =>
    rcases List.mem_cons.mp h with h | h
    · exact ⟨N, N.lt_succ_self, h⟩
    · obtain ⟨n, hn, e⟩ := ih h
      exact ⟨n, by omega, e⟩

/-- The place of a block's row and lane in the array. -/
theorem columnRect_emb (n : ℕ) (x0 : Fin 512) (x1 : Fin 128) : (columnRect n).emb (ix2 x0 x1 : S512x128.Idx)
    = (ix2 x0 (⟨n % 12 * 128 + x1.val, by omega⟩ : Fin 1536) : S512x1536.Idx) := by
  funext a
  match a with
  | ⟨0, _⟩ => exact Fin.ext (show 0 + 1 * x0.val = x0.val by omega)
  | ⟨1, _⟩ => exact Fin.ext (show n % 12 * 128 + 1 * x1.val = n % 12 * 128 + x1.val by omega)

/-- The array made of the blocks is the one that each of them reads. -/
theorem columns_canon (G : S512x1536.Idx → EReal)
    (hG : ∀ n, n < 12 → ∀ (r : Fin 512) (l : Fin 128) (h : n * 128 + l.val < 1536), column v mask c s bd g n (ix2 r l) = G (ix2 r ⟨n * 128 + l.val, h⟩))
    (y : S512x1536.Idx) : View.canon (columns v mask c s bd g 12) y = G y := by
  refine View.canon_apply_of_pieces (Val := Elt Ideal) (S := S512x1536) (e := .bf16) G _ ?_ y ?_
  · intro p hp x
    obtain ⟨n, hn, rfl⟩ := of_mem_columns v mask c s bd g 12 p hp
    change S512x128.Idx at x
    idx_vars x
    refine (hG n hn x0 x1 (by omega)).trans (congrArg G ((congrArg (ix2 x0) (Fin.ext ?_)).trans (columnRect_emb n x0 x1).symm))
    show n * 128 + x1.val = n % 12 * 128 + x1.val
    omega
  · have h0 : (y 0 : ℕ) < 512 := (y 0).isLt
    have h1 : (y 1 : ℕ) < 1536 := (y 1).isLt
    refine ⟨_, mem_columns v mask c s bd g 12 ((y 1 : ℕ) / 128) (by omega), ?_⟩
    refine (Rect.mem_set_unit (inb := columnInb _)).mpr fun a => ?_
    match a with
    | ⟨0, _⟩ =>
      show 0 ≤ (y 0 : ℕ) ∧ (y 0 : ℕ) < 0 + 512
      omega
    | ⟨1, _⟩ =>
      show (y 1 : ℕ) / 128 % 12 * 128 ≤ (y 1 : ℕ) ∧ (y 1 : ℕ) < (y 1 : ℕ) / 128 % 12 * 128 + 128
      omega

theorem normedBlock_apply (q : FVec Ideal S512x128 .f32) (g : Vec Ideal S1x128 .f32) (r : Fin 512) (l : Fin 128) :
    normedBlock q bd g (ix2 r l) = raw (fun k => q (ix2 r k)) (fun k => g (ix2 0 k)) (fun k l => bd (ix2 k l)) l := by
  pointwise [normedBlock]
  rfl

theorem turnedBlock_apply (y : FVec Ideal S512x128 .f32) (r : Fin 512) (l : Fin 128) (hm : mask (ix2 r l) = if l.val % 32 < 16 then 1#1 else 0#1) :
    turnedBlock mask c s y (ix2 r l) = y (ix2 r l) * c (ix2 r l)
      + (if l.val % 32 < 16 then y (ix2 r (⟨(l.val + 16) % 128, by omega⟩ : Fin 128)) else y (ix2 r (⟨(l.val + 112) % 128, by omega⟩ : Fin 128))) * s (ix2 r l) := by
  pointwise [turnedBlock]
  rw [hm]
  by_cases h : l.val % 32 < 16
  · simp only [if_pos h]
    exact congrArg (fun k : Fin 128 => y (ix2 r l) * c (ix2 r l) + y (ix2 r k) * s (ix2 r l)) (Fin.ext (by simp only; omega))
  · simp only [if_neg h]
    exact congrArg (fun k : Fin 128 => y (ix2 r l) * c (ix2 r l) + y (ix2 r k) * s (ix2 r l)) (Fin.ext (by simp only; omega))

theorem columnOf_apply (n : ℕ) (hn : n < 12) (r : Fin 512) (l : Fin 128) : columnOf v n (ix2 r l) = v (ix2 r (⟨n * 128 + l.val, by omega⟩ : Fin 1536)) := by
  pointwise [columnOf]
  exact congrArg (fun k : Fin 1536 => v (ix2 r k)) (Fin.ext (by simp only; omega))

theorem columnGain_apply (n : ℕ) (hn : n < 10) (l : Fin 128) : columnGain g n (ix2 0 l) = g (ix2 0 (⟨n * 128 + l.val, by omega⟩ : Fin 1280)) := by
  pointwise [columnGain, View.ld]
  exact congrArg (fun k : Fin 1280 => g (ix2 0 k)) (Fin.ext (by simp only; omega))

end Columns

theorem mask_apply (r : Fin 512) (l : Fin 128) :
    k0_pay7 (Scalar.select (Scalar.cmpi .eq 32#32 0#32) 1#32 32#32) k0_pay5 k0_pay6 (ix2 r l) = if l.val % 32 < 16 then 1#1 else 0#1 := by
  pointwise [k0_pay7, k0_pay5, k0_pay6]
  revert l
  decide +kernel

theorem out_columns (x0 : Vec Ideal S512x1024 .f32) (x1 x2 : Vec Ideal S1x1x1x1024 .f32) (x3 : Vec Ideal S1x1024 .f32) (x4 : Vec Ideal S1024x1536 .bf16)
    (x5 : Vec Ideal S1x1280 .f32) (x6 : Vec Ideal S128x128 .bf16) (x7 x8 : Vec Ideal S512x128 .f32) :
    out0_9 (F := Ideal) x0 x1 x2 x3 x4 x5 x6 x7 x8 = View.canon (columns (k0_pay38 x0 x1 x2 x3 x4 x5 x6 x7 x8) (k0_pay41 x0 x1 x2 x3 x4 x5 x6 x7 x8)
      (k0_pay42 x0 x1 x2 x3 x4 x5 x6 x7 x8) (k0_pay43 x0 x1 x2 x3 x4 x5 x6 x7 x8) (View.ld (Val := Elt Ideal) (e' := .bf16) x6 r0_5) x5 12) := by
  sl_kernel_rfl

end Cert.QkvIdeal.Value
end
-- ==== Proof.QkvIdeal.Tables.lean ====
/- The tables of cosines and of signed sines that the projection's call takes. -/
module
public import proofs.«01_k».proof.Proof.QkvIdeal.Blocks
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.QkvIdeal.Value
open Cert.QkvIdeal Cert.QkvIdeal.Gen Cert.Queries Cert.Dense

/-- The table of cosines at a row and a lane. -/
def cosAt (X : FVec Ideal S4096x2x16 .f32) (p : Fin 4608) (l : Fin 128) : EReal :=
  if h : p.val < 4096 then X (ix3 (⟨p.val, h⟩ : Fin 4096) (⟨l.val % 64 / 32, by omega⟩ : Fin 2) (⟨l.val % 16, by omega⟩ : Fin 16)) else 1

/-- The table of signed sines at a row and a lane. -/
def sinAt (X : FVec Ideal S4096x2x16 .f32) (p : Fin 4608) (l : Fin 128) : EReal :=
  if h : p.val < 4096 then
    if l.val % 32 < 16 then -X (ix3 (⟨p.val, h⟩ : Fin 4096) (⟨l.val % 64 / 32, by omega⟩ : Fin 2) (⟨l.val % 16, by omega⟩ : Fin 16))
    else X (ix3 (⟨p.val, h⟩ : Fin 4096) (⟨l.val % 64 / 32, by omega⟩ : Fin 2) (⟨l.val % 16, by omega⟩ : Fin 16))
  else 0

variable (m : (ℓ : Loc nD τ sig) → Buf (Elt Ideal) ℓ)

/-- The first half of a table's columns. -/
def firstHalf (X : FVec Ideal S4096x2x16 .f32) : FVec Ideal S4096x16 .f32 :=
  shapeCast S4096x16 (extractStridedSlice S4096x1x16 ![0, 0, 0] X slices_S4096x2x16_S4096x1x16_0_0_0) shapeCasts_S4096x1x16_S4096x16

/-- The second half of a table's columns. -/
def secondHalf (X : FVec Ideal S4096x2x16 .f32) : FVec Ideal S4096x16 .f32 :=
  shapeCast S4096x16 (extractStridedSlice S4096x1x16 ![0, 1, 0] X slices_S4096x2x16_S4096x1x16_0_1_0) shapeCasts_S4096x1x16_S4096x16

/-- Four parts side by side. -/
def strip (A B C D : FVec Ideal S4096x16 .f32) : FVec Ideal S4096x64 .f32 :=
  concatenate S4096x64 1 [⟨S4096x16, A⟩, ⟨S4096x16, B⟩, ⟨S4096x16, C⟩, ⟨S4096x16, D⟩] concatenates_S4096x16_S4096x16_S4096x16_S4096x16_S4096x64_d1

/-- Each row twice, side by side. -/
def doubled (Z : FVec Ideal S4096x64 .f32) : FVec Ideal S4096x128 .f32 :=
  shapeCast S4096x128 (broadcastInDim S1x4096x2x64 ![0, 1, 2, 3] bcast_S1x4096x1x64_S1x4096x2x64_0_1_2_3
    (shapeCast S1x4096x1x64 Z shapeCasts_S4096x64_S1x4096x1x64)) shapeCasts_S1x4096x2x64_S4096x128

/-- The table with 512 rows of one number below it. -/
def padded (Z : FVec Ideal S4096x128 .f32) (w : BitVec 32) : FVec Ideal S4608x128 .f32 :=
  concatenate S4608x128 0 [⟨S4096x128, Z⟩, ⟨S512x128, broadcastInDim S512x128 ![] bcast_S_S512x128 (constant S_ .f32 w)⟩] concatenates_S4096x128_S512x128_S4608x128_d0

theorem firstHalf_apply (X : FVec Ideal S4096x2x16 .f32) (p : Fin 4096) (e : Fin 16) : firstHalf X (ix2 p e) = X (ix3 p 0 e) := by
  pointwise [firstHalf]
theorem secondHalf_apply (X : FVec Ideal S4096x2x16 .f32) (p : Fin 4096) (e : Fin 16) : secondHalf X (ix2 p e) = X (ix3 p 1 e) := by
  pointwise [secondHalf]
theorem doubled_apply (Z : FVec Ideal S4096x64 .f32) (p : Fin 4096) (l : Fin 128) : doubled Z (ix2 p l) = Z (ix2 p (⟨l.val % 64, by omega⟩ : Fin 64)) := by
  pointwise [doubled]
theorem strip_apply (A B C D : FVec Ideal S4096x16 .f32) (p : Fin 4096) (e : Fin 64) : strip A B C D (ix2 p e)
    = if e.val < 16 then A (ix2 p (⟨e.val % 16, by omega⟩ : Fin 16)) else if e.val < 32 then B (ix2 p (⟨e.val % 16, by omega⟩ : Fin 16))
      else if e.val < 48 then C (ix2 p (⟨e.val % 16, by omega⟩ : Fin 16)) else D (ix2 p (⟨e.val % 16, by omega⟩ : Fin 16)) := by
  pointwise [strip]
  by_cases h0 : e.val < 16
  · rw [dif_pos h0, if_pos h0]
    exact congrArg (fun a : Fin 16 => A (ix2 p a)) (Fin.ext (show e.val = e.val % 16 by omega))
  rw [dif_neg h0, if_neg h0]
  by_cases h1 : e.val < 32
  · rw [dif_pos (show e.val - 16 < 16 by omega), if_pos h1]
    exact congrArg (fun a : Fin 16 => B (ix2 p a)) (Fin.ext (show e.val - 16 = e.val % 16 by omega))
  rw [dif_neg (show ¬ e.val - 16 < 16 by omega), if_neg h1]
  by_cases h2 : e.val < 48
  · rw [dif_pos (show e.val - 16 - 16 < 16 by omega), if_pos h2]
    exact congrArg (fun a : Fin 16 => C (ix2 p a)) (Fin.ext (show e.val - 16 - 16 = e.val % 16 by omega))
  rw [dif_neg (show ¬ e.val - 16 - 16 < 16 by omega), if_neg h2]
  exact congrArg (fun a : Fin 16 => D (ix2 p a)) (Fin.ext (show e.val - 16 - 16 - 16 = e.val % 16 by omega))
theorem padded_apply (Z : FVec Ideal S4096x128 .f32) (w : BitVec 32) (p : Fin 4608) (l : Fin 128) : padded Z w (ix2 p l)
    = if h : p.val < 4096 then Z (ix2 (⟨p.val, h⟩ : Fin 4096) l) else Ideal.ofBits .f32 w := by
  pointwise [padded]

variable (m : (ℓ : Loc nD τ sig) → Buf (Elt Ideal) ℓ)

theorem cosTable (c : Dev nD) : V m c main_v37 = padded (doubled (strip (firstHalf (m ((c : Thread nD τ).loc main_arg6))) (firstHalf (m ((c : Thread nD τ).loc main_arg6)))
    (secondHalf (m ((c : Thread nD τ).loc main_arg6))) (secondHalf (m ((c : Thread nD τ).loc main_arg6))))) 0x3F800000#32 := by
  sl_kernel_rfl
theorem sinTable (c : Dev nD) : V m c main_v39 = padded (doubled (strip (Host.negf (firstHalf (m ((c : Thread nD τ).loc main_arg7)))) (firstHalf (m ((c : Thread nD τ).loc main_arg7)))
    (Host.negf (secondHalf (m ((c : Thread nD τ).loc main_arg7)))) (secondHalf (m ((c : Thread nD τ).loc main_arg7))))) 0x00000000#32 := by
  sl_kernel_rfl

theorem one_bits : Ideal.ofBits .f32 0x3F800000#32 = (1 : EReal) := by
  simp [Ideal.ofBits, Ideal.ieee]
  norm_cast
  norm_num

/-- The table of cosines off its array. -/
theorem cosine_entry (X : FVec Ideal S4096x2x16 .f32) (p : Fin 4608) (l : Fin 128) :
    padded (doubled (strip (firstHalf X) (firstHalf X) (secondHalf X) (secondHalf X))) 0x3F800000#32 (ix2 p l) = cosAt X p l := by
  have hl := l.isLt
  rw [padded_apply]
  unfold cosAt
  by_cases h : p.val < 4096
  · rw [dif_pos h, dif_pos h, doubled_apply, strip_apply]
    simp only [firstHalf_apply, secondHalf_apply]
    have e : (⟨l.val % 64 % 16, by omega⟩ : Fin 16) = ⟨l.val % 16, by omega⟩ := Fin.ext (show l.val % 64 % 16 = l.val % 16 by omega)
    rw [e]
    by_cases h1 : l.val % 64 < 32
    · have q : (⟨l.val % 64 / 32, by omega⟩ : Fin 2) = 0 := Fin.ext (show l.val % 64 / 32 = 0 by omega)
      rw [q, if_pos h1, ite_self]
    · have q : (⟨l.val % 64 / 32, by omega⟩ : Fin 2) = 1 := Fin.ext (show l.val % 64 / 32 = 1 by omega)
      rw [q, if_neg h1, if_neg (by omega), ite_self]
  · rw [dif_neg h, dif_neg h]
    exact one_bits

/-- The table of signed sines off its array. -/
theorem sine_entry (X : FVec Ideal S4096x2x16 .f32) (p : Fin 4608) (l : Fin 128) :
    padded (doubled (strip (Host.negf (firstHalf X)) (firstHalf X) (Host.negf (secondHalf X)) (secondHalf X))) 0x00000000#32 (ix2 p l) = sinAt X p l := by
  have hl := l.isLt
  rw [padded_apply]
  unfold sinAt
  by_cases h : p.val < 4096
  · rw [dif_pos h, dif_pos h, doubled_apply, strip_apply]
    have n : ∀ (Z : FVec Ideal S4096x16 .f32) (i : S4096x16.Idx), Host.negf Z i = -(Z i : EReal) := fun Z i => rfl
    simp only [n, firstHalf_apply, secondHalf_apply]
    have e : (⟨l.val % 64 % 16, by omega⟩ : Fin 16) = ⟨l.val % 16, by omega⟩ := Fin.ext (show l.val % 64 % 16 = l.val % 16 by omega)
    rw [e]
    by_cases h1 : l.val % 64 < 32
    · have q : (⟨l.val % 64 / 32, by omega⟩ : Fin 2) = 0 := Fin.ext (show l.val % 64 / 32 = 0 by omega)
      rw [q]
      by_cases h2 : l.val % 32 < 16
      · rw [if_pos (by omega), if_pos h2]
      · rw [if_neg (by omega), if_pos h1, if_neg h2]
    · have q : (⟨l.val % 64 / 32, by omega⟩ : Fin 2) = 1 := Fin.ext (show l.val % 64 / 32 = 1 by omega)
      rw [q]
      by_cases h2 : l.val % 32 < 16
      · rw [if_neg (by omega), if_neg h1, if_pos (by omega), if_pos h2]
      · rw [if_neg (by omega), if_neg h1, if_neg (by omega), if_neg h2]
  · rw [dif_neg h, dif_neg h]
    exact Ideal.ofBits_zero _

theorem cosArray (c : Dev nD) (p : Fin 4608) (l : Fin 128) : V m c main_v37 (ix2 p l) = cosAt (m ((c : Thread nD τ).loc main_arg6)) p l :=
  (congrFun (cosTable m c) _).trans (cosine_entry _ p l)
theorem sinArray (c : Dev nD) (p : Fin 4608) (l : Fin 128) : V m c main_v39 (ix2 p l) = sinAt (m ((c : Thread nD τ).loc main_arg7)) p l :=
  (congrFun (sinTable m c) _).trans (sine_entry _ p l)

end Cert.QkvIdeal.Value
end
-- ==== Proof.QkvIdeal.Value.lean ====
/- The projection's result array over its arguments. -/
module
public import proofs.«01_k».proof.Proof.QueriesReference
public import proofs.«01_k».proof.Proof.QkvIdeal.Tables
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.QkvIdeal.Value
open Cert.QkvIdeal Cert.QkvIdeal.Gen Cert.Queries Cert.Dense Cert.QkvReferenceIdeal.Queries

theorem query_named : Named.named (F := Ideal) κ "query" (φ := .f32) 0x3E38AA3B#32 = (rate : EReal) := by
  show (κ "query").getD _ = _
  rfl

/-- The tables `c` and `s` rotate row `r`'s heads by `T r`. -/
def Turns (c s : FVec Ideal S512x128 .f32) (T : Fin 512 → (Fin 64 → EReal) → Fin 64 → EReal) : Prop :=
  ∀ (r : Fin 512) (y : Fin 64 → EReal) (l : Fin 128), y ⟨l.val % 64, by omega⟩ * c (ix2 r l)
    + (if h : l.val % 32 < 16 then y ⟨l.val % 64 + 16, by omega⟩ else y ⟨l.val % 64 - 16, by omega⟩) * s (ix2 r l) = T r y ⟨l.val % 64, by omega⟩

/-- The gains `g` repeat the queries' `qg` and then the keys' `kg`. -/
def Gains (g : Vec Ideal S1x1280 .f32) (qg kg : Fin 64 → EReal) : Prop :=
  ∀ j : Fin 1280, g (ix2 0 j) = if j.val < 1024 then qg ⟨j.val % 64, by omega⟩ else kg ⟨j.val % 64, by omega⟩

section Block
variable (v : FVec Ideal S512x1536 .f32) (mask : IVec S512x128 1) (c s : FVec Ideal S512x128 .f32) (bd : FVec Ideal S128x128 .bf16)
    (g : Vec Ideal S1x1280 .f32) (P : Fin 512 → Fin 1536 → EReal) (qg kg : Fin 64 → EReal) (T : Fin 512 → (Fin 64 → EReal) → Fin 64 → EReal)
    (hv : ∀ r j, v (ix2 r j) = P r j) (real : ∀ r j, ∃ x : ℝ, P r j = x)
    (hm : ∀ (r : Fin 512) (l : Fin 128), mask (ix2 r l) = if l.val % 32 < 16 then 1#1 else 0#1)
    (hB : ∀ k l : Fin 128, bd (ix2 k l) = if k.val / 64 = l.val / 64 then 1 else 0)
    (hT : Turns c s T) (hg : Gains g qg kg)

include hv real hm hB hT in
/-- A lane of a block of heads, rotated. -/
theorem turned_entry (n : ℕ) (hn : n < 10) (γ : Fin 64 → EReal) (hγ : ∀ l : Fin 128, columnGain g n (ix2 0 l) = γ ⟨l.val % 64, by omega⟩)
    (r : Fin 512) (l : Fin 128) : turnedBlock mask c s (normedBlock (columnOf v n) bd (columnGain g n)) (ix2 r l)
      = T r (headNormed (headOf (P r) (n * 128 + l.val) (by omega)) γ) ⟨(n * 128 + l.val) % 64, by omega⟩ := by
  have hl := l.isLt
  have key : ∀ (k : Fin 128) (i : Fin 64), k.val / 64 = l.val / 64 → i.val = k.val % 64 →
      normedBlock (columnOf v n) bd (columnGain g n) (ix2 r k) = headNormed (headOf (P r) (n * 128 + l.val) (by omega)) γ i := by
    intro k i hk hi
    have hkl := k.isLt
    refine (normedBlock_apply _ _ _ _ _).trans (raw_eq _ _ _ hB ?_ _ _ k i hi ?_ ?_)
    · intro a
      rw [columnOf_apply v n (by omega) r a, hv]
      exact real r _
    · intro e
      rw [columnOf_apply v n (by omega) r _, hv]
      exact congrArg (P r) (Fin.ext (show n * 128 + (k.val / 64 * 64 + e.val) = (n * 128 + l.val) / 64 * 64 + e.val by omega))
    · exact (hγ k).trans (congrArg γ (Fin.ext hi.symm))
  rw [turnedBlock_apply mask c s _ r l (hm r l), key l ⟨l.val % 64, by omega⟩ rfl rfl]
  have e : (⟨(n * 128 + l.val) % 64, by omega⟩ : Fin 64) = ⟨l.val % 64, by omega⟩ := Fin.ext (show (n * 128 + l.val) % 64 = l.val % 64 by omega)
  rw [e, ← hT r _ l]
  by_cases h : l.val % 32 < 16
  · rw [if_pos h, dif_pos h, key ⟨(l.val + 16) % 128, by omega⟩ ⟨l.val % 64 + 16, by omega⟩ (by simp only; omega) (by simp only; omega)]
  · rw [if_neg h, dif_neg h, key ⟨(l.val + 112) % 128, by omega⟩ ⟨l.val % 64 - 16, by omega⟩ (by simp only; omega) (by simp only; omega)]

include hv real hm hB hT hg in
/-- The array of the blocks, row by row. -/
theorem columns_entry (r : Fin 512) (j : Fin 1536) : View.canon (columns v mask c s bd g 12) (ix2 r j) = entry (P r) qg kg (T r) j := by
  refine columns_canon v mask c s bd g (fun y => entry (P (y 0)) qg kg (T (y 0)) (y 1)) ?_ (ix2 r j)
  intro n hn r l h
  have hl := l.isLt
  show column v mask c s bd g n (ix2 r l) = entry (P r) qg kg (T r) ⟨n * 128 + l.val, h⟩
  unfold column entry
  have gain : ∀ hn : n < 10, ∀ l : Fin 128, columnGain g n (ix2 0 l) = if n < 8 then qg ⟨l.val % 64, by omega⟩ else kg ⟨l.val % 64, by omega⟩ := by
    intro hn l
    have hl := l.isLt
    have e : (⟨(n * 128 + l.val) % 64, by omega⟩ : Fin 64) = ⟨l.val % 64, by omega⟩ := Fin.ext (show (n * 128 + l.val) % 64 = l.val % 64 by omega)
    refine (columnGain_apply g n hn l).trans ((hg _).trans ?_)
    by_cases h : n < 8
    · rw [if_pos h, if_pos (show n * 128 + l.val < 1024 by omega)]
      exact congrArg qg e
    · rw [if_neg h, if_neg (show ¬ n * 128 + l.val < 1024 by omega)]
      exact congrArg kg e
  by_cases h8 : n < 8
  · rw [if_pos h8, if_pos (show n * 128 + l.val < 1024 by omega)]
    refine congrArg₂ (· * ·) (turned_entry v mask c s bd g P T hv real hm hB hT n (by omega) qg (fun l => (gain (by omega) l).trans (if_pos h8)) r l) query_named
  rw [if_neg h8, if_neg (show ¬ n * 128 + l.val < 1024 by omega)]
  by_cases h10 : n < 10
  · rw [if_pos h10, if_pos (show n * 128 + l.val < 1280 by omega)]
    exact turned_entry v mask c s bd g P T hv real hm hB hT n (by omega) kg (fun l => (gain (by omega) l).trans (if_neg h8)) r l
  rw [if_neg h10, if_neg (show ¬ n * 128 + l.val < 1280 by omega)]
  exact (columnOf_apply v n hn r l).trans (hv r _)

end Block

/-- The block's rows, projected. -/
theorem projected_apply (x0 : Vec Ideal S512x1024 .f32) (x1 x2 : Vec Ideal S1x1x1x1024 .f32) (x3 : Vec Ideal S1x1024 .f32) (x4 : Vec Ideal S1024x1536 .bf16)
    (r : Fin 512) (j : Fin 1536) : k0_pay4 (F := Ideal) x0 x3 x1 x2 x4 (ix2 r j)
      = projected (modulated (fun d => x0 (ix2 r d)) (fun d => x3 (ix2 0 d)) (fun d => x1 (ix4 0 0 0 d)) (fun d => x2 (ix4 0 0 0 d))) (fun d j => x4 (ix2 d j)) j := by
  pointwise [k0_pay4]
  rfl

/-- What a grid point writes back, without the loads. -/
theorem out_eq (x0 : Vec Ideal S512x1024 .f32) (x1 x2 : Vec Ideal S1x1x1x1024 .f32) (x3 : Vec Ideal S1x1024 .f32) (x4 : Vec Ideal S1024x1536 .bf16)
    (x5 : Vec Ideal S1x1280 .f32) (x6 : Vec Ideal S128x128 .bf16) (x7 x8 : Vec Ideal S512x128 .f32) :
    out0_9 (F := Ideal) x0 x1 x2 x3 x4 x5 x6 x7 x8 = View.canon (columns (k0_pay4 (F := Ideal) x0 x3 x1 x2 x4)
      (k0_pay7 (Scalar.select (Scalar.cmpi .eq 32#32 0#32) 1#32 32#32) k0_pay5 k0_pay6) (k0_pay8 (F := Ideal) x7) (k0_pay9 (F := Ideal) x8)
      x6 x5 12) := by
  have l0 : View.ld (Val := Elt Ideal) (e' := .f32) x0 r0_0 = x0 := View.ld_unit_lit (Val := Elt Ideal) (S := S512x1024) (e := .f32) (off := ![0, 0]) _ x0 (by decide)
  have l3 : View.ld (Val := Elt Ideal) (e' := .f32) x3 r0_1 = x3 := View.ld_unit_lit (Val := Elt Ideal) (S := S1x1024) (e := .f32) (off := ![0, 0]) _ x3 (by decide)
  have l1 : View.ld (Val := Elt Ideal) (e' := .f32) x1 r0_2 = x1 := View.ld_unit_lit (Val := Elt Ideal) (S := S1x1x1x1024) (e := .f32) (off := ![0, 0, 0, 0]) _ x1 (by decide)
  have l2 : View.ld (Val := Elt Ideal) (e' := .f32) x2 r0_2 = x2 := View.ld_unit_lit (Val := Elt Ideal) (S := S1x1x1x1024) (e := .f32) (off := ![0, 0, 0, 0]) _ x2 (by decide)
  have l4 : View.ld (Val := Elt Ideal) (e' := .bf16) x4 r0_3 = x4 := View.ld_unit_lit (Val := Elt Ideal) (S := S1024x1536) (e := .bf16) (off := ![0, 0]) _ x4 (by decide)
  have l6 : View.ld (Val := Elt Ideal) (e' := .bf16) x6 r0_5 = x6 := View.ld_unit_lit (Val := Elt Ideal) (S := S128x128) (e := .bf16) (off := ![0, 0]) _ x6 (by decide)
  have l7 : View.ld (Val := Elt Ideal) (e' := .f32) x7 r0_4 = x7 := View.ld_unit_lit (Val := Elt Ideal) (S := S512x128) (e := .f32) (off := ![0, 0]) _ x7 (by decide)
  have l8 : View.ld (Val := Elt Ideal) (e' := .f32) x8 r0_4 = x8 := View.ld_unit_lit (Val := Elt Ideal) (S := S512x128) (e := .f32) (off := ![0, 0]) _ x8 (by decide)
  refine (out_columns x0 x1 x2 x3 x4 x5 x6 x7 x8).trans ?_
  unfold k0_pay38 k0_pay41 k0_pay42 k0_pay43 k0_pay39 k0_pay40
  rw [l0, l1, l2, l3, l4, l6, l7, l8]

variable (m : (ℓ : Loc nD τ sig) → Buf (Elt Ideal) ℓ)

theorem gainArray (c : Dev nD) (d : Fin 1024) : V m c main_v42 (ix2 0 d) = m ((c : Thread nD τ).loc main_arg2) (ix3 1 0 d) := by
  entry_read
  pointwise
theorem weightArray (c : Dev nD) (d : Fin 1024) (j : Fin 1536) : V m c main_v44 (ix2 d j) = m ((c : Thread nD τ).loc main_arg3) (ix3 0 d j) := by
  entry_read
  pointwise
theorem gains_parts (A B : FVec Ideal S1x64 .f32) (j : Fin 1280) :
    (if h : j.val < 1024 then A (ix2 0 (⟨j.val % 64, by omega⟩ : Fin 64)) else B (ix2 0 (⟨(j.val - 1024) % 64, by omega⟩ : Fin 64)))
      = if j.val < 1024 then A (ix2 0 (⟨j.val % 64, by omega⟩ : Fin 64)) else B (ix2 0 (⟨j.val % 64, by omega⟩ : Fin 64)) := by
  by_cases h : j.val < 1024
  · rw [dif_pos h, if_pos h]
  · rw [dif_neg h, if_neg h]
    exact congrArg (fun e : Fin 64 => B (ix2 0 e)) (Fin.ext (by simp only; omega))
theorem headGains (c : Dev nD) (j : Fin 1280) : V m c main_v9 (ix2 0 j) = if j.val < 1024 then m ((c : Thread nD τ).loc main_arg4) (ix2 0 (⟨j.val % 64, by omega⟩ : Fin 64))
    else m ((c : Thread nD τ).loc main_arg5) (ix2 0 (⟨j.val % 64, by omega⟩ : Fin 64)) := by
  entry_read
  pointwise
  exact gains_parts _ _ j
theorem one_half_word : Ideal.ofBits .bf16 0x3F80#16 = (1 : EReal) := by
  simp [Ideal.ofBits, Ideal.ieee]
  norm_cast
  norm_num

/-- The mask's words: one where the row and the column are of the same head. -/
theorem mask_words : ∀ k l : Fin 128, lit0 (S128x128.rowMajor (ix2 k l)) = if k.val / 64 = l.val / 64 then 0x3F80#16 else 0x0000#16 := by
  decide +kernel

theorem mask_array (c : Dev nD) : V m c main_cst = fun i => Ideal.ofBits .bf16 (lit0 (S128x128.rowMajor i)) := by
  sl_kernel_rfl

theorem headMask (c : Dev nD) (k l : Fin 128) : V m c main_cst (ix2 k l) = if k.val / 64 = l.val / 64 then (1 : EReal) else 0 := by
  refine (congrFun (mask_array m c) _).trans ?_
  refine (congrArg (Ideal.ofBits .bf16) (mask_words k l)).trans ?_
  by_cases h : k.val / 64 = l.val / 64
  · rw [if_pos h, if_pos h]
    exact one_half_word
  · rw [if_neg h, if_neg h]
    exact Ideal.ofBits_zero _

end Cert.QkvIdeal.Value
end
-- ==== Proof.QkvIdeal.Finite.lean ====
/- What the precondition says of the projection's modulations, gains and weights. -/
module
public import proofs.«01_k».proof.Proof.QueriesReference
public import proofs.«01_k».proof.Proof.Gen.Pre_finite_projection
public import Idealize.ShloMosaic.Lib.Claim

@[expose] public section
set_option maxRecDepth 16384
noncomputable section
open Idealize.ShloMosaic Idealize.ShloMosaic.TcCoe
namespace Cert.QkvReferenceIdeal.Queries
open Cert.QkvReferenceIdeal Cert.Queries

/-- Where the comparison with infinity holds the number is real. -/
theorem real_of_less (x : EReal) (h : BitVec.ofBool (decide ((FloatOps.absf (F := Ideal) (φ := .f32) x : EReal) < Ideal.ofBits .f32 0x7F800000#32)) = 1#1) : ∃ r : ℝ, x = r := by
  have lt : FloatOps.absf (F := Ideal) (φ := .f32) x < (⊤ : EReal) := by
    have top : Ideal.ofBits .f32 0x7F800000#32 = ⊤ := by simp [Ideal.ofBits, Ideal.ieee]
    rw [← top]
    by_contra hn
    rw [decide_eq_false hn] at h
    exact absurd h (by decide)
  induction x using EReal.rec with
  | bot => exact absurd lt (lt_irrefl _)
  | top => exact absurd lt (lt_irrefl _)
  | coe r => exact ⟨r, rfl⟩

section
variable (x0 : Arr S17408x1024 .f32) (x1 : Arr S6x8x1x1024 .f32) (x2 : Arr S4x2x1024 .f32) (x3 : Arr S1x1024x1536 .f32)
  (x4 x5 : Arr S1x64 .f32) (x6 x7 : Arr S4096x2x16 .f32) (h : Cert.Pre_finite_projection.fn (F := Ideal) x0 x1 x2 x3 x4 x5 x6 x7 = fun _ => 1#1)
include h

theorem real_mods (a : Fin 2) (s : Fin 5) (d : Fin 1024) : ∃ r : ℝ, x1 (ix4 (⟨a.val, by omega⟩ : Fin 6) (⟨s.val, by omega⟩ : Fin 8) 0 d) = r := by
  have e := congrFun h (ix1 (⟨(a.val * 5 + s.val) * 1024 + d.val, by omega⟩ : Fin 1584128))
  pointwise [Cert.Pre_finite_projection.fn] at e
  rw [dif_pos (by omega)] at e
  exact real_of_less _ e
theorem real_gain (d : Fin 1024) : ∃ r : ℝ, x2 (ix3 1 0 d) = r := by
  have e := congrFun h (ix1 (⟨10240 + d.val, by omega⟩ : Fin 1584128))
  pointwise [Cert.Pre_finite_projection.fn] at e
  exact real_of_less _ e
theorem real_weight (d : Fin 1024) (j : Fin 1536) : ∃ r : ℝ, x3 (ix3 0 d j) = r := by
  have e := congrFun h (ix1 (⟨11264 + (d.val * 1536 + j.val), by omega⟩ : Fin 1584128))
  pointwise [Cert.Pre_finite_projection.fn] at e
  have hj := j.isLt
  rw [dif_neg (by omega), dif_neg (by omega)] at e
  have p : (⟨(11264 + (d.val * 1536 + j.val) - 10240 - 1024) / 1536, by omega⟩ : Fin 1024) = d := Fin.ext (by simp only; omega)
  have q : (⟨(11264 + (d.val * 1536 + j.val) - 10240 - 1024) % 1536, by omega⟩ : Fin 1536) = j := Fin.ext (by simp only; omega)
  rw [p, q] at e
  exact real_of_less _ e
end

end Cert.QkvReferenceIdeal.Queries
end
-- ==== Proof.QkvIdeal.Launch.lean ====
/- The projection's call, block by block: the queries, keys and values of its arguments. -/
module
public import proofs.«01_k».proof.Proof.QkvIdeal.Value
public import proofs.«01_k».proof.Proof.QkvIdeal.Finite
public import proofs.«01_k».proof.Proof.Gen.QkvIdeal.Value
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.QkvIdeal.Value
open Cert.QkvIdeal Cert.QkvIdeal.Gen Cert.Queries Cert.Dense Cert.QkvReferenceIdeal.Queries

/-- A latent row's tables rotate a head. -/
theorem turn_latent (X Y : FVec Ideal S4096x2x16 .f32) (p : Fin 4608) (hp : p.val < 4096) (y : Fin 64 → EReal) (l : Fin 128) :
    y ⟨l.val % 64, by omega⟩ * cosAt X p l + (if h : l.val % 32 < 16 then y ⟨l.val % 64 + 16, by omega⟩ else y ⟨l.val % 64 - 16, by omega⟩) * sinAt Y p l
      = rotated (table X ⟨p.val, hp⟩) (table Y ⟨p.val, hp⟩) y ⟨l.val % 64, by omega⟩ := by
  have e : (⟨l.val % 16, by omega⟩ : Fin 16) = ⟨l.val % 64 % 16, by omega⟩ := Fin.ext (show l.val % 16 = l.val % 64 % 16 by omega)
  unfold cosAt sinAt rotated
  rw [dif_pos hp, dif_pos hp, e]
  by_cases h : l.val % 32 < 16
  · rw [dif_pos h, if_pos h, dif_pos (show l.val % 64 % 32 < 16 by omega), mul_neg, ← sub_eq_add_neg]
  · rw [dif_neg h, if_neg h, dif_neg (show ¬ l.val % 64 % 32 < 16 by omega)]

/-- A context row's tables leave a head as it is. -/
theorem turn_context (X Y : FVec Ideal S4096x2x16 .f32) (p : Fin 4608) (hp : ¬ p.val < 4096) (y : Fin 64 → EReal) (l : Fin 128) :
    y ⟨l.val % 64, by omega⟩ * cosAt X p l + (if h : l.val % 32 < 16 then y ⟨l.val % 64 + 16, by omega⟩ else y ⟨l.val % 64 - 16, by omega⟩) * sinAt Y p l
      = y ⟨l.val % 64, by omega⟩ := by
  unfold cosAt sinAt
  rw [dif_neg hp, dif_neg hp, mul_one, mul_zero, add_zero]

theorem modulated_congr {x x' g g' b b' a a' : Fin 1024 → EReal} (hx : x = x') (hg : g = g') (hb : b = b') (ha : a = a') :
    modulated x g b a = modulated x' g' b' a' := by
  rw [hx, hg, hb, ha]

theorem cosines_apply (x : Vec Ideal S512x128 .f32) (r : Fin 512) (l : Fin 128) : k0_pay8 (F := Ideal) x (ix2 r l) = x (ix2 r l) := by
  pointwise [k0_pay8]
theorem sines_apply (x : Vec Ideal S512x128 .f32) (r : Fin 512) (l : Fin 128) : k0_pay9 (F := Ideal) x (ix2 r l) = x (ix2 r l) := by
  pointwise [k0_pay9]

variable (m : (ℓ : Loc nD τ sig) → Buf (Elt Ideal) ℓ)

/-- Tile `t`'s modulation. -/
abbrev tileSeq (t : ℕ) : ℕ := if t < 32 then t / 8 else 4

/-- Tile `t`'s rows of the tables. -/
abbrev tileRows (t : ℕ) : ℕ := if t < 32 then t % 8 else 8

theorem idx : ∀ t : Fin cfg0.N, win0_0.index t = ![t.val, 0] ∧ win0_1.index t = ![0, tileSeq t.val, 0, 0] ∧ win0_2.index t = ![1, tileSeq t.val, 0, 0]
    ∧ win0_3.index t = ![0, 0] ∧ win0_4.index t = ![0, 0] ∧ win0_5.index t = ![0, 0] ∧ win0_6.index t = ![0, 0]
    ∧ win0_7.index t = ![tileRows t.val, 0] ∧ win0_8.index t = ![tileRows t.val, 0] ∧ win0_9.index t = ![t.val, 0] ∧ t.val < 34 :=
  (by decide +kernel : ∀ t : Fin grid0.N, _)

theorem block0 (c : Dev nD) (t : Fin cfg0.N) (r : Fin 512) (d : Fin 1024) (R : Fin 17408) (hR : R.val = t.val * 512 + r.val) :
    iblk m c 0 t (ix2 r d) = V m c main_arg0 (ix2 R d) := by
  blk_ext [iblk, idx t]
theorem block1 (c : Dev nD) (t : Fin cfg0.N) (d : Fin 1024) (s : Fin 8) (hs : s.val = tileSeq t.val) :
    iblk m c 1 t (ix4 0 0 0 d) = V m c main_arg1 (ix4 0 s 0 d) := by
  blk_ext [iblk, idx t]
theorem block2 (c : Dev nD) (t : Fin cfg0.N) (d : Fin 1024) (s : Fin 8) (hs : s.val = tileSeq t.val) :
    iblk m c 2 t (ix4 0 0 0 d) = V m c main_arg1 (ix4 1 s 0 d) := by
  blk_ext [iblk, idx t]
theorem block3 (c : Dev nD) (t : Fin cfg0.N) (d : Fin 1024) : iblk m c 3 t (ix2 0 d) = V m c main_v42 (ix2 0 d) := by
  blk_ext [iblk, idx t]
theorem block4 (c : Dev nD) (t : Fin cfg0.N) (d : Fin 1024) (j : Fin 1536) : iblk m c 4 t (ix2 d j) = V m c main_v44 (ix2 d j) := by
  blk_ext [iblk, idx t]
theorem block5 (c : Dev nD) (t : Fin cfg0.N) (j : Fin 1280) : iblk m c 5 t (ix2 0 j) = V m c main_v9 (ix2 0 j) := by
  blk_ext [iblk, idx t]
theorem block6 (c : Dev nD) (t : Fin cfg0.N) (k l : Fin 128) : iblk m c 6 t (ix2 k l) = V m c main_cst (ix2 k l) := by
  blk_ext [iblk, idx t]
theorem block7 (c : Dev nD) (t : Fin cfg0.N) (r : Fin 512) (l : Fin 128) (p : Fin 4608) (hp : p.val = tileRows t.val * 512 + r.val) :
    iblk m c 7 t (ix2 r l) = V m c main_v37 (ix2 p l) := by
  blk_ext [iblk, idx t]
theorem block8 (c : Dev nD) (t : Fin cfg0.N) (r : Fin 512) (l : Fin 128) (p : Fin 4608) (hp : p.val = tileRows t.val * 512 + r.val) :
    iblk m c 8 t (ix2 r l) = V m c main_v39 (ix2 p l) := by
  blk_ext [iblk, idx t]

/-- The queries, keys and values over the launch's arguments. -/
abbrev result (c : Dev nD) (R : Fin 17408) (j : Fin 1536) : EReal :=
  resultAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) R j

/-- The launch's arguments meet the precondition. -/
abbrev Finite (c : Dev nD) : Prop :=
  Cert.Pre_finite_projection.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) = fun _ => 1#1

/-- Row `R` of the launch's array, projected. -/
abbrev rowOf (c : Dev nD) (R : Fin 17408) : Fin 1536 → EReal :=
  rowProjected (m ((c : Thread nD τ).loc main_arg0)) (m ((c : Thread nD τ).loc main_arg1)) (m ((c : Thread nD τ).loc main_arg2))
    (m ((c : Thread nD τ).loc main_arg3)) R (streamOf R)

/-- Row `R`'s rotation. -/
abbrev turnOf (c : Dev nD) (R : Fin 17408) : (Fin 64 → EReal) → Fin 64 → EReal :=
  if R.val < 16384 then rotated (table (m ((c : Thread nD τ).loc main_arg6)) ⟨R.val % 4096, by omega⟩) (table (m ((c : Thread nD τ).loc main_arg7)) ⟨R.val % 4096, by omega⟩) else id

theorem stream_tile (t : ℕ) (ht : t < 34) (r : Fin 512) (R : Fin 17408) (hR : R.val = t * 512 + r.val) : (streamOf R).val = tileSeq t := by
  have hr := r.isLt
  unfold streamOf tileSeq
  by_cases h : t < 32
  · rw [if_pos h, if_pos (by omega)]; show R.val / 4096 = _; omega
  · rw [if_neg h, if_neg (by omega)]; rfl

/-- A projected row is real under the precondition. -/
theorem row_real (c : Dev nD) (hf : Finite m c) (R : Fin 17408) (j : Fin 1536) : ∃ x : ℝ, rowOf m c R j = x := by
  have hR := R.isLt
  have s5 : (streamOf R).val < 5 := by
    unfold streamOf
    by_cases h : R.val < 16384
    · rw [if_pos h]; show R.val / 4096 < 5; omega
    · rw [if_neg h]; decide
  exact real_projected _ _ _ _ _ (fun d => real_gain _ _ _ _ _ _ _ _ hf d) (fun d => real_mods _ _ _ _ _ _ _ _ hf 0 ⟨(streamOf R).val, s5⟩ d)
    (fun d => real_mods _ _ _ _ _ _ _ _ hf 1 ⟨(streamOf R).val, s5⟩ d) (fun d j => real_weight _ _ _ _ _ _ _ _ hf d j) j

/-- The block's rows, projected, are the array's. -/
theorem row_block (c : Dev nD) (t : Fin cfg0.N) (r : Fin 512) (j : Fin 1536) (R : Fin 17408) (hR : R.val = t.val * 512 + r.val) :
    k0_pay4 (F := Ideal) (iblk m c 0 t) (iblk m c 3 t) (iblk m c 1 t) (iblk m c 2 t) (iblk m c 4 t) (ix2 r j) = rowOf m c R j := by
  have ht : t.val < 34 := (idx t).2.2.2.2.2.2.2.2.2.2
  have hs := stream_tile t.val ht r R hR
  refine (projected_apply _ _ _ _ _ r j).trans ?_
  have e0 := funext fun d => (block0 m c t r d R hR).trans (congrFun (V_main_arg0 m c) _)
  have e1 := funext fun d => (block1 m c t d (streamOf R) hs).trans (congrFun (V_main_arg1 m c) _)
  have e2 := funext fun d => (block2 m c t d (streamOf R) hs).trans (congrFun (V_main_arg1 m c) _)
  have e3 := funext fun d => (block3 m c t d).trans (gainArray m c d)
  have e4 := funext fun d => funext fun j => (block4 m c t d j).trans (weightArray m c d j)
  refine congrFun ?_ j
  refine congrArg₂ projected ?_ e4
  exact modulated_congr e0 e3 e1 e2

/-- The block's rows of the tables rotate as the array's row says. -/
theorem turn_block (c : Dev nD) (t : Fin cfg0.N) (r : Fin 512) (R : Fin 17408) (hR : R.val = t.val * 512 + r.val) (y : Fin 64 → EReal) (l : Fin 128) :
    y ⟨l.val % 64, by omega⟩ * k0_pay8 (F := Ideal) (iblk m c 7 t) (ix2 r l)
      + (if h : l.val % 32 < 16 then y ⟨l.val % 64 + 16, by omega⟩ else y ⟨l.val % 64 - 16, by omega⟩) * k0_pay9 (F := Ideal) (iblk m c 8 t) (ix2 r l)
      = turnOf m c R y ⟨l.val % 64, by omega⟩ := by
  have ht : t.val < 34 := (idx t).2.2.2.2.2.2.2.2.2.2
  have hr := r.isLt
  have bound : tileRows t.val * 512 + r.val < 4608 := by
    unfold tileRows
    by_cases h : t.val < 32
    · rw [if_pos h]; omega
    · rw [if_neg h]; omega
  have e7 := (cosines_apply (iblk m c 7 t) r l).trans ((block7 m c t r l ⟨tileRows t.val * 512 + r.val, bound⟩ rfl).trans (cosArray m c _ l))
  have e8 := (sines_apply (iblk m c 8 t) r l).trans ((block8 m c t r l ⟨tileRows t.val * 512 + r.val, bound⟩ rfl).trans (sinArray m c _ l))
  rw [e7, e8]
  unfold turnOf
  by_cases h : t.val < 32
  · rw [if_pos (by omega)]
    have hp : tileRows t.val * 512 + r.val < 4096 := by unfold tileRows; rw [if_pos h]; omega
    have q : (⟨tileRows t.val * 512 + r.val, hp⟩ : Fin 4096) = ⟨R.val % 4096, by omega⟩ := Fin.ext (by
      show tileRows t.val * 512 + r.val = R.val % 4096
      unfold tileRows
      rw [if_pos h]
      omega)
    refine (turn_latent _ _ _ hp y l).trans ?_
    rw [q]
  · rw [if_neg (by omega)]
    exact turn_context _ _ _ (by show ¬ tileRows t.val * 512 + r.val < 4096; unfold tileRows; rw [if_neg h]; omega) y l

/-- What a grid point leaves at a row and a column of its block. -/
theorem point (c : Dev nD) (hf : Finite m c) (t : Fin cfg0.N) (r : Fin 512) (j : Fin 1536) :
    out0_9 (iblk m c 0 t) (iblk m c 1 t) (iblk m c 2 t) (iblk m c 3 t) (iblk m c 4 t) (iblk m c 5 t) (iblk m c 6 t) (iblk m c 7 t) (iblk m c 8 t) (ix2 r j)
      = result m c (⟨t.val * 512 + r.val, by have := (idx t).2.2.2.2.2.2.2.2.2.2; omega⟩ : Fin 17408) j := by
  have ht : t.val < 34 := (idx t).2.2.2.2.2.2.2.2.2.2
  refine (congrFun (out_eq _ _ _ _ _ _ _ _ _) _).trans ?_
  exact columns_entry _ _ _ _ _ (iblk m c 5 t) (fun r => rowOf m c ⟨t.val * 512 + r.val, by omega⟩)
    (fun e => m ((c : Thread nD τ).loc main_arg4) (ix2 0 e)) (fun e => m ((c : Thread nD τ).loc main_arg5) (ix2 0 e))
    (fun r => turnOf m c ⟨t.val * 512 + r.val, by omega⟩)
    (fun r j => row_block m c t r j _ rfl) (fun r j => row_real m c hf _ j) mask_apply
    (fun k l => (block6 m c t k l).trans (headMask m c k l))
    (fun r y l => turn_block m c t r _ rfl y l)
    (fun j => (block5 m c t j).trans (headGains m c j)) r j

/-- The call leaves the queries, keys and values of its arguments. -/
theorem final (c : Dev nD) (hf : Finite m c) : (dats m 0 c).arrAt 9 (cfgs 0).N = fun i => result m c (i 0) (i 1) := by
  refine (dats m 0 c).arrAt_eq_of_covers 9 _ (by decide +kernel) fun t hflush y => ?_
  blk_simp
  rw [after0_9]
  revert y
  show ∀ y : S512x1536.Idx, out0_9 (iblk m c 0 t) (iblk m c 1 t) (iblk m c 2 t) (iblk m c 3 t) (iblk m c 4 t) (iblk m c 5 t) (iblk m c 6 t) (iblk m c 7 t) (iblk m c 8 t) y = _
  intro y
  idx_vars y
  refine (point m c hf t y0 y1).trans ?_
  refine congrArg₂ (result m c) (Fin.ext ?_) (Fin.ext ?_)
  · blk_simp [idx t]
  · blk_simp [idx t]

end Cert.QkvIdeal.Value
end
-- ==== Proof.lean ====
/- Six calls of the trunk and what the problem computes in their place, the projection to queries, keys and values, the
   attention, its output projection, the experts, the dense feed-forward layer and the chunk mixer: the frames, the idealisation, and the one function that both sides of each pair compute. -/
module

public import proofs.«01_k».proof.Defs
public import proofs.«01_k».proof.Proof.Gen.Moe.Launch
public import proofs.«01_k».proof.Proof.Gen.MoeIdeal.Skeleton
public import proofs.«01_k».proof.Proof.Gen.MoeIdeal.Launch
public import proofs.«01_k».proof.Proof.Gen.MoeReferenceIdeal
public import proofs.«01_k».proof.Proof.Gen.MoeReferenceIdeal.Run
public import proofs.«01_k».proof.Proof.Gen.MoeReferenceIdeal.Read
public import proofs.«01_k».proof.Proof.ExpertsIdeal.Frame
public import proofs.«01_k».proof.Proof.ExpertsIdeal.Bounds
public import proofs.«01_k».proof.Proof.ExpertsIdeal.Domain
public import proofs.«01_k».proof.Proof.Gen.Moe
public import proofs.«01_k».proof.Proof.Gen.MoeIdeal
public import proofs.«01_k».proof.Proof.Gen.Pre_experts_in_range
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite_queries_and_keys
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Gmlp
public import proofs.«01_k».proof.Proof.Gen.Gmlp.Skeleton
public import proofs.«01_k».proof.Proof.Gen.Gmlp.Launch
public import proofs.«01_k».proof.Proof.Gen.Gmlp.Points
public import proofs.«01_k».proof.Proof.Gen.Gmlp.Frame
public import proofs.«01_k».proof.Proof.Gen.GmlpIdeal
public import proofs.«01_k».proof.Proof.Gen.GmlpIdeal.Skeleton
public import proofs.«01_k».proof.Proof.Gen.GmlpIdeal.Launch
public import proofs.«01_k».proof.Proof.Gen.GmlpIdeal.Points
public import proofs.«01_k».proof.Proof.Gen.GmlpIdeal.Frame
public import proofs.«01_k».proof.Proof.Gen.GmlpIdeal.Value
public import proofs.«01_k».proof.Proof.Gen.GmlpReferenceIdeal
public import proofs.«01_k».proof.Proof.Gen.GmlpReferenceIdeal.Run
public import proofs.«01_k».proof.Proof.Gen.GmlpReferenceIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvReferenceIdeal
public import proofs.«01_k».proof.Proof.Gen.QkvReferenceIdeal.Run
public import proofs.«01_k».proof.Proof.Gen.QkvReferenceIdeal.Read
public import proofs.«01_k».proof.Proof.Gen.Pre_finite_projection
public import proofs.«01_k».proof.Proof.Equation
public import proofs.«01_k».proof.Proof.FfnIdeal.Value
public import proofs.«01_k».proof.Proof.GmlpIdeal.Value
public import proofs.«01_k».proof.Proof.ProjIdeal.Value
public import proofs.«01_k».proof.Proof.QkvIdeal.Launch
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and keeps its argument; it declares no semaphore. -/
theorem attention_reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The attention call leaves the reference's result. -/
theorem attention_value : algebraic_KernelIdeal_ReferenceIdeal_pre_finite_queries_and_keys := by
  pair_intro
  · run_from Cert.KernelIdeal.Value.run_blocks m g
  · run_from Cert.ReferenceIdeal.Value.run (F := Ideal) m' g'
    refine (Cert.ReferenceIdeal.Read.val_main_v33_eq m' _).trans ?_
    rw [hagree]
    refine Eq.trans ?_ (Cert.KernelIdeal.Value.final m _).symm
    funext i
    rw [eq_ix2 i]
    exact (Cert.Attention.attention_eq _ (hpre _) (i 0) (i 1)).symm

/-- The experts' call runs, keeps its arguments and leaves every counter at zero, where every tile's expert is one of
    the sixteen. -/
theorem experts_frame : quiescent_Moe := fun m ρ hpre => by
  rw [Cert.MoeIdeal.Tiles.run_eq]
  exact Cert.MoeIdeal.Tiles.frame (F := Bits) m ρ (Cert.MoeIdeal.Tiles.ok_domain (F := Bits) hpre)

theorem experts_frame_ideal : quiescent_MoeIdeal := fun m ρ hpre =>
  Cert.MoeIdeal.Tiles.frame (F := Ideal) m ρ (Cert.MoeIdeal.Tiles.ok_domain hpre)

theorem experts_reference_frame : quiescent_MoeReferenceIdeal := fun m ρ _ =>
  (θ_run Cert.MoeReferenceIdeal.defs _ _).mono (fun r h => ⟨fun c => (h c).2, sem_eq_zero_of_no_sems (by decide) r.2⟩)
    (Cert.MoeReferenceIdeal.Value.run (F := Ideal) m ρ)

/-- The experts' call leaves the reference's result. -/
theorem experts_value : algebraic_MoeIdeal_MoeReferenceIdeal := by
  pair_intro
  · exact Cert.MoeIdeal.Tiles.run_value m g (Cert.MoeIdeal.Tiles.ok_domain hpre) (Cert.MoeIdeal.Tiles.tbl_lt hpre)
  · refine θ_run_mono (Cert.MoeReferenceIdeal.Value.run (F := Ideal) m' g') fun r h c => ⟨(h c).1.trans ?_, (h c).2⟩
    obtain rfl : c = 0 := Subsingleton.elim _ _
    obtain ⟨h0, h1, h2, h3, h4, h5, h6, h7⟩ := hagree 0
    refine (Cert.MoeReferenceIdeal.Read.val_main_v316_eq _).trans ?_
    funext i
    rw [eq_ix2 i]
    show Cert.MoeReferenceIdeal.Read.val_main_v316 (m' ((0 : Dev Cert.MoeReferenceIdeal.nD).tc.loc Cert.MoeReferenceIdeal.main_arg0)) (m' ((0 : Dev Cert.MoeReferenceIdeal.nD).tc.loc Cert.MoeReferenceIdeal.main_arg1))
      (m' ((0 : Dev Cert.MoeReferenceIdeal.nD).tc.loc Cert.MoeReferenceIdeal.main_arg2)) (m' ((0 : Dev Cert.MoeReferenceIdeal.nD).tc.loc Cert.MoeReferenceIdeal.main_arg3))
      (m' ((0 : Dev Cert.MoeReferenceIdeal.nD).tc.loc Cert.MoeReferenceIdeal.main_arg4)) (m' ((0 : Dev Cert.MoeReferenceIdeal.nD).tc.loc Cert.MoeReferenceIdeal.main_arg5))
      (m' ((0 : Dev Cert.MoeReferenceIdeal.nD).tc.loc Cert.MoeReferenceIdeal.main_arg6)) (m' ((0 : Dev Cert.MoeReferenceIdeal.nD).tc.loc Cert.MoeReferenceIdeal.main_arg7)) _ = _
    rw [h0, h1, h2, h3, h4, h5, h6, h7]
    exact Cert.MoeReferenceIdeal.Sparse.result_apply _ _ _ _ _ _ _ _ (i 0) (i 1) (Cert.MoeIdeal.Tiles.expert m (Cert.MoeIdeal.Tiles.tbl_lt hpre) (i 0))
      (Cert.MoeIdeal.Tiles.expert_eq m (Cert.MoeIdeal.Tiles.tbl_lt hpre) (i 0))

theorem dense_reference_frame : quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The feed-forward call leaves the reference's result. -/
theorem dense_value : algebraic_FfnIdeal_FfnReferenceIdeal := by
  pair_intro
  · run_from Cert.FfnIdeal.Value.run_blocks m g
  · refine θ_run_mono (Cert.FfnReferenceIdeal.Value.run (F := Ideal) m' g') fun r h c => ⟨(h c).1.trans ?_, (h c).2⟩
    obtain rfl : c = 0 := Subsingleton.elim _ _
    obtain ⟨h0, h1, h2, h3, h4, h5⟩ := hagree 0
    refine (Cert.FfnReferenceIdeal.Read.val_main_v88_eq _ _).trans ?_
    refine Eq.trans ?_ (Cert.FfnIdeal.Value.final m 0).symm
    funext i
    rw [eq_ix2 i]
    show Cert.FfnReferenceIdeal.Read.val_main_v88 (m' ((0 : Dev Cert.FfnReferenceIdeal.nD).tc.loc Cert.FfnReferenceIdeal.main_arg0)) (m' ((0 : Dev Cert.FfnReferenceIdeal.nD).tc.loc Cert.FfnReferenceIdeal.main_arg1))
      (m' ((0 : Dev Cert.FfnReferenceIdeal.nD).tc.loc Cert.FfnReferenceIdeal.main_arg2)) (m' ((0 : Dev Cert.FfnReferenceIdeal.nD).tc.loc Cert.FfnReferenceIdeal.main_arg3))
      (m' ((0 : Dev Cert.FfnReferenceIdeal.nD).tc.loc Cert.FfnReferenceIdeal.main_arg4)) (m' ((0 : Dev Cert.FfnReferenceIdeal.nD).tc.loc Cert.FfnReferenceIdeal.main_arg5)) _ = _
    rw [h0, h1, h2, h3, h4, h5]
    exact Cert.FfnReferenceIdeal.Dense.result_apply _ _ _ _ _ _ (i 0) (i 1)

theorem mixer_reference_frame : quiescent_GmlpReferenceIdeal := fun m ρ _ =>
  (θ_run Cert.GmlpReferenceIdeal.defs _ _).mono (fun r h => ⟨fun c => (h c).2, sem_eq_zero_of_no_sems (by decide) r.2⟩)
    (Cert.GmlpReferenceIdeal.Value.run (F := Ideal) m ρ)

/-- The two constants that the ideal mixer call takes exactly round to the words of the call. -/
theorem mixer_preserves : preserves_Gmlp_GmlpIdeal :=
  ⟨IdealRules.named_const.statement Cert.GmlpIdeal.κ "cubic" .f32 0xBDD2D3E8#32 _ rfl,
   IdealRules.named_const.statement Cert.GmlpIdeal.κ "rate" .f32 0xC0135761#32 _ rfl⟩

/-- The mixer call leaves the reference's result. -/
theorem mixer_value : algebraic_GmlpIdeal_GmlpReferenceIdeal := by
  pair_intro
  · run_from Cert.GmlpIdeal.Value.run_blocks m g
  · refine θ_run_mono (Cert.GmlpReferenceIdeal.Value.run (F := Ideal) m' g') fun r h c => ⟨(h c).1.trans ?_, (h c).2⟩
    obtain rfl : c = 0 := Subsingleton.elim _ _
    obtain ⟨h0, h1, h2, h3, h4, h5, h6, h7, h8⟩ := hagree 0
    refine (Cert.GmlpReferenceIdeal.Read.val_main_v164_eq _).trans ?_
    refine Eq.trans ?_ (Cert.GmlpIdeal.Value.final m 0).symm
    funext i
    rw [eq_ix2 i]
    show Cert.GmlpReferenceIdeal.Read.val_main_v164 (m' ((0 : Dev Cert.GmlpReferenceIdeal.nD).tc.loc Cert.GmlpReferenceIdeal.main_arg0)) (m' ((0 : Dev Cert.GmlpReferenceIdeal.nD).tc.loc Cert.GmlpReferenceIdeal.main_arg1))
      (m' ((0 : Dev Cert.GmlpReferenceIdeal.nD).tc.loc Cert.GmlpReferenceIdeal.main_arg2)) (m' ((0 : Dev Cert.GmlpReferenceIdeal.nD).tc.loc Cert.GmlpReferenceIdeal.main_arg3))
      (m' ((0 : Dev Cert.GmlpReferenceIdeal.nD).tc.loc Cert.GmlpReferenceIdeal.main_arg4)) (m' ((0 : Dev Cert.GmlpReferenceIdeal.nD).tc.loc Cert.GmlpReferenceIdeal.main_arg5))
      (m' ((0 : Dev Cert.GmlpReferenceIdeal.nD).tc.loc Cert.GmlpReferenceIdeal.main_arg6)) (m' ((0 : Dev Cert.GmlpReferenceIdeal.nD).tc.loc Cert.GmlpReferenceIdeal.main_arg7)) (m' ((0 : Dev Cert.GmlpReferenceIdeal.nD).tc.loc Cert.GmlpReferenceIdeal.main_arg8)) _ = _
    rw [h0, h1, h2, h3, h4, h5, h6, h7, h8]
    exact Cert.GmlpReferenceIdeal.Mixer.result_apply _ _ _ _ _ _ _ _ _ (i 0) (i 1)

theorem projection_reference_frame : quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

/-- The output projection's call leaves the reference's result. -/
theorem projection_value : algebraic_ProjIdeal_ProjReferenceIdeal := by
  pair_intro
  · run_from Cert.ProjIdeal.Value.run_blocks m g
  · refine θ_run_mono (Cert.ProjReferenceIdeal.Value.run (F := Ideal) m' g') fun r h c => ⟨(h c).1.trans ?_, (h c).2⟩
    obtain rfl : c = 0 := Subsingleton.elim _ _
    obtain ⟨h0, h1, h2, h3⟩ := hagree 0
    refine (Cert.ProjReferenceIdeal.Read.val_main_v12_eq _ _ _ _).trans ?_
    refine Eq.trans ?_ (Cert.ProjIdeal.Value.final m 0).symm
    funext i
    rw [eq_ix2 i]
    show Cert.ProjReferenceIdeal.Read.val_main_v12 (m' ((0 : Dev Cert.ProjReferenceIdeal.nD).tc.loc Cert.ProjReferenceIdeal.main_arg0)) (m' ((0 : Dev Cert.ProjReferenceIdeal.nD).tc.loc Cert.ProjReferenceIdeal.main_arg1))
      (m' ((0 : Dev Cert.ProjReferenceIdeal.nD).tc.loc Cert.ProjReferenceIdeal.main_arg2)) (m' ((0 : Dev Cert.ProjReferenceIdeal.nD).tc.loc Cert.ProjReferenceIdeal.main_arg3)) _ = _
    rw [h0, h1, h2, h3]
    exact Cert.ProjReferenceIdeal.Projection.result_apply _ _ _ _ (i 0) (i 1)

theorem queries_reference_frame : quiescent_QkvReferenceIdeal := fun m ρ _ =>
  (θ_run Cert.QkvReferenceIdeal.defs _ _).mono (fun r h => ⟨fun c => (h c).2, sem_eq_zero_of_no_sems (by decide) r.2⟩)
    (Cert.QkvReferenceIdeal.Value.run (F := Ideal) m ρ)

/-- The constant that the ideal projection call takes exactly rounds to the word of the call. -/
theorem queries_preserves : preserves_Qkv_QkvIdeal :=
  IdealRules.named_const.statement Cert.QkvIdeal.κ "query" .f32 0x3E38AA3B#32 _ rfl

/-- The call that projects to queries, keys and values leaves the reference's result. -/
theorem queries_value : algebraic_QkvIdeal_QkvReferenceIdeal_pre_finite_projection := by
  pair_intro
  · run_from Cert.QkvIdeal.Value.run_blocks m g
  · refine θ_run_mono (Cert.QkvReferenceIdeal.Value.run (F := Ideal) m' g') fun r h c => ⟨(h c).1.trans ?_, (h c).2⟩
    obtain rfl : c = 0 := Subsingleton.elim _ _
    obtain ⟨h0, h1, h2, h3, h4, h5, h6, h7⟩ := hagree 0
    refine (Cert.QkvReferenceIdeal.Read.val_main_v217_eq _).trans ?_
    refine Eq.trans ?_ (Cert.QkvIdeal.Value.final m 0 (hpre 0)).symm
    funext i
    rw [eq_ix2 i]
    show Cert.QkvReferenceIdeal.Read.val_main_v217 (m' ((0 : Dev Cert.QkvReferenceIdeal.nD).tc.loc Cert.QkvReferenceIdeal.main_arg0)) (m' ((0 : Dev Cert.QkvReferenceIdeal.nD).tc.loc Cert.QkvReferenceIdeal.main_arg1))
      (m' ((0 : Dev Cert.QkvReferenceIdeal.nD).tc.loc Cert.QkvReferenceIdeal.main_arg2)) (m' ((0 : Dev Cert.QkvReferenceIdeal.nD).tc.loc Cert.QkvReferenceIdeal.main_arg3))
      (m' ((0 : Dev Cert.QkvReferenceIdeal.nD).tc.loc Cert.QkvReferenceIdeal.main_arg4)) (m' ((0 : Dev Cert.QkvReferenceIdeal.nD).tc.loc Cert.QkvReferenceIdeal.main_arg5))
      (m' ((0 : Dev Cert.QkvReferenceIdeal.nD).tc.loc Cert.QkvReferenceIdeal.main_arg6)) (m' ((0 : Dev Cert.QkvReferenceIdeal.nD).tc.loc Cert.QkvReferenceIdeal.main_arg7)) _ = _
    rw [h0, h1, h2, h3, h4, h5, h6, h7]
    exact Cert.QkvReferenceIdeal.Queries.result_apply _ _ _ _ _ _ _ _ (i 0) (i 1)

theorem claim : Cert.Claim := ⟨Cert.Kernel.Gen.facts, Cert.KernelIdeal.Gen.facts, Cert.ReferenceIdeal.Gen.facts,
  Cert.Moe.Gen.facts, Cert.MoeIdeal.Gen.facts, Cert.MoeReferenceIdeal.Gen.facts,
  Cert.Ffn.Gen.facts, Cert.FfnIdeal.Gen.facts, Cert.FfnReferenceIdeal.Gen.facts,
  Cert.Gmlp.Gen.facts, Cert.GmlpIdeal.Gen.facts, Cert.GmlpReferenceIdeal.Gen.facts,
  Cert.Proj.Gen.facts, Cert.ProjIdeal.Gen.facts, Cert.ProjReferenceIdeal.Gen.facts,
  Cert.Qkv.Gen.facts, Cert.QkvIdeal.Gen.facts, Cert.QkvReferenceIdeal.Gen.facts,
  Cert.Pre_finite_queries_and_keys.Gen.facts, Cert.Pre_experts_in_range.Gen.facts, Cert.Pre_finite_projection.Gen.facts,
  fun m ρ _ => Cert.Kernel.Gen.frame m ρ, fun m ρ _ => Cert.KernelIdeal.Gen.frame m ρ,
  fun m ρ _ => Cert.KernelIdeal.Gen.frame m ρ, attention_reference_frame, fun m ρ _ => attention_reference_frame m ρ trivial,
  experts_frame, experts_frame_ideal, experts_reference_frame, fun m ρ _ => experts_reference_frame m ρ trivial,
  fun m ρ _ => Cert.Ffn.Gen.frame m ρ, fun m ρ _ => Cert.FfnIdeal.Gen.frame m ρ, dense_reference_frame,
  fun m ρ _ => Cert.Gmlp.Gen.frame m ρ, fun m ρ _ => Cert.GmlpIdeal.Gen.frame m ρ, mixer_reference_frame,
  fun m ρ _ => Cert.Proj.Gen.frame m ρ, fun m ρ _ => Cert.ProjIdeal.Gen.frame m ρ, projection_reference_frame,
  fun m ρ _ => Cert.Qkv.Gen.frame m ρ, fun m ρ _ => Cert.QkvIdeal.Gen.frame m ρ, fun m ρ _ => Cert.QkvIdeal.Gen.frame m ρ,
  queries_reference_frame, fun m ρ _ => queries_reference_frame m ρ trivial,
  trivial, attention_value, trivial, experts_value, trivial, dense_value, mixer_preserves, mixer_value, trivial, projection_value,
  queries_preserves, queries_value⟩

end Cert.Proof

end
